-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "sm_log2e" .f32 0x3E0293EE#32 (((Real.sqrt 128)⁻¹ * (Real.log 2)⁻¹ : ℝ) : EReal)

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_v152) = v3 c
          ∧ r.2.mem ((c.tc : Thread Cert.ReferenceIdeal.nD Cert.ReferenceIdeal.τ).loc Cert.ReferenceIdeal.main_v154) = v4 c
          ∧ r.2.mem ((c.tc : Thread Cert.ReferenceIdeal.nD Cert.ReferenceIdeal.τ).loc Cert.ReferenceIdeal.main_v156) = v5 c
          ∧ r.2.mem ((c.tc : Thread Cert.ReferenceIdeal.nD Cert.ReferenceIdeal.τ).loc Cert.ReferenceIdeal.main_v157) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S8x4096x2048 : Shape := ⟨3, ![8, 4096, 2048]⟩
abbrev S_ : Shape := ⟨0, ![]⟩

class Facts : Prop where
  bitsLt_bf16_f32 : FTy.bits .bf16 < FTy.bits .f32
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel

variable [Facts]

def fn {F : FTy → Type} [FloatOps F] (main_arg0 : FVec F S8x4096x2048 .bf16) (main_arg1 : FVec F S8x4096x2048 .bf16) (main_arg2 : FVec F S8x4096x2048 .bf16) : IVec S_ 1 :=
  let main_v0 : FVec F S8x4096x2048 .f32 := (extf .f32 · bitsLt_bf16_f32) main_arg0
  let main_v1 : FVec F S8x4096x2048 .f32 := Host.absf main_v0
  let main_cst : FVec F S_ .f32 := constant S_ .f32 0x7F7F0000#32
  let main_v2 : FVec F S8x4096x2048 .f32 := broadcastInDim S8x4096x2048 ![] bcast_S_S8x4096x2048 main_cst
  let main_v3 : IVec S8x4096x2048 1 := cmpf .ole main_v1 main_v2
  let main_c : IVec S_ 1 := constantI S_ 1 1#1
  let main_v4 : IVec S_ 1 := (fun x v => Host.reduce IntOp.andi x v reducesTo_S8x4096x2048_S_d0_1_2 h_S_) main_v3 main_c
  let main_v5 : FVec F S8x4096x2048 .f32 := (extf .f32 · bitsLt_bf16_f32) main_arg1
  let main_v6 : FVec F S8x4096x2048 .f32 := Host.absf main_v5
  let main_cst_0 : FVec F S_ .f32 := constant S_ .f32 0x7F7F0000#32
  let main_v7 : FVec F S8x4096x2048 .f32 := broadcastInDim S8x4096x2048 ![] bcast_S_S8x4096x2048 main_cst_0
  let main_v8 : IVec S8x4096x2048 1 := cmpf .ole main_v6 main_v7
  let main_c_1 : IVec S_ 1 := constantI S_ 1 1#1
  let main_v9 : IVec S_ 1 := (fun x v => Host.reduce IntOp.andi x v reducesTo_S8x4096x2048_S_d0_1_2 h_S_) main_v8 main_c_1
  let main_v10 : IVec S_ 1 := andi main_v4 main_v9
  let main_v11 : FVec F S8x4096x2048 .f32 := (extf .f32 · bitsLt_bf16_f32) main_arg2
  let main_v12 : FVec F S8x4096x2048 .f32 := Host.absf main_v11
  let main_cst_2 : FVec F S_ .f32 := constant S_ .f32 0x7F7F0000#32
  let main_v13 : FVec F S8x4096x2048 .f32 := broadcastInDim S8x4096x2048 ![] bcast_S_S8x4096x2048 main_cst_2
  let main_v14 : IVec S8x4096x2048 1 := cmpf .ole main_v12 main_v13
  let main_c_3 : IVec S_ 1 := constantI S_ 1 1#1
  let main_v15 : IVec S_ 1 := (fun x v => Host.reduce IntOp.andi x v reducesTo_S8x4096x2048_S_d0_1_2 h_S_) main_v14 main_c_3
  let main_v16 : IVec S_ 1 := andi main_v10 main_v15
  main_v16
-- ==== Kernel.lean ====
abbrev S8x4096x2048 : Shape := ⟨3, ![8, 4096, 2048]⟩
abbrev S8x16x32 : Shape := ⟨3, ![8, 16, 32]⟩
abbrev S8x16 : Shape := ⟨2, ![8, 16]⟩
abbrev S1x4096x128 : Shape := ⟨3, ![1, 4096, 128]⟩
abbrev S1x16x32 : Shape := ⟨3, ![1, 16, 32]⟩
abbrev S128x4096 : Shape := ⟨2, ![128, 4096]⟩
abbrev S32x128 : Shape := ⟨2, ![32, 128]⟩
abbrev S4096x256 : Shape := ⟨2, ![4096, 256]⟩
abbrev S16x256 : Shape := ⟨2, ![16, 256]⟩
abbrev S1x128 : Shape := ⟨2, ![1, 128]⟩
abbrev S1x256x128 : Shape := ⟨3, ![1, 256, 128]⟩
abbrev S256x128 : Shape := ⟨2, ![256, 128]⟩
abbrev S128 : Shape := ⟨1, ![128]⟩
abbrev S1x128x128 : Shape := ⟨3, ![1, 128, 128]⟩
abbrev S128x128 : Shape := ⟨2, ![128, 128]⟩
abbrev S1 : Shape := ⟨1, ![1]⟩
abbrev S1x1 : Shape := ⟨2, ![1, 1]⟩
abbrev S256x1 : Shape := ⟨2, ![256, 1]⟩
abbrev S128x32 : Shape := ⟨2, ![128, 32]⟩
abbrev S1x32 : Shape := ⟨2, ![1, 32]⟩
abbrev S1x1x32 : Shape := ⟨3, ![1, 1, 32]⟩
abbrev S1x256 : Shape := ⟨2, ![1, 256]⟩
abbrev S256x256 : Shape := ⟨2, ![256, 256]⟩
abbrev S128x256 : Shape := ⟨2, ![128, 256]⟩
abbrev S256 : Shape := ⟨1, ![256]⟩

abbrev nBuf : Space → Nat
  | .hbm => 10
  | .vmem => 24
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x4096x2048, .bf16⟩
  | .hbm, ⟨3, _⟩ => ⟨S8x4096x2048, .bf16⟩
  | .hbm, ⟨4, _⟩ => ⟨S8x4096x2048, .fp8e4m3⟩
  | .hbm, ⟨5, _⟩ => ⟨S8x16x32, .f32⟩
  | .hbm, ⟨6, _⟩ => ⟨S8x4096x2048, .fp8e4m3⟩
  | .hbm, ⟨7, _⟩ => ⟨S8x16x32, .f32⟩
  | .hbm, ⟨8, _⟩ => ⟨S8x4096x2048, .fp8e4m3⟩
  | .hbm, ⟨9, _⟩ => ⟨S8x16, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .fp8e4m3⟩
  | .local _ .vmem, ⟨9, _⟩ => ⟨S1x4096x128, .fp8e4m3⟩
  | .local _ .vmem, ⟨10, _⟩ => ⟨S1x16x32, .f32⟩
  | .local _ .vmem, ⟨11, _⟩ => ⟨S1x16x32, .f32⟩
  | .local _ .vmem, ⟨12, _⟩ => ⟨S1x4096x128, .fp8e4m3⟩
  | .local _ .vmem, ⟨13, _⟩ => ⟨S1x4096x128, .fp8e4m3⟩
  | .local _ .vmem, ⟨14, _⟩ => ⟨S1x16x32, .f32⟩
  | .local _ .vmem, ⟨15, _⟩ => ⟨S1x16x32, .f32⟩
  | .local _ .vmem, ⟨16, _⟩ => ⟨S1x4096x128, .fp8e4m3⟩
  | .local _ .vmem, ⟨17, _⟩ => ⟨S1x4096x128, .fp8e4m3⟩
  | .local _ .vmem, ⟨18, _⟩ => ⟨S8x16, .f32⟩
  | .local _ .vmem, ⟨19, _⟩ => ⟨S128x4096, .fp8e4m3⟩
  | .local _ .vmem, ⟨20, _⟩ => ⟨S32x128, .f32⟩
  | .local _ .vmem, ⟨21, _⟩ => ⟨S32x128, .f32⟩
  | .local _ .vmem, ⟨22, _⟩ => ⟨S4096x256, .f32⟩
  | .local _ .vmem, ⟨23, _⟩ => ⟨S16x256, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (k0_t1 : Fin k0_t1_loop.trips) : Fin 3 → Nat :=
  let c0_38 : Index := 0#32
  let c0_i32 : BitVec 32 := 0#32
  let c1_i32 : BitVec 32 := 1#32
  let arg17 : BitVec 32 := Scf.iv c0_i32 c1_i32 k0_t1
  let c256_i32 : BitVec 32 := 256#32
  let v75 : BitVec 32 := Scalar.muli arg17 c256_i32
  let v76 : Index := Scalar.indexCast v75
  let c0_39 : Index := 0#32
  ![0, v76.toNat, 0]
@[reducible] def k0_t2_loop : Scf.Loop 32 :=
  let c0_i32_3 : BitVec 32 := 0#32
  let c32_i32 : BitVec 32 := 32#32
  let v6 : BitVec 32 := Scalar.addi c0_i32_3 c32_i32
  let c1_i32_4 : BitVec 32 := 1#32
  ⟨c0_i32_3, v6, c1_i32_4⟩
def k0_off2 (k0_t2 : Fin k0_t2_loop.trips) : Fin 3 → Nat :=
  let c0_38 : Index := 0#32
  let c0_i32_3 : BitVec 32 := 0#32
  let c1_i32_4 : BitVec 32 := 1#32
  let arg17 : BitVec 32 := Scf.iv c0_i32_3 c1_i32_4 k0_t2
  let c128_i32 : BitVec 32 := 128#32
  let v75 : BitVec 32 := Scalar.muli arg17 c128_i32
  let v76 : Index := Scalar.indexCast v75
  let c0_39 : Index := 0#32
  ![0, v76.toNat, 0]
def k0_off3 (k0_t2 : Fin k0_t2_loop.trips) : Fin 2 → Nat :=
  let c0_i32_3 : BitVec 32 := 0#32
  let c1_i32_4 : BitVec 32 := 1#32
  let arg17 : BitVec 32 := Scf.iv c0_i32_3 c1_i32_4 k0_t2
  let v129 : Index := Scalar.indexCast arg17
  let c0_58 : Index := 0#32
  ![v129.toNat, 0]
@[reducible] def k0_t3_loop : Scf.Loop 32 :=
  let c0_i32_16 : BitVec 32 := 0#32
  let c32_i32_17 : BitVec 32 := 32#32
  let v41 : BitVec 32 := Scalar.addi c0_i32_16 c32_i32_17
  let c1_i32_18 : BitVec 32 := 1#32
  ⟨c0_i32_16, v41, c1_i32_18⟩
def k0_off4 (k0_t3 : Fin k0_t3_loop.trips) : Fin 3 → Nat :=
  let c0_38 : Index := 0#32
  let c0_i32_16 : BitVec 32 := 0#32
  let c1_i32_18 : BitVec 32 := 1#32
  let arg17 : BitVec 32 := Scf.iv c0_i32_16 c1_i32_18 k0_t3
  let c128_i32 : BitVec 32 := 128#32
  let v75 : BitVec 32 := Scalar.muli arg17 c128_i32
  let v76 : Index := Scalar.indexCast v75
  let c0_39 : Index := 0#32
  ![0, v76.toNat, 0]
def k0_off5 (k0_t3 : Fin k0_t3_loop.trips) : Fin 2 → Nat :=
  let c0_46 : Index := 0#32
  let c0_i32_16 : BitVec 32 := 0#32
  let c1_i32_18 : BitVec 32 := 1#32
  let arg17 : BitVec 32 := Scf.iv c0_i32_16 c1_i32_18 k0_t3
  let c128_i32 : BitVec 32 := 128#32
  let v75 : BitVec 32 := Scalar.muli arg17 c128_i32
  let v100 : Index := Scalar.indexCast v75
  ![0, v100.toNat]
def k0_off6 (i : grid0.Coords) : Fin 3 → Nat :=
  let c0_21 : Index := 0#32
  let arg1 : BitVec 32 := BitVec.ofNat 32 (i 1).val
  let v45 : Index := Scalar.indexCast arg1
  let c0_22 : Index := 0#32
  ![0, v45.toNat, 0]
@[reducible] def k0_t4_loop : Scf.Loop 32 :=
  let c0_i32_34 : BitVec 32 := 0#32
  let c16_i32_35 : BitVec 32 := 16#32
  let v74 : BitVec 32 := Scalar.addi c0_i32_34 c16_i32_35
  let c1_i32_36 : BitVec 32 := 1#32
  ⟨c0_i32_34, v74, c1_i32_36⟩
def k0_off7 (k0_t4 : Fin k0_t4_loop.trips) : Fin 3 → Nat :=
  let c0_38 : Index := 0#32
  let c0_i32_34 : BitVec 32 := 0#32
  let c1_i32_36 : BitVec 32 := 1#32
  let arg17 : BitVec 32 := Scf.iv c0_i32_34 c1_i32_36 k0_t4
  let c256_i32 : BitVec 32 := 256#32
  let v75 : BitVec 32 := Scalar.muli arg17 c256_i32
  let v76 : Index := Scalar.indexCast v75
  let c0_39 : Index := 0#32
  ![0, v76.toNat, 0]
def k0_off8 (k0_t4 : Fin k0_t4_loop.trips) : Fin 2 → Nat :=
  let c2_i32 : BitVec 32 := 2#32
  let c0_i32_34 : BitVec 32 := 0#32
  let c1_i32_36 : BitVec 32 := 1#32
  let arg17 : BitVec 32 := Scf.iv c0_i32_34 c1_i32_36 k0_t4
  let v79 : BitVec 32 := Scalar.muli c2_i32 arg17
  let v80 : Index := Scalar.indexCast v79
  let c0_40 : Index := 0#32
  ![v80.toNat, 0]
def k0_off9 (k0_t4 : Fin k0_t4_loop.trips) : Fin 2 → Nat :=
  let c2_i32_41 : BitVec 32 := 2#32
  let c0_i32_34 : BitVec 32 := 0#32
  let c1_i32_36 : BitVec 32 := 1#32
  let arg17 : BitVec 32 := Scf.iv c0_i32_34 c1_i32_36 k0_t4
  let v82 : BitVec 32 := Scalar.muli c2_i32_41 arg17
  let c1_i32_42 : BitVec 32 := 1#32
  let v83 : BitVec 32 := Scalar.addi v82 c1_i32_42
  let v84 : Index := Scalar.indexCast v83
  let c0_43 : Index := 0#32
  ![v84.toNat, 0]
@[reducible] def k0_t5_loop (k0_t4 : Fin k0_t4_loop.trips) : Scf.Loop 32 :=
  let c0_i32_47 : BitVec 32 := 0#32
  let c0_i32_34 : BitVec 32 := 0#32
  let c1_i32_36 : BitVec 32 := 1#32
  let arg17 : BitVec 32 := Scf.iv c0_i32_34 c1_i32_36 k0_t4
  let v91 : BitVec 32 := Scalar.subi arg17 c0_i32_47
  let c1_i32_48 : BitVec 32 := 1#32
  let v93 : BitVec 32 := Scalar.divsi v91 c1_i32_48
  let v94 : BitVec 32 := Scalar.muli v93 c1_i32_48
  let v95 : BitVec 32 := Scalar.addi c0_i32_47 v94
  let c1_i32_49 : BitVec 32 := 1#32
  ⟨c0_i32_47, v95, c1_i32_49⟩
def k0_mult1 (k0_t4 : Fin k0_t4_loop.trips) (k0_t5 : Fin (k0_t5_loop k0_t4).trips) : BitVec 32 :=
  let c0_i32_47 : BitVec 32 := 0#32
  let c1_i32_49 : BitVec 32 := 1#32
  let arg18 : BitVec 32 := Scf.iv c0_i32_47 c1_i32_49 k0_t5
  let c256_i32_87 : BitVec 32 := 256#32
  let v201 : BitVec 32 := Scalar.muli arg18 c256_i32_87
  v201
def k0_off10 (k0_t4 : Fin k0_t4_loop.trips) (k0_t5 : Fin (k0_t5_loop k0_t4).trips) : Fin 3 → Nat :=
  let c0_88 : Index := 0#32
  let c0_i32_47 : BitVec 32 := 0#32
  let c1_i32_49 : BitVec 32 := 1#32
  let arg18 : BitVec 32 := Scf.iv c0_i32_47 c1_i32_49 k0_t5
  let c256_i32_87 : BitVec 32 := 256#32
  let v201 : BitVec 32 := Scalar.muli arg18 c256_i32_87
  let v202 : BitVec 32 := v201
  let v203 : Index := Scalar.indexCast v202
  let c0_89 : Index := 0#32
  ![0, v203.toNat, 0]
def k0_off11 (k0_t4 : Fin k0_t4_loop.trips) (k0_t5 : Fin (k0_t5_loop k0_t4).trips) (c0_i32_92 : BitVec 32) : Fin 2 → Nat :=
  let c0_i32_47 : BitVec 32 := 0#32
  let c1_i32_49 : BitVec 32 := 1#32
  let arg18 : BitVec 32 := Scf.iv c0_i32_47 c1_i32_49 k0_t5
  let c2_i32_91 : BitVec 32 := 2#32
  let v207 : BitVec 32 := Scalar.muli arg18 c2_i32_91
  let v208 : BitVec 32 := Scalar.addi v207 c0_i32_92
  let v209 : Index := Scalar.indexCast v208
  let c0_93 : Index := 0#32
  ![v209.toNat, 0]
def k0_off12 (k0_t4 : Fin k0_t4_loop.trips) (k0_t5 : Fin (k0_t5_loop k0_t4).trips) : Fin 2 → Nat :=
  let c0_i32_47 : BitVec 32 := 0#32
  let c1_i32_49 : BitVec 32 := 1#32
  let arg18 : BitVec 32 := Scf.iv c0_i32_47 c1_i32_49 k0_t5
  let c256_i32_87 : BitVec 32 := 256#32
  let v201 : BitVec 32 := Scalar.muli arg18 c256_i32_87
  let v202 : BitVec 32 := v201
  let v238 : Index := Scalar.indexCast v202
  let c0_99 : Index := 0#32
  ![v238.toNat, 0]
def k0_off13 (k0_t4 : Fin k0_t4_loop.trips) (k0_t5 : Fin (k0_t5_loop k0_t4).trips) : Fin 2 → Nat :=
  let c0_i32_47 : BitVec 32 := 0#32
  let c1_i32_49 : BitVec 32 := 1#32
  let arg18 : BitVec 32 := Scf.iv c0_i32_47 c1_i32_49 k0_t5
  let v242 : Index := Scalar.indexCast arg18
  let c0_100 : Index := 0#32
  ![v242.toNat, 0]
@[reducible] def k0_t6_loop (k0_t4 : Fin k0_t4_loop.trips) : Scf.Loop 32 :=
  let c0_i32_47 : BitVec 32 := 0#32
  let c0_i32_34 : BitVec 32 := 0#32
  let c1_i32_36 : BitVec 32 := 1#32
  let arg17 : BitVec 32 := Scf.iv c0_i32_34 c1_i32_36 k0_t4
  let v91 : BitVec 32 := Scalar.subi arg17 c0_i32_47
  let c1_i32_48 : BitVec 32 := 1#32
  let v93 : BitVec 32 := Scalar.divsi v91 c1_i32_48
  let v94 : BitVec 32 := Scalar.muli v93 c1_i32_48
  let v95 : BitVec 32 := Scalar.addi c0_i32_47 v94
  let v92 : BitVec 32 := Scalar.addi c0_i32_47 v91
  let c1_i32_50 : BitVec 32 := 1#32
  ⟨v95, v92, c1_i32_50⟩
def k0_mult2 (k0_t4 : Fin k0_t4_loop.trips) (k0_t6 : Fin (k0_t6_loop k0_t4).trips) : BitVec 32 :=
  let c0_i32_47 : BitVec 32 := 0#32
  let c0_i32_34 : BitVec 32 := 0#32
  let c1_i32_36 : BitVec 32 := 1#32
  let arg17 : BitVec 32 := Scf.iv c0_i32_34 c1_i32_36 k0_t4
  let v91 : BitVec 32 := Scalar.subi arg17 c0_i32_47
  let c1_i32_48 : BitVec 32 := 1#32
  let v93 : BitVec 32 := Scalar.divsi v91 c1_i32_48
  let v94 : BitVec 32 := Scalar.muli v93 c1_i32_48
  let v95 : BitVec 32 := Scalar.addi c0_i32_47 v94
  let c1_i32_50 : BitVec 32 := 1#32
  let arg18 : BitVec 32 := Scf.iv v95 c1_i32_50 k0_t6
  let c256_i32_87 : BitVec 32 := 256#32
  let v201 : BitVec 32 := Scalar.muli arg18 c256_i32_87
  v201
def k0_off14 (k0_t4 : Fin k0_t4_loop.trips) (k0_t6 : Fin (k0_t6_loop k0_t4).trips) : Fin 3 → Nat :=
  let c0_88 : Index := 0#32
  let c0_i32_47 : BitVec 32 := 0#32
  let c0_i32_34 : BitVec 32 := 0#32
  let c1_i32_36 : BitVec 32 := 1#32
  let arg17 : BitVec 32 := Scf.iv c0_i32_34 c1_i32_36 k0_t4
  let v91 : BitVec 32 := Scalar.subi arg17 c0_i32_47
  let c1_i32_48 : BitVec 32 := 1#32
  let v93 : BitVec 32 := Scalar.divsi v91 c1_i32_48
  let v94 : BitVec 32 := Scalar.muli v93 c1_i32_48
  let v95 : BitVec 32 := Scalar.addi c0_i32_47 v94
  let c1_i32_50 : BitVec 32 := 1#32
  let arg18 : BitVec 32 := Scf.iv v95 c1_i32_50 k0_t6
  let c256_i32_87 : BitVec 32 := 256#32
  let v201 : BitVec 32 := Scalar.muli arg18 c256_i32_87
  let v202 : BitVec 32 := v201
  let v203 : Index := Scalar.indexCast v202
  let c0_89 : Index := 0#32
  ![0, v203.toNat, 0]
def k0_off15 (k0_t4 : Fin k0_t4_loop.trips) (k0_t6 : Fin (k0_t6_loop k0_t4).trips) (c0_i32_92 : BitVec 32) : Fin 2 → Nat :=
  let c0_i32_47 : BitVec 32 := 0#32
  let c0_i32_34 : BitVec 32 := 0#32
  let c1_i32_36 : BitVec 32 := 1#32
  let arg17 : BitVec 32 := Scf.iv c0_i32_34 c1_i32_36 k0_t4
  let v91 : BitVec 32 := Scalar.subi arg17 c0_i32_47
  let c1_i32_48 : BitVec 32 := 1#32
  let v93 : BitVec 32 := Scalar.divsi v91 c1_i32_48
  let v94 : BitVec 32 := Scalar.muli v93 c1_i32_48
  let v95 : BitVec 32 := Scalar.addi c0_i32_47 v94
  let c1_i32_50 : BitVec 32 := 1#32
  let arg18 : BitVec 32 := Scf.iv v95 c1_i32_50 k0_t6
  let c2_i32_91 : BitVec 32 := 2#32
  let v207 : BitVec 32 := Scalar.muli arg18 c2_i32_91
  let v208 : BitVec 32 := Scalar.addi v207 c0_i32_92
  let v209 : Index := Scalar.indexCast v208
  let c0_93 : Index := 0#32
  ![v209.toNat, 0]
def k0_off16 (k0_t4 : Fin k0_t4_loop.trips) (k0_t6 : Fin (k0_t6_loop k0_t4).trips) : Fin 2 → Nat :=
  let c0_i32_47 : BitVec 32 := 0#32
  let c0_i32_34 : BitVec 32 := 0#32
  let c1_i32_36 : BitVec 32 := 1#32
  let arg17 : BitVec 32 := Scf.iv c0_i32_34 c1_i32_36 k0_t4
  let v91 : BitVec 32 := Scalar.subi arg17 c0_i32_47
  let c1_i32_48 : BitVec 32 := 1#32
  let v93 : BitVec 32 := Scalar.divsi v91 c1_i32_48
  let v94 : BitVec 32 := Scalar.muli v93 c1_i32_48
  let v95 : BitVec 32 := Scalar.addi c0_i32_47 v94
  let c1_i32_50 : BitVec 32 := 1#32
  let arg18 : BitVec 32 := Scf.iv v95 c1_i32_50 k0_t6
  let c256_i32_87 : BitVec 32 := 256#32
  let v201 : BitVec 32 := Scalar.muli arg18 c256_i32_87
  let v202 : BitVec 32 := v201
  let v238 : Index := Scalar.indexCast v202
  let c0_99 : Index := 0#32
  ![v238.toNat, 0]
def k0_off17 (k0_t4 : Fin k0_t4_loop.trips) (k0_t6 : Fin (k0_t6_loop k0_t4).trips) : Fin 2 → Nat :=
  let c0_i32_47 : BitVec 32 := 0#32
  let c0_i32_34 : BitVec 32 := 0#32
  let c1_i32_36 : BitVec 32 := 1#32
  let arg17 : BitVec 32 := Scf.iv c0_i32_34 c1_i32_36 k0_t4
  let v91 : BitVec 32 := Scalar.subi arg17 c0_i32_47
  let c1_i32_48 : BitVec 32 := 1#32
  let v93 : BitVec 32 := Scalar.divsi v91 c1_i32_48
  let v94 : BitVec 32 := Scalar.muli v93 c1_i32_48
  let v95 : BitVec 32 := Scalar.addi c0_i32_47 v94
  let c1_i32_50 : BitVec 32 := 1#32
  let arg18 : BitVec 32 := Scf.iv v95 c1_i32_50 k0_t6
  let v242 : Index := Scalar.indexCast arg18
  let c0_100 : Index := 0#32
  ![v242.toNat, 0]
def k0_mult3 (k0_t4 : Fin k0_t4_loop.trips) : BitVec 32 :=
  let c0_i32_34 : BitVec 32 := 0#32
  let c1_i32_36 : BitVec 32 := 1#32
  let arg17 : BitVec 32 := Scf.iv c0_i32_34 c1_i32_36 k0_t4
  let c256_i32_51 : BitVec 32 := 256#32
  let v98 : BitVec 32 := Scalar.muli arg17 c256_i32_51
  v98
def k0_off18 (k0_t4 : Fin k0_t4_loop.trips) : Fin 3 → Nat :=
  let c0_52 : Index := 0#32
  let c0_i32_34 : BitVec 32 := 0#32
  let c1_i32_36 : BitVec 32 := 1#32
  let arg17 : BitVec 32 := Scf.iv c0_i32_34 c1_i32_36 k0_t4
  let c256_i32_51 : BitVec 32 := 256#32
  let v98 : BitVec 32 := Scalar.muli arg17 c256_i32_51
  let v99 : BitVec 32 := v98
  let v100 : Index := Scalar.indexCast v99
  let c0_53 : Index := 0#32
  ![0, v100.toNat, 0]
def k0_off19 (k0_t4 : Fin k0_t4_loop.trips) (c0_i32_56 : BitVec 32) : Fin 2 → Nat :=
  let c0_i32_34 : BitVec 32 := 0#32
  let c1_i32_36 : BitVec 32 := 1#32
  let arg17 : BitVec 32 := Scf.iv c0_i32_34 c1_i32_36 k0_t4
  let c2_i32_55 : BitVec 32 := 2#32
  let v104 : BitVec 32 := Scalar.muli arg17 c2_i32_55
  let v105 : BitVec 32 := Scalar.addi v104 c0_i32_56
  let v106 : Index := Scalar.indexCast v105
  let c0_57 : Index := 0#32
  ![v106.toNat, 0]
def k0_off20 (k0_t4 : Fin k0_t4_loop.trips) : Fin 2 → Nat :=
  let c0_i32_34 : BitVec 32 := 0#32
  let c1_i32_36 : BitVec 32 := 1#32
  let arg17 : BitVec 32 := Scf.iv c0_i32_34 c1_i32_36 k0_t4
  let c256_i32_51 : BitVec 32 := 256#32
  let v98 : BitVec 32 := Scalar.muli arg17 c256_i32_51
  let v99 : BitVec 32 := v98
  let v140 : Index := Scalar.indexCast v99
  let c0_64 : Index := 0#32
  ![v140.toNat, 0]
def k0_off21 (k0_t4 : Fin k0_t4_loop.trips) : Fin 2 → Nat :=
  let c0_i32_34 : BitVec 32 := 0#32
  let c1_i32_36 : BitVec 32 := 1#32
  let arg17 : BitVec 32 := Scf.iv c0_i32_34 c1_i32_36 k0_t4
  let v144 : Index := Scalar.indexCast arg17
  let c0_65 : Index := 0#32
  ![v144.toNat, 0]
@[reducible] def k0_t7_loop (k0_t4 : Fin k0_t4_loop.trips) : Scf.Loop 32 :=
  let c0_i32_81 : BitVec 32 := 0#32
  let c0_i32_34 : BitVec 32 := 0#32
  let c1_i32_36 : BitVec 32 := 1#32
  let arg17 : BitVec 32 := Scf.iv c0_i32_34 c1_i32_36 k0_t4
  let c1_i32_79 : BitVec 32 := 1#32
  let v182 : BitVec 32 := Scalar.addi arg17 c1_i32_79
  let v184 : BitVec 32 := Scalar.subi v182 c0_i32_81
  let c1_i32_82 : BitVec 32 := 1#32
  let v186 : BitVec 32 := Scalar.divsi v184 c1_i32_82
  let v187 : BitVec 32 := Scalar.muli v186 c1_i32_82
  let v188 : BitVec 32 := Scalar.addi c0_i32_81 v187
  let c1_i32_83 : BitVec 32 := 1#32
  ⟨c0_i32_81, v188, c1_i32_83⟩
def k0_mult4 (k0_t4 : Fin k0_t4_loop.trips) (k0_t7 : Fin (k0_t7_loop k0_t4).trips) : BitVec 32 :=
  let c0_i32_81 : BitVec 32 := 0#32
  let c1_i32_83 : BitVec 32 := 1#32
  let arg18 : BitVec 32 := Scf.iv c0_i32_81 c1_i32_83 k0_t7
  let c256_i32_87 : BitVec 32 := 256#32
  let v201 : BitVec 32 := Scalar.muli arg18 c256_i32_87
  v201
def k0_off22 (k0_t4 : Fin k0_t4_loop.trips) (k0_t7 : Fin (k0_t7_loop k0_t4).trips) : Fin 2 → Nat :=
  let c0_i32_81 : BitVec 32 := 0#32
  let c1_i32_83 : BitVec 32 := 1#32
  let arg18 : BitVec 32 := Scf.iv c0_i32_81 c1_i32_83 k0_t7
  let v203 : Index := Scalar.indexCast arg18
  let c0_88 : Index := 0#32
  ![v203.toNat, 0]
def k0_off23 (k0_t4 : Fin k0_t4_loop.trips) (k0_t7 : Fin (k0_t7_loop k0_t4).trips) : Fin 2 → Nat :=
  let c0_i32_81 : BitVec 32 := 0#32
  let c1_i32_83 : BitVec 32 := 1#32
  let arg18 : BitVec 32 := Scf.iv c0_i32_81 c1_i32_83 k0_t7
  let c256_i32_87 : BitVec 32 := 256#32
  let v201 : BitVec 32 := Scalar.muli arg18 c256_i32_87
  let v202 : BitVec 32 := v201
  let v208 : Index := Scalar.indexCast v202
  let c0_89 : Index := 0#32
  ![v208.toNat, 0]
def k0_off24 (k0_t4 : Fin k0_t4_loop.trips) (k0_t7 : Fin (k0_t7_loop k0_t4).trips) : Fin 2 → Nat :=
  let c0_92 : Index := 0#32
  let c0_i32_81 : BitVec 32 := 0#32
  let c1_i32_83 : BitVec 32 := 1#32
  let arg18 : BitVec 32 := Scf.iv c0_i32_81 c1_i32_83 k0_t7
  let c256_i32_87 : BitVec 32 := 256#32
  let v201 : BitVec 32 := Scalar.muli arg18 c256_i32_87
  let v202 : BitVec 32 := v201
  let v217 : Index := Scalar.indexCast v202
  ![0, v217.toNat]
@[reducible] def k0_t8_loop (k0_t4 : Fin k0_t4_loop.trips) : Scf.Loop 32 :=
  let c0_i32_81 : BitVec 32 := 0#32
  let c0_i32_34 : BitVec 32 := 0#32
  let c1_i32_36 : BitVec 32 := 1#32
  let arg17 : BitVec 32 := Scf.iv c0_i32_34 c1_i32_36 k0_t4
  let c1_i32_79 : BitVec 32 := 1#32
  let v182 : BitVec 32 := Scalar.addi arg17 c1_i32_79
  let v184 : BitVec 32 := Scalar.subi v182 c0_i32_81
  let c1_i32_82 : BitVec 32 := 1#32
  let v186 : BitVec 32 := Scalar.divsi v184 c1_i32_82
  let v187 : BitVec 32 := Scalar.muli v186 c1_i32_82
  let v188 : BitVec 32 := Scalar.addi c0_i32_81 v187
  let v185 : BitVec 32 := Scalar.addi c0_i32_81 v184
  let c1_i32_84 : BitVec 32 := 1#32
  ⟨v188, v185, c1_i32_84⟩
def k0_mult5 (k0_t4 : Fin k0_t4_loop.trips) (k0_t8 : Fin (k0_t8_loop k0_t4).trips) : BitVec 32 :=
  let c0_i32_81 : BitVec 32 := 0#32
  let c0_i32_34 : BitVec 32 := 0#32
  let c1_i32_36 : BitVec 32 := 1#32
  let arg17 : BitVec 32 := Scf.iv c0_i32_34 c1_i32_36 k0_t4
  let c1_i32_79 : BitVec 32 := 1#32
  let v182 : BitVec 32 := Scalar.addi arg17 c1_i32_79
  let v184 : BitVec 32 := Scalar.subi v182 c0_i32_81
  let c1_i32_82 : BitVec 32 := 1#32
  let v186 : BitVec 32 := Scalar.divsi v184 c1_i32_82
  let v187 : BitVec 32 := Scalar.muli v186 c1_i32_82
  let v188 : BitVec 32 := Scalar.addi c0_i32_81 v187
  let c1_i32_84 : BitVec 32 := 1#32
  let arg18 : BitVec 32 := Scf.iv v188 c1_i32_84 k0_t8
  let c256_i32_87 : BitVec 32 := 256#32
  let v201 : BitVec 32 := Scalar.muli arg18 c256_i32_87
  v201
def k0_off25 (k0_t4 : Fin k0_t4_loop.trips) (k0_t8 : Fin (k0_t8_loop k0_t4).trips) : Fin 2 → Nat :=
  let c0_i32_81 : BitVec 32 := 0#32
  let c0_i32_34 : BitVec 32 := 0#32
  let c1_i32_36 : BitVec 32 := 1#32
  let arg17 : BitVec 32 := Scf.iv c0_i32_34 c1_i32_36 k0_t4
  let c1_i32_79 : BitVec 32 := 1#32
  let v182 : BitVec 32 := Scalar.addi arg17 c1_i32_79
  let v184 : BitVec 32 := Scalar.subi v182 c0_i32_81
  let c1_i32_82 : BitVec 32 := 1#32
  let v186 : BitVec 32 := Scalar.divsi v184 c1_i32_82
  let v187 : BitVec 32 := Scalar.muli v186 c1_i32_82
  let v188 : BitVec 32 := Scalar.addi c0_i32_81 v187
  let c1_i32_84 : BitVec 32 := 1#32
  let arg18 : BitVec 32 := Scf.iv v188 c1_i32_84 k0_t8
  let v203 : Index := Scalar.indexCast arg18
  let c0_88 : Index := 0#32
  ![v203.toNat, 0]
def k0_off26 (k0_t4 : Fin k0_t4_loop.trips) (k0_t8 : Fin (k0_t8_loop k0_t4).trips) : Fin 2 → Nat :=
  let c0_i32_81 : BitVec 32 := 0#32
  let c0_i32_34 : BitVec 32 := 0#32
  let c1_i32_36 : BitVec 32 := 1#32
  let arg17 : BitVec 32 := Scf.iv c0_i32_34 c1_i32_36 k0_t4
  let c1_i32_79 : BitVec 32 := 1#32
  let v182 : BitVec 32 := Scalar.addi arg17 c1_i32_79
  let v184 : BitVec 32 := Scalar.subi v182 c0_i32_81
  let c1_i32_82 : BitVec 32 := 1#32
  let v186 : BitVec 32 := Scalar.divsi v184 c1_i32_82
  let v187 : BitVec 32 := Scalar.muli v186 c1_i32_82
  let v188 : BitVec 32 := Scalar.addi c0_i32_81 v187
  let c1_i32_84 : BitVec 32 := 1#32
  let arg18 : BitVec 32 := Scf.iv v188 c1_i32_84 k0_t8
  let c256_i32_87 : BitVec 32 := 256#32
  let v201 : BitVec 32 := Scalar.muli arg18 c256_i32_87
  let v202 : BitVec 32 := v201
  let v208 : Index := Scalar.indexCast v202
  let c0_89 : Index := 0#32
  ![v208.toNat, 0]
def k0_off27 (k0_t4 : Fin k0_t4_loop.trips) (k0_t8 : Fin (k0_t8_loop k0_t4).trips) : Fin 2 → Nat :=
  let c0_92 : Index := 0#32
  let c0_i32_81 : BitVec 32 := 0#32
  let c0_i32_34 : BitVec 32 := 0#32
  let c1_i32_36 : BitVec 32 := 1#32
  let arg17 : BitVec 32 := Scf.iv c0_i32_34 c1_i32_36 k0_t4
  let c1_i32_79 : BitVec 32 := 1#32
  let v182 : BitVec 32 := Scalar.addi arg17 c1_i32_79
  let v184 : BitVec 32 := Scalar.subi v182 c0_i32_81
  let c1_i32_82 : BitVec 32 := 1#32
  let v186 : BitVec 32 := Scalar.divsi v184 c1_i32_82
  let v187 : BitVec 32 := Scalar.muli v186 c1_i32_82
  let v188 : BitVec 32 := Scalar.addi c0_i32_81 v187
  let c1_i32_84 : BitVec 32 := 1#32
  let arg18 : BitVec 32 := Scf.iv v188 c1_i32_84 k0_t8
  let c256_i32_87 : BitVec 32 := 256#32
  let v201 : BitVec 32 := Scalar.muli arg18 c256_i32_87
  let v202 : BitVec 32 := v201
  let v217 : Index := Scalar.indexCast v202
  ![0, v217.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "sm_log2e" => some (((Real.sqrt 128)⁻¹ * (Real.log 2)⁻¹ : ℝ) : EReal)
  | _ => none
-- ==== ReferenceIdeal.lean ====
abbrev S8x4096x2048 : Shape := ⟨3, ![8, 4096, 2048]⟩
abbrev S8x4096x16x128 : Shape := ⟨4, ![8, 4096, 16, 128]⟩
abbrev S_ : Shape := ⟨0, ![]⟩
abbrev S8x16x128 : Shape := ⟨3, ![8, 16, 128]⟩
abbrev S8x1x16x128 : Shape := ⟨4, ![8, 1, 16, 128]⟩
abbrev S8x32x128x16x128 : Shape := ⟨5, ![8, 32, 128, 16, 128]⟩
abbrev S8x32x16 : Shape := ⟨3, ![8, 32, 16]⟩
abbrev S8x32x1x16x1 : Shape := ⟨5, ![8, 32, 1, 16, 1]⟩
abbrev S8x16 : Shape := ⟨2, ![8, 16]⟩
abbrev S8x1x16x1 : Shape := ⟨4, ![8, 1, 16, 1]⟩
abbrev S8x32x128x16x1 : Shape := ⟨5, ![8, 32, 128, 16, 1]⟩
abbrev S8x4096x16 : Shape := ⟨3, ![8, 4096, 16]⟩
abbrev S8x16x4096x4096 : Shape := ⟨4, ![8, 16, 4096, 4096]⟩
abbrev S8x16x4096 : Shape := ⟨3, ![8, 16, 4096]⟩
abbrev S8x16x4096x1 : Shape := ⟨4, ![8, 16, 4096, 1]⟩
abbrev S8x16x1x4096 : Shape := ⟨4, ![8, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x16x4096x128 : Shape := ⟨4, ![8, 16, 4096, 128]⟩
abbrev S8x16x1x1 : Shape := ⟨4, ![8, 16, 1, 1]⟩
abbrev S8x16x32 : Shape := ⟨3, ![8, 16, 32]⟩

abbrev nBuf : Space → Nat
  | .hbm => 238
  | .vmem => 0
  | .smem => 0
  | _ => 0

abbrev hbmTy0_0 (i : Nat) : BufTy := match i % 128 with
  | 0 => ⟨S8x4096x2048, .bf16⟩
  | 1 => ⟨S8x4096x2048, .bf16⟩
  | 2 => ⟨S8x4096x2048, .bf16⟩
  | 3 => ⟨S8x4096x2048, .f32⟩
  | 4 => ⟨S8x4096x2048, .f32⟩
  | 5 => ⟨S8x4096x16x128, .f32⟩
  | 6 => ⟨S_, .f32⟩
  | 7 => ⟨S8x16x128, .f32⟩
  | 8 => ⟨S8x1x16x128, .f32⟩
  | 9 => ⟨S_, .f32⟩
  | 10 => ⟨S8x1x16x128, .f32⟩
  | 11 => ⟨S8x1x16x128, .f32⟩
  | 12 => ⟨S8x4096x16x128, .f32⟩
  | 13 => ⟨S8x4096x16x128, .f32⟩
  | 14 => ⟨S8x32x128x16x128, .f32⟩
  | 15 => ⟨S8x32x128x16x128, .f32⟩
  | 16 => ⟨S_, .f32⟩
  | 17 => ⟨S8x32x16, .f32⟩
  | 18 => ⟨S8x32x1x16x1, .f32⟩
  | 19 => ⟨S_, .f32⟩
  | 20 => ⟨S8x32x1x16x1, .f32⟩
  | 21 => ⟨S8x32x1x16x1, .f32⟩
  | 22 => ⟨S_, .f32⟩
  | 23 => ⟨S8x32x1x16x1, .f32⟩
  | 24 => ⟨S8x32x1x16x1, .i1⟩
  | 25 => ⟨S8x32x1x16x1, .f32⟩
  | 26 => ⟨S_, .f32⟩
  | 27 => ⟨S_, .f32⟩
  | 28 => ⟨S8x32x1x16x1, .f32⟩
  | 29 => ⟨S8x32x1x16x1, .f32⟩
  | 30 => ⟨S8x32x1x16x1, .f32⟩
  | 31 => ⟨S_, .f32⟩
  | 32 => ⟨S8x32x1x16x1, .f32⟩
  | 33 => ⟨S8x32x1x16x1, .f32⟩
  | 34 => ⟨S_, .f32⟩
  | 35 => ⟨S_, .f32⟩
  | 36 => ⟨S8x32x1x16x1, .f32⟩
  | 37 => ⟨S8x32x1x16x1, .f32⟩
  | 38 => ⟨S8x32x1x16x1, .f32⟩
  | 39 => ⟨S_, .f32⟩
  | 40 => ⟨S8x32x1x16x1, .f32⟩
  | 41 => ⟨S8x32x1x16x1, .f32⟩
  | 42 => ⟨S8x32x128x16x128, .f32⟩
  | 43 => ⟨S8x32x128x16x128, .f32⟩
  | 44 => ⟨S_, .f32⟩
  | 45 => ⟨S_, .f32⟩
  | 46 => ⟨S_, .f32⟩
  | 47 => ⟨S8x32x128x16x128, .f32⟩
  | 48 => ⟨S8x32x128x16x128, .f32⟩
  | 49 => ⟨S_, .f32⟩
  | 50 => ⟨S8x32x128x16x128, .f32⟩
  | 51 => ⟨S8x32x128x16x128, .f32⟩
  | 52 => ⟨S_, .f32⟩
  | 53 => ⟨S8x32x1x16x1, .f32⟩
  | 54 => ⟨S8x32x1x16x1, .f32⟩
  | 55 => ⟨S8x32x128x16x128, .f32⟩
  | 56 => ⟨S8x32x128x16x128, .f32⟩
  | 57 => ⟨S_, .f32⟩
  | 58 => ⟨S8x32x16, .f32⟩
  | 59 => ⟨S8x32x1x16x1, .f32⟩
  | 60 => ⟨S_, .f32⟩
  | 61 => ⟨S8x32x1x16x1, .f32⟩
  | 62 => ⟨S8x32x1x16x1, .f32⟩
  | 63 => ⟨S_, .f32⟩
  | 64 => ⟨S8x32x1x16x1, .f32⟩
  | 65 => ⟨S8x32x1x16x1, .i1⟩
  | 66 => ⟨S8x32x1x16x1, .f32⟩
  | 67 => ⟨S_, .f32⟩
  | 68 => ⟨S_, .f32⟩
  | 69 => ⟨S8x32x1x16x1, .f32⟩
  | 70 => ⟨S8x32x1x16x1, .f32⟩
  | 71 => ⟨S8x32x1x16x1, .f32⟩
  | 72 => ⟨S_, .f32⟩
  | 73 => ⟨S8x32x1x16x1, .f32⟩
  | 74 => ⟨S8x32x1x16x1, .f32⟩
  | 75 => ⟨S_, .f32⟩
  | 76 => ⟨S_, .f32⟩
  | 77 => ⟨S8x32x1x16x1, .f32⟩
  | 78 => ⟨S8x32x1x16x1, .f32⟩
  | 79 => ⟨S8x32x1x16x1, .f32⟩
  | 80 => ⟨S_, .f32⟩
  | 81 => ⟨S8x32x1x16x1, .f32⟩
  | 82 => ⟨S8x32x1x16x1, .f32⟩
  | 83 => ⟨S8x32x128x16x128, .f32⟩
  | 84 => ⟨S8x32x128x16x128, .f32⟩
  | 85 => ⟨S_, .f32⟩
  | 86 => ⟨S_, .f32⟩
  | 87 => ⟨S_, .f32⟩
  | 88 => ⟨S8x32x128x16x128, .f32⟩
  | 89 => ⟨S8x32x128x16x128, .f32⟩
  | 90 => ⟨S_, .f32⟩
  | 91 => ⟨S8x32x128x16x128, .f32⟩
  | 92 => ⟨S8x32x128x16x128, .f32⟩
  | 93 => ⟨S_, .f32⟩
  | 94 => ⟨S8x32x1x16x1, .f32⟩
  | 95 => ⟨S8x32x1x16x1, .f32⟩
  | 96 => ⟨S8x4096x2048, .f32⟩
  | 97 => ⟨S8x4096x16x128, .f32⟩
  | 98 => ⟨S8x4096x16x128, .f32⟩
  | 99 => ⟨S_, .f32⟩
  | 100 => ⟨S8x16, .f32⟩
  | 101 => ⟨S8x1x16x1, .f32⟩
  | 102 => ⟨S_, .f32⟩
  | 103 => ⟨S8x1x16x1, .f32⟩
  | 104 => ⟨S8x1x16x1, .f32⟩
  | 105 => ⟨S_, .f32⟩
  | 106 => ⟨S8x1x16x1, .f32⟩
  | 107 => ⟨S8x1x16x1, .i1⟩
  | 108 => ⟨S8x1x16x1, .f32⟩
  | 109 => ⟨S_, .f32⟩
  | 110 => ⟨S_, .f32⟩
  | 111 => ⟨S8x1x16x1, .f32⟩
  | 112 => ⟨S8x1x16x1, .f32⟩
  | 113 => ⟨S8x1x16x1, .f32⟩
  | 114 => ⟨S_, .f32⟩
  | 115 => ⟨S8x1x16x1, .f32⟩
  | 116 => ⟨S8x1x16x1, .f32⟩
  | 117 => ⟨S_, .f32⟩
  | 118 => ⟨S_, .f32⟩
  | 119 => ⟨S8x1x16x1, .f32⟩
  | 120 => ⟨S8x1x16x1, .f32⟩
  | 121 => ⟨S8x1x16x1, .f32⟩
  | 122 => ⟨S_, .f32⟩
  | 123 => ⟨S8x1x16x1, .f32⟩
  | 124 => ⟨S8x1x16x1, .f32⟩
  | 125 => ⟨S8x4096x16x128, .f32⟩
  | 126 => ⟨S8x4096x16x128, .f32⟩
  | 127 => ⟨S_, .f32⟩
  | _ => ⟨S8x4096x2048, .bf16⟩

abbrev hbmTy0_1 (i : Nat) : BufTy := match i % 128 with
  | 0 => ⟨S_, .f32⟩
  | 1 => ⟨S_, .f32⟩
  | 2 => ⟨S8x4096x16x128, .f32⟩
  | 3 => ⟨S8x4096x16x128, .f32⟩
  | 4 => ⟨S_, .f32⟩
  | 5 => ⟨S8x4096x16x128, .f32⟩
  | 6 => ⟨S8x4096x16x128, .f32⟩
  | 7 => ⟨S_, .f32⟩
  | 8 => ⟨S8x1x16x1, .f32⟩
  | 9 => ⟨S8x1x16x1, .f32⟩
  | 10 => ⟨S8x32x128x16x1, .f32⟩
  | 11 => ⟨S8x4096x16, .f32⟩
  | 12 => ⟨S8x32x128x16x1, .f32⟩
  | 13 => ⟨S8x4096x16, .f32⟩
  | 14 => ⟨S8x4096x16x128, .f32⟩
  | 15 => ⟨S8x4096x16x128, .f32⟩
  | 16 => ⟨S8x16x4096x4096, .f32⟩
  | 17 => ⟨S8x16x4096, .f32⟩
  | 18 => ⟨S8x16x4096, .f32⟩
  | 19 => ⟨S8x16x4096x1, .f32⟩
  | 20 => ⟨S_, .f32⟩
  | 21 => ⟨S_, .f32⟩
  | 22 => ⟨S8x16x4096x1, .f32⟩
  | 23 => ⟨S8x16x4096x1, .f32⟩
  | 24 => ⟨S8x16x4096x4096, .f32⟩
  | 25 => ⟨S8x16x4096x4096, .f32⟩
  | 26 => ⟨S8x16x1x4096, .f32⟩
  | 27 => ⟨S8x16x4096x4096, .f32⟩
  | 28 => ⟨S8x16x4096x4096, .f32⟩
  | 29 => ⟨S4096, .i32⟩
  | 30 => ⟨S1x4096, .i32⟩
  | 31 => ⟨S4096x1, .i32⟩
  | 32 => ⟨S4096x4096, .i32⟩
  | 33 => ⟨S4096x4096, .i32⟩
  | 34 => ⟨S4096x4096, .i1⟩
  | 35 => ⟨S_, .f32⟩
  | 36 => ⟨S_, .f32⟩
  | 37 => ⟨S8x16x4096x4096, .i1⟩
  | 38 => ⟨S8x16x4096x4096, .f32⟩
  | 39 => ⟨S8x16x4096x4096, .f32⟩
  | 40 => ⟨S_, .f32⟩
  | 41 => ⟨S8x16x4096, .f32⟩
  | 42 => ⟨S8x16x4096x1, .f32⟩
  | 43 => ⟨S8x16x4096x4096, .f32⟩
  | 44 => ⟨S8x16x4096x4096, .f32⟩
  | 45 => ⟨S8x16x4096x4096, .f32⟩
  | 46 => ⟨S_, .f32⟩
  | 47 => ⟨S8x16x4096, .f32⟩
  | 48 => ⟨S8x16x4096x1, .f32⟩
  | 49 => ⟨S8x16x4096x4096, .f32⟩
  | 50 => ⟨S8x16x4096x4096, .f32⟩
  | 51 => ⟨S_, .f32⟩
  | 52 => ⟨S8x16x4096x1, .f32⟩
  | 53 => ⟨S8x16x4096x1, .f32⟩
  | 54 => ⟨S_, .f32⟩
  | 55 => ⟨S8x16x4096x1, .f32⟩
  | 56 => ⟨S8x16x4096x1, .f32⟩
  | 57 => ⟨S_, .f32⟩
  | 58 => ⟨S8x16x4096x1, .f32⟩
  | 59 => ⟨S8x16x4096x1, .i1⟩
  | 60 => ⟨S8x16x4096x1, .f32⟩
  | 61 => ⟨S_, .f32⟩
  | 62 => ⟨S_, .f32⟩
  | 63 => ⟨S8x16x4096x1, .f32⟩
  | 64 => ⟨S8x16x4096x1, .f32⟩
  | 65 => ⟨S8x16x4096x1, .f32⟩
  | 66 => ⟨S_, .f32⟩
  | 67 => ⟨S8x16x4096x1, .f32⟩
  | 68 => ⟨S8x16x4096x1, .f32⟩
  | 69 => ⟨S_, .f32⟩
  | 70 => ⟨S_, .f32⟩
  | 71 => ⟨S8x16x4096x1, .f32⟩
  | 72 => ⟨S8x16x4096x1, .f32⟩
  | 73 => ⟨S8x16x4096x1, .f32⟩
  | 74 => ⟨S_, .f32⟩
  | 75 => ⟨S8x16x4096x1, .f32⟩
  | 76 => ⟨S8x16x4096x1, .f32⟩
  | 77 => ⟨S8x16x4096x4096, .f32⟩
  | 78 => ⟨S8x16x4096x4096, .f32⟩
  | 79 => ⟨S_, .f32⟩
  | 80 => ⟨S_, .f32⟩
  | 81 => ⟨S_, .f32⟩
  | 82 => ⟨S8x16x4096x4096, .f32⟩
  | 83 => ⟨S8x16x4096x4096, .f32⟩
  | 84 => ⟨S_, .f32⟩
  | 85 => ⟨S8x16x4096x4096, .f32⟩
  | 86 => ⟨S8x16x4096x4096, .f32⟩
  | 87 => ⟨S8x16x4096x128, .f32⟩
  | 88 => ⟨S_, .f32⟩
  | 89 => ⟨S8x16x4096x1, .f32⟩
  | 90 => ⟨S8x16x4096x1, .f32⟩
  | 91 => ⟨S8x16x4096x128, .f32⟩
  | 92 => ⟨S8x16x4096x128, .f32⟩
  | 93 => ⟨S8x16x1x1, .f32⟩
  | 94 => ⟨S8x16x4096x128, .f32⟩
  | 95 => ⟨S8x16x4096x128, .f32⟩
  | 96 => ⟨S8x4096x16x128, .f32⟩
  | 97 => ⟨S8x4096x2048, .f32⟩
  | 98 => ⟨S8x4096x2048, .bf16⟩
  | 99 => ⟨S8x4096x2048, .f32⟩
  | 100 => ⟨S8x4096x2048, .fp8e4m3⟩
  | 101 => ⟨S8x32x16, .f32⟩
  | 102 => ⟨S8x16x32, .f32⟩
  | 103 => ⟨S8x4096x2048, .f32⟩
  | 104 => ⟨S8x4096x2048, .fp8e4m3⟩
  | 105 => ⟨S8x32x16, .f32⟩
  | 106 => ⟨S8x16x32, .f32⟩
  | 107 => ⟨S8x4096x2048, .f32⟩
  | 108 => ⟨S8x4096x2048, .fp8e4m3⟩
  | 109 => ⟨S8x16, .f32⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_15 : Ref sig .tc := ⟨.hbm, 72, rfl⟩
abbrev main_v46 : Ref sig .tc := ⟨.hbm, 73, rfl⟩
abbrev main_v47 : Ref sig .tc := ⟨.hbm, 74, rfl⟩
abbrev main_cst_16 : Ref sig .tc := ⟨.hbm, 75, rfl⟩
abbrev main_call2_v0 : Ref sig .tc := ⟨.hbm, 76, rfl⟩
abbrev main_call2_v1 : Ref sig .tc := ⟨.hbm, 77, rfl⟩
abbrev main_v48 : Ref sig .tc := ⟨.hbm, 78, rfl⟩
abbrev main_v49 : Ref sig .tc := ⟨.hbm, 79, rfl⟩
abbrev main_cst_17 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_18 : Ref sig .tc := ⟨.hbm, 85, rfl⟩
abbrev main_cst_19 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v54 : Ref sig .tc := ⟨.hbm, 92, rfl⟩
abbrev main_cst_20 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_21 : Ref sig .tc := ⟨.hbm, 99, rfl⟩
abbrev main_v60 : Ref sig .tc := ⟨.hbm, 100, rfl⟩
abbrev main_v61 : Ref sig .tc := ⟨.hbm, 101, rfl⟩
abbrev main_cst_22 : Ref sig .tc := ⟨.hbm, 102, rfl⟩
abbrev main_v62 : Ref sig .tc := ⟨.hbm, 103, rfl⟩
abbrev main_v63 : Ref sig .tc := ⟨.hbm, 104, rfl⟩
abbrev main_cst_23 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_24 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_25 : Ref sig .tc := ⟨.hbm, 114, rfl⟩
abbrev main_v71 : Ref sig .tc := ⟨.hbm, 115, rfl⟩
abbrev main_v72 : Ref sig .tc := ⟨.hbm, 116, rfl⟩
abbrev main_cst_26 : Ref sig .tc := ⟨.hbm, 117, rfl⟩
abbrev main_call4_v0 : Ref sig .tc := ⟨.hbm, 118, rfl⟩
abbrev main_call4_v1 : Ref sig .tc := ⟨.hbm, 119, rfl⟩
abbrev main_v73 : Ref sig .tc := ⟨.hbm, 120, rfl⟩
abbrev main_v74 : Ref sig .tc := ⟨.hbm, 121, rfl⟩
abbrev main_cst_27 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_28 : Ref sig .tc := ⟨.hbm, 127, rfl⟩
abbrev main_cst_29 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_v79 : Ref sig .tc := ⟨.hbm, 134, rfl⟩
abbrev main_cst_30 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_31 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_32 : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_v106 : Ref sig .tc := ⟨.hbm, 167, rfl⟩
abbrev main_cst_33 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_34 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_35 : Ref sig .tc := ⟨.hbm, 179, rfl⟩
abbrev main_v116 : Ref sig .tc := ⟨.hbm, 180, rfl⟩
abbrev main_v117 : Ref sig .tc := ⟨.hbm, 181, rfl⟩
abbrev main_cst_36 : Ref sig .tc := ⟨.hbm, 182, rfl⟩
abbrev main_v118 : Ref sig .tc := ⟨.hbm, 183, rfl⟩
abbrev main_v119 : Ref sig .tc := ⟨.hbm, 184, rfl⟩
abbrev main_cst_37 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_38 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_cst_39 : Ref sig .tc := ⟨.hbm, 194, rfl⟩
abbrev main_v127 : Ref sig .tc := ⟨.hbm, 195, rfl⟩
abbrev main_v128 : Ref sig .tc := ⟨.hbm, 196, rfl⟩
abbrev main_cst_40 : Ref sig .tc := ⟨.hbm, 197, rfl⟩
abbrev main_call7_v0 : Ref sig .tc := ⟨.hbm, 198, rfl⟩
abbrev main_call7_v1 : Ref sig .tc := ⟨.hbm, 199, rfl⟩
abbrev main_v129 : Ref sig .tc := ⟨.hbm, 200, rfl⟩
abbrev main_v130 : Ref sig .tc := ⟨.hbm, 201, rfl⟩
abbrev main_cst_41 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_cst_42 : Ref sig .tc := ⟨.hbm, 207, rfl⟩
abbrev main_cst_43 : Ref sig .tc := ⟨.hbm, 208, rfl⟩
abbrev main_call8_v0 : Ref sig .tc := ⟨.hbm, 209, rfl⟩
abbrev main_call8_v1 : Ref sig .tc := ⟨.hbm, 210, rfl⟩
abbrev main_call8_v2 : Ref sig .tc := ⟨.hbm, 211, rfl⟩
abbrev main_call8_v3 : Ref sig .tc := ⟨.hbm, 212, rfl⟩
abbrev main_call8_v4 : Ref sig .tc := ⟨.hbm, 213, rfl⟩
abbrev main_v135 : Ref sig .tc := ⟨.hbm, 214, rfl⟩
abbrev main_v136 : Ref sig .tc := ⟨.hbm, 215, rfl⟩
abbrev main_cst_44 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩

abbrev nD : Nat := 1
abbrev τ : Topo := Topo.v7x

variable {F : FTy → Type} [FloatOps F]
-- ==== Proof.Query.lean ====
/- One pass of the loop over the query blocks: sixteen blocks of 256 rows, each going through the key blocks at or before it. -/
module

public import proofs.«01_k».proof.Proof.Gen.Kernel.Skeleton
public import proofs.«01_k».proof.Proof.Gen.Kernel.Loops
public import proofs.«01_k».proof.Proof.Gen.Kernel.Frame

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

local notation "𝕄" => MT nD τ sig Unit (Elt F) ℕ (UR sig nD τ) ℕ

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)
  (v40 : FVec F S1x1 .f32)

/-- What a query block touches: it reads the codes of q and k, the transposed codes of v and the two scale tables, and
    writes the result block, the exponentials and the running maxima. -/
abbrev Query (X6 : BufTy.Contents (Elt F) arg6.view.ty) (X8 : BufTy.Contents (Elt F) arg8.view.ty) (X12 : BufTy.Contents (Elt F) arg12.view.ty) (X13 : BufTy.Contents (Elt F) arg13.view.ty) (X14 : BufTy.Contents (Elt F) arg14.view.ty) (f5 : BufTy.Contents (Elt F) arg5.view.ty) (f15 : BufTy.Contents (Elt F) arg15.view.ty) (f16 : BufTy.Contents (Elt F) arg16.view.ty) : sProp 𝕄 :=
  iprop((arg6.view.loc (c : Thread nD τ) ↦[arg6.view.set]{fullShare} X6) ∗ (arg8.view.loc (c : Thread nD τ) ↦[arg8.view.set]{fullShare} X8) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg5.view.loc (c : Thread nD τ) ↦[arg5.view.set]{fullShare} f5) ∗ (arg15.view.loc (c : Thread nD τ) ↦[arg15.view.set]{fullShare} f15) ∗ (arg16.view.loc (c : Thread nD τ) ↦[arg16.view.set]{fullShare} f16))

set_option maxHeartbeats 4000000 in
/-- One query block, run: the rows it writes into the result and the two scratch tables as it leaves them. -/
@[irreducible] def query (X6 : BufTy.Contents (Elt F) arg6.view.ty) (X8 : BufTy.Contents (Elt F) arg8.view.ty) (X12 : BufTy.Contents (Elt F) arg12.view.ty) (X13 : BufTy.Contents (Elt F) arg13.view.ty) (X14 : BufTy.Contents (Elt F) arg14.view.ty) (k : Fin k0_t4_loop.trips) :
    Σ' (L5 : BufTy.Contents (Elt F) arg15.view.ty → BufTy.Contents (Elt F) arg16.view.ty → List (View.Piece (Elt F) S1x4096x128 .bf16)) (g15 : BufTy.Contents (Elt F) arg15.view.ty → BufTy.Contents (Elt F) arg16.view.ty → BufTy.Contents (Elt F) arg15.view.ty),
      { g16 : BufTy.Contents (Elt F) arg15.view.ty → BufTy.Contents (Elt F) arg16.view.ty → BufTy.Contents (Elt F) arg16.view.ty // ∀ (f5 : BufTy.Contents (Elt F) arg5.view.ty) (f15 : BufTy.Contents (Elt F) arg15.view.ty) (f16 : BufTy.Contents (Elt F) arg16.view.ty) (acc : Unit),
        Query (F := F) c arg5 arg6 arg8 arg12 arg13 arg14 arg15 arg16 X6 X8 X12 X13 X14 f5 f15 f16
        ⊢ wp frame (wpE (defs₀ (F := F)) 𝒱₀ (c : Thread nD τ) none) Set.univ (Gen.k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v40 k acc)
            (fun _ => Query (F := F) c arg5 arg6 arg8 arg12 arg13 arg14 arg15 arg16 X6 X8 X12 X13 X14 (arg5.view.writes (Elt F) f5 (L5 f15 f16)) (g15 f15 f16) (g16 f15 f16)) } := by
  have hk : k.val < 16 := Nat.lt_of_lt_of_le k.isLt Gen.k0_t4_abs.2.1
  refine ⟨?_, ?_, ?_, fun f5 f15 f16 acc => ?run⟩
  case run =>
    unfold Gen.k0_t4_body
    iintro ⟨H6, H8, H12, H13, H14, H5, H15, H16⟩
    sl_exec
    sl_step
    sl_close

/-- What the result block has received and what the two scratch tables hold before query block `k`, from the tables at
    loop entry. -/
def queries (X6 : BufTy.Contents (Elt F) arg6.view.ty) (X8 : BufTy.Contents (Elt F) arg8.view.ty) (X12 : BufTy.Contents (Elt F) arg12.view.ty) (X13 : BufTy.Contents (Elt F) arg13.view.ty) (X14 : BufTy.Contents (Elt F) arg14.view.ty) (G15 : BufTy.Contents (Elt F) arg15.view.ty) (G16 : BufTy.Contents (Elt F) arg16.view.ty) :
    ℕ → List (View.Piece (Elt F) S1x4096x128 .bf16) × BufTy.Contents (Elt F) arg15.view.ty × BufTy.Contents (Elt F) arg16.view.ty
  | 0 => ([], G15, G16)
  | k + 1 =>
    if h : k < k0_t4_loop.trips then
      let s := queries X6 X8 X12 X13 X14 G15 G16 k
      let q := query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 ⟨k, h⟩
      (q.1 s.2.1 s.2.2 ++ s.1, q.2.1 s.2.1 s.2.2, q.2.2.1 s.2.1 s.2.2)
    else queries X6 X8 X12 X13 X14 G15 G16 k

theorem queries_succ (X6 : BufTy.Contents (Elt F) arg6.view.ty) (X8 : BufTy.Contents (Elt F) arg8.view.ty) (X12 : BufTy.Contents (Elt F) arg12.view.ty) (X13 : BufTy.Contents (Elt F) arg13.view.ty) (X14 : BufTy.Contents (Elt F) arg14.view.ty) (G15 : BufTy.Contents (Elt F) arg15.view.ty) (G16 : BufTy.Contents (Elt F) arg16.view.ty) (k : Fin k0_t4_loop.trips) :
    queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 (k.val + 1)
      = ((query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 k).1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.2
          ++ (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).1,
        (query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 k).2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.2,
        (query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 k).2.2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.2) := by
  rw [queries.eq_2]; exact dif_pos k.isLt

/-- The state of the memory before query block `k`. -/
abbrev queryInv (X6 : BufTy.Contents (Elt F) arg6.view.ty) (X8 : BufTy.Contents (Elt F) arg8.view.ty) (X12 : BufTy.Contents (Elt F) arg12.view.ty) (X13 : BufTy.Contents (Elt F) arg13.view.ty) (X14 : BufTy.Contents (Elt F) arg14.view.ty) (G5 : BufTy.Contents (Elt F) arg5.view.ty) (G15 : BufTy.Contents (Elt F) arg15.view.ty) (G16 : BufTy.Contents (Elt F) arg16.view.ty) (k : ℕ) (_ : Unit) : sProp 𝕄 :=
  iprop((arg6.view.loc (c : Thread nD τ) ↦[arg6.view.set]{fullShare} X6) ∗ (arg8.view.loc (c : Thread nD τ) ↦[arg8.view.set]{fullShare} X8) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)
    ∗ (∃ f, (arg5.view.loc (c : Thread nD τ) ↦[arg5.view.set]{fullShare} f) ∗ ⌜f = arg5.view.writes (Elt F) G5 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k).1⌝)
    ∗ (∃ f, (arg15.view.loc (c : Thread nD τ) ↦[arg15.view.set]{fullShare} f) ∗ ⌜f = (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k).2.1⌝)
    ∗ (∃ f, (arg16.view.loc (c : Thread nD τ) ↦[arg16.view.set]{fullShare} f) ∗ ⌜f = (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k).2.2⌝))

set_option warn.classDefReducibility false in
/-- The loop over the query blocks, by its invariant. -/
@[sl_loop] def loopInv_k0_t4 (X6 : BufTy.Contents (Elt F) arg6.view.ty) (X8 : BufTy.Contents (Elt F) arg8.view.ty) (X12 : BufTy.Contents (Elt F) arg12.view.ty) (X13 : BufTy.Contents (Elt F) arg13.view.ty) (X14 : BufTy.Contents (Elt F) arg14.view.ty) (G5 : BufTy.Contents (Elt F) arg5.view.ty) (G15 : BufTy.Contents (Elt F) arg15.view.ty) (G16 : BufTy.Contents (Elt F) arg16.view.ty) :
    Gen.LoopInvTy_k0_t4 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 v40 where
  inv := queryInv c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G5 G15 G16
  step k acc := by
    iintro ⟨H6, H8, H12, H13, H14, ⟨%f5, H5, %h5⟩, ⟨%f15, H15, %h15⟩, ⟨%f16, H16, %h16⟩⟩
    iapply (wp_wand_r Idealize.ShloMosaic.frame (wpE (defs₀ (F := F)) 𝒱₀ (c : Thread nD τ) none) Set.univ)
    isplitl [H6 H8 H12 H13 H14 H5 H15 H16]
    · iapply ((query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 k).2.2.2 f5 f15 f16 acc)
      isplitl [H6]; · iexact H6
      isplitl [H8]; · iexact H8
      isplitl [H12]; · iexact H12
      isplitl [H13]; · iexact H13
      isplitl [H14]; · iexact H14
      isplitl [H5]; · iexact H5
      isplitl [H15]; · iexact H15
      iexact H16
    · iintro %yld ⟨H6, H8, H12, H13, H14, H5, H15, H16⟩
      subst h15 h16
      isplitl [H6]; · iexact H6
      isplitl [H8]; · iexact H8
      isplitl [H12]; · iexact H12
      isplitl [H13]; · iexact H13
      isplitl [H14]; · iexact H14
      simp only [queries_succ]
      isplitl [H5]
      · iexists _; isplitl [H5]; · iexact H5
        ipureintro; rw [h5, ← View.writes_append]
      isplitl [H15]
      · iexists _; isplitl [H15]; · iexact H15
        ipureintro; rfl
      · iexists _; isplitl [H16]; · iexact H16
        ipureintro; rfl

end Cert.Proof.Kernel

end
-- ==== Proof.Point.lean ====
/- One grid point of the kernel: what it leaves in each of the seven result blocks. -/
module

public import proofs.«01_k».proof.Proof.Gen.Kernel.Skeleton
public import proofs.«01_k».proof.Proof.Gen.Kernel.Loops
public import proofs.«01_k».proof.Proof.Gen.Kernel.Frame
public import proofs.«01_k».proof.Proof.Query

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- What a grid point holds: the three input blocks, the seven result blocks, the five scratch buffers. -/
abbrev Point (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
    ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))

/-- A value for each contents of the blocks and scratch buffers as a point finds them. -/
abbrev Found (α : Type) : Type :=
  BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → α

/-- The condition under which the table of v's scales is cleared: the first point of the grid. -/
abbrev first : Prop :=
  Scalar.cmpi .ne (Scalar.extui (Scalar.andi (Scalar.cmpi .eq (BitVec.ofNat 32 (i 0).val) 0#32) (Scalar.cmpi .eq (BitVec.ofNat 32 (i 1).val) 0#32))) 0#32 = 1#1

set_option maxHeartbeats 4000000 in
/-- The first grid point, run. -/
@[irreducible] def pointFirst (hc : first i) (X2 : BufTy.Contents (Elt F) arg2.view.ty) (X3 : BufTy.Contents (Elt F) arg3.view.ty) (X4 : BufTy.Contents (Elt F) arg4.view.ty) :
    Σ' (g5 : Found (F := F) arg5 arg6 arg7 arg8 arg9 arg10 arg11 arg12 arg13 arg14 arg15 arg16 (BufTy.Contents (Elt F) arg5.view.ty)) (g6 : Found (F := F) arg5 arg6 arg7 arg8 arg9 arg10 arg11 arg12 arg13 arg14 arg15 arg16 (BufTy.Contents (Elt F) arg6.view.ty)) (g7 : Found (F := F) arg5 arg6 arg7 arg8 arg9 arg10 arg11 arg12 arg13 arg14 arg15 arg16 (BufTy.Contents (Elt F) arg7.view.ty)) (g8 : Found (F := F) arg5 arg6 arg7 arg8 arg9 arg10 arg11 arg12 arg13 arg14 arg15 arg16 (BufTy.Contents (Elt F) arg8.view.ty)) (g9 : Found (F := F) arg5 arg6 arg7 arg8 arg9 arg10 arg11 arg12 arg13 arg14 arg15 arg16 (BufTy.Contents (Elt F) arg9.view.ty)) (g10 : Found (F := F) arg5 arg6 arg7 arg8 arg9 arg10 arg11 arg12 arg13 arg14 arg15 arg16 (BufTy.Contents (Elt F) arg10.view.ty)),
      { g11 : Found (F := F) arg5 arg6 arg7 arg8 arg9 arg10 arg11 arg12 arg13 arg14 arg15 arg16 (BufTy.Contents (Elt F) arg11.view.ty) // ∀ (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
        Point (F := F) c arg2 arg3 arg4 arg5 arg6 arg7 arg8 arg9 arg10 arg11 arg12 arg13 arg14 arg15 arg16 X2 X3 X4 f5 f6 f7 f8 f9 f10 f11
        ⊢ wp frame (wpE (defs₀ (F := F)) 𝒱₀ (c : Thread nD τ) none) Set.univ (cc0_causal_fp8_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => iprop(∃ f12 f13 f14 f15 f16, Point (F := F) c arg2 arg3 arg4 arg5 arg6 arg7 arg8 arg9 arg10 arg11 arg12 arg13 arg14 arg15 arg16 X2 X3 X4 (g5 f5 f6 f7 f8 f9 f10 f11 f12 f13 f14 f15 f16) (g6 f5 f6 f7 f8 f9 f10 f11 f12 f13 f14 f15 f16) (g7 f5 f6 f7 f8 f9 f10 f11 f12 f13 f14 f15 f16) (g8 f5 f6 f7 f8 f9 f10 f11 f12 f13 f14 f15 f16) (g9 f5 f6 f7 f8 f9 f10 f11 f12 f13 f14 f15 f16) (g10 f5 f6 f7 f8 f9 f10 f11 f12 f13 f14 f15 f16) (g11 f5 f6 f7 f8 f9 f10 f11 f12 f13 f14 f15 f16))) } := by
  refine ⟨?_, ?_, ?_, ?_, ?_, ?_, ?_, fun f5 f6 f7 f8 f9 f10 f11 => ?run⟩
  case run =>
    iintro ⟨H2, H3, H4, H5, H6, H7, H8, H9, H10, H11, ⟨%f12, H12⟩, ⟨%f13, H13⟩, ⟨%f14, H14⟩, ⟨%f15, H15⟩, ⟨%f16, H16⟩⟩
    simp only [Gen.cc0_causal_fp8_attn_eq_skeleton]; unfold Gen.cc0_causal_fp8_attn_skel
    sl_exec_parts (disch := sl_exact hc)
    sl_step
    iexists f12, f13, f14, f15, f16
    sl_close

set_option maxHeartbeats 4000000 in
/-- Any other grid point, run. -/
@[irreducible] def pointRest (hc : ¬ first i) (X2 : BufTy.Contents (Elt F) arg2.view.ty) (X3 : BufTy.Contents (Elt F) arg3.view.ty) (X4 : BufTy.Contents (Elt F) arg4.view.ty) :
    Σ' (g5 : Found (F := F) arg5 arg6 arg7 arg8 arg9 arg10 arg11 arg12 arg13 arg14 arg15 arg16 (BufTy.Contents (Elt F) arg5.view.ty)) (g6 : Found (F := F) arg5 arg6 arg7 arg8 arg9 arg10 arg11 arg12 arg13 arg14 arg15 arg16 (BufTy.Contents (Elt F) arg6.view.ty)) (g7 : Found (F := F) arg5 arg6 arg7 arg8 arg9 arg10 arg11 arg12 arg13 arg14 arg15 arg16 (BufTy.Contents (Elt F) arg7.view.ty)) (g8 : Found (F := F) arg5 arg6 arg7 arg8 arg9 arg10 arg11 arg12 arg13 arg14 arg15 arg16 (BufTy.Contents (Elt F) arg8.view.ty)) (g9 : Found (F := F) arg5 arg6 arg7 arg8 arg9 arg10 arg11 arg12 arg13 arg14 arg15 arg16 (BufTy.Contents (Elt F) arg9.view.ty)) (g10 : Found (F := F) arg5 arg6 arg7 arg8 arg9 arg10 arg11 arg12 arg13 arg14 arg15 arg16 (BufTy.Contents (Elt F) arg10.view.ty)),
      { g11 : Found (F := F) arg5 arg6 arg7 arg8 arg9 arg10 arg11 arg12 arg13 arg14 arg15 arg16 (BufTy.Contents (Elt F) arg11.view.ty) // ∀ (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
        Point (F := F) c arg2 arg3 arg4 arg5 arg6 arg7 arg8 arg9 arg10 arg11 arg12 arg13 arg14 arg15 arg16 X2 X3 X4 f5 f6 f7 f8 f9 f10 f11
        ⊢ wp frame (wpE (defs₀ (F := F)) 𝒱₀ (c : Thread nD τ) none) Set.univ (cc0_causal_fp8_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => iprop(∃ f12 f13 f14 f15 f16, Point (F := F) c arg2 arg3 arg4 arg5 arg6 arg7 arg8 arg9 arg10 arg11 arg12 arg13 arg14 arg15 arg16 X2 X3 X4 (g5 f5 f6 f7 f8 f9 f10 f11 f12 f13 f14 f15 f16) (g6 f5 f6 f7 f8 f9 f10 f11 f12 f13 f14 f15 f16) (g7 f5 f6 f7 f8 f9 f10 f11 f12 f13 f14 f15 f16) (g8 f5 f6 f7 f8 f9 f10 f11 f12 f13 f14 f15 f16) (g9 f5 f6 f7 f8 f9 f10 f11 f12 f13 f14 f15 f16) (g10 f5 f6 f7 f8 f9 f10 f11 f12 f13 f14 f15 f16) (g11 f5 f6 f7 f8 f9 f10 f11 f12 f13 f14 f15 f16))) } := by
  refine ⟨?_, ?_, ?_, ?_, ?_, ?_, ?_, fun f5 f6 f7 f8 f9 f10 f11 => ?run⟩
  case run =>
    iintro ⟨H2, H3, H4, H5, H6, H7, H8, H9, H10, H11, ⟨%f12, H12⟩, ⟨%f13, H13⟩, ⟨%f14, H14⟩, ⟨%f15, H15⟩, ⟨%f16, H16⟩⟩
    simp only [Gen.cc0_causal_fp8_attn_eq_skeleton]; unfold Gen.cc0_causal_fp8_attn_skel
    sl_exec_parts (disch := sl_exact hc)
    sl_step
    iexists f12, f13, f14, f15, f16
    sl_close

end Cert.Proof.Kernel

end
-- ==== Proof.Launch.lean ====
/- The launch: every grid point's body run against the pipeline's staging buffers, and what the whole call leaves in its
   arrays, each result block tied to the point's run. -/
module

public import proofs.«01_k».proof.Proof.Gen.Kernel.Launch
public import proofs.«01_k».proof.Proof.Gen.Kernel.Points
public import proofs.«01_k».proof.Proof.Gen.Kernel.Frame
public import proofs.«01_k».proof.Proof.Point
public import Idealize.ShloMosaic.Lib.Pipeline.ArrRel

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

section Point

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- What running a grid point yields: each result block as a function of what the point finds, and the run itself. -/
abbrev Run (X2 : BufTy.Contents (Elt F) arg2.view.ty) (X3 : BufTy.Contents (Elt F) arg3.view.ty) (X4 : BufTy.Contents (Elt F) arg4.view.ty) : Type :=
    Σ' (g5 : Found (F := F) arg5 arg6 arg7 arg8 arg9 arg10 arg11 arg12 arg13 arg14 arg15 arg16 (BufTy.Contents (Elt F) arg5.view.ty)), Σ' (g6 : Found (F := F) arg5 arg6 arg7 arg8 arg9 arg10 arg11 arg12 arg13 arg14 arg15 arg16 (BufTy.Contents (Elt F) arg6.view.ty)), Σ' (g7 : Found (F := F) arg5 arg6 arg7 arg8 arg9 arg10 arg11 arg12 arg13 arg14 arg15 arg16 (BufTy.Contents (Elt F) arg7.view.ty)), Σ' (g8 : Found (F := F) arg5 arg6 arg7 arg8 arg9 arg10 arg11 arg12 arg13 arg14 arg15 arg16 (BufTy.Contents (Elt F) arg8.view.ty)), Σ' (g9 : Found (F := F) arg5 arg6 arg7 arg8 arg9 arg10 arg11 arg12 arg13 arg14 arg15 arg16 (BufTy.Contents (Elt F) arg9.view.ty)), Σ' (g10 : Found (F := F) arg5 arg6 arg7 arg8 arg9 arg10 arg11 arg12 arg13 arg14 arg15 arg16 (BufTy.Contents (Elt F) arg10.view.ty)),
      { g11 : Found (F := F) arg5 arg6 arg7 arg8 arg9 arg10 arg11 arg12 arg13 arg14 arg15 arg16 (BufTy.Contents (Elt F) arg11.view.ty) // ∀ (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
        Point (F := F) c arg2 arg3 arg4 arg5 arg6 arg7 arg8 arg9 arg10 arg11 arg12 arg13 arg14 arg15 arg16 X2 X3 X4 f5 f6 f7 f8 f9 f10 f11
        ⊢ wp frame (wpE (defs₀ (F := F)) 𝒱₀ (c : Thread nD τ) none) Set.univ (cc0_causal_fp8_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => iprop(∃ f12 f13 f14 f15 f16, Point (F := F) c arg2 arg3 arg4 arg5 arg6 arg7 arg8 arg9 arg10 arg11 arg12 arg13 arg14 arg15 arg16 X2 X3 X4 (g5 f5 f6 f7 f8 f9 f10 f11 f12 f13 f14 f15 f16) (g6 f5 f6 f7 f8 f9 f10 f11 f12 f13 f14 f15 f16) (g7 f5 f6 f7 f8 f9 f10 f11 f12 f13 f14 f15 f16) (g8 f5 f6 f7 f8 f9 f10 f11 f12 f13 f14 f15 f16) (g9 f5 f6 f7 f8 f9 f10 f11 f12 f13 f14 f15 f16) (g10 f5 f6 f7 f8 f9 f10 f11 f12 f13 f14 f15 f16) (g11 f5 f6 f7 f8 f9 f10 f11 f12 f13 f14 f15 f16))) }

open Classical in
/-- A grid point, run: the first one, or any other. -/
def point (X2 : BufTy.Contents (Elt F) arg2.view.ty) (X3 : BufTy.Contents (Elt F) arg3.view.ty) (X4 : BufTy.Contents (Elt F) arg4.view.ty) : Run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 :=
  if hc : first i then pointFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 else pointRest (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4

/-- What a point may leave in the block of the output: `X`, if it found `Y` there and `x`, `k`, `v` are its input blocks. -/
def Left5 (x : S1x4096x128.Idx → Elt F .bf16) (k : S1x4096x128.Idx → Elt F .bf16) (v : S1x4096x128.Idx → Elt F .bf16) (Y X : S1x4096x128.Idx → Elt F .bf16) : Prop :=
  ∃ (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
    arg2.view.read (Elt F) X2 = x ∧ arg3.view.read (Elt F) X3 = k ∧ arg4.view.read (Elt F) X4 = v
      ∧ arg5.view.read (Elt F) f5 = Y
      ∧ arg5.view.read (Elt F) ((point (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).1 f5 f6 f7 f8 f9 f10 f11 f12 f13 f14 f15 f16) = X

/-- What a point may leave in the block of q's codes: `X`, if it found `Y` there and `x`, `k`, `v` are its input blocks. -/
def Left6 (x : S1x4096x128.Idx → Elt F .bf16) (k : S1x4096x128.Idx → Elt F .bf16) (v : S1x4096x128.Idx → Elt F .bf16) (Y X : S1x4096x128.Idx → Elt F .fp8e4m3) : Prop :=
  ∃ (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
    arg2.view.read (Elt F) X2 = x ∧ arg3.view.read (Elt F) X3 = k ∧ arg4.view.read (Elt F) X4 = v
      ∧ arg6.view.read (Elt F) f6 = Y
      ∧ arg6.view.read (Elt F) ((point (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.1 f5 f6 f7 f8 f9 f10 f11 f12 f13 f14 f15 f16) = X

/-- What a point may leave in the block of q's scales: `X`, if it found `Y` there and `x`, `k`, `v` are its input blocks. -/
def Left7 (x : S1x4096x128.Idx → Elt F .bf16) (k : S1x4096x128.Idx → Elt F .bf16) (v : S1x4096x128.Idx → Elt F .bf16) (Y X : S1x16x32.Idx → Elt F .f32) : Prop :=
  ∃ (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
    arg2.view.read (Elt F) X2 = x ∧ arg3.view.read (Elt F) X3 = k ∧ arg4.view.read (Elt F) X4 = v
      ∧ arg7.view.read (Elt F) f7 = Y
      ∧ arg7.view.read (Elt F) ((point (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.1 f5 f6 f7 f8 f9 f10 f11 f12 f13 f14 f15 f16) = X

/-- What a point may leave in the block of k's codes: `X`, if it found `Y` there and `x`, `k`, `v` are its input blocks. -/
def Left8 (x : S1x4096x128.Idx → Elt F .bf16) (k : S1x4096x128.Idx → Elt F .bf16) (v : S1x4096x128.Idx → Elt F .bf16) (Y X : S1x4096x128.Idx → Elt F .fp8e4m3) : Prop :=
  ∃ (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
    arg2.view.read (Elt F) X2 = x ∧ arg3.view.read (Elt F) X3 = k ∧ arg4.view.read (Elt F) X4 = v
      ∧ arg8.view.read (Elt F) f8 = Y
      ∧ arg8.view.read (Elt F) ((point (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.1 f5 f6 f7 f8 f9 f10 f11 f12 f13 f14 f15 f16) = X

/-- What a point may leave in the block of k's scales: `X`, if it found `Y` there and `x`, `k`, `v` are its input blocks. -/
def Left9 (x : S1x4096x128.Idx → Elt F .bf16) (k : S1x4096x128.Idx → Elt F .bf16) (v : S1x4096x128.Idx → Elt F .bf16) (Y X : S1x16x32.Idx → Elt F .f32) : Prop :=
  ∃ (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
    arg2.view.read (Elt F) X2 = x ∧ arg3.view.read (Elt F) X3 = k ∧ arg4.view.read (Elt F) X4 = v
      ∧ arg9.view.read (Elt F) f9 = Y
      ∧ arg9.view.read (Elt F) ((point (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.2.1 f5 f6 f7 f8 f9 f10 f11 f12 f13 f14 f15 f16) = X

/-- What a point may leave in the block of v's codes: `X`, if it found `Y` there and `x`, `k`, `v` are its input blocks. -/
def Left10 (x : S1x4096x128.Idx → Elt F .bf16) (k : S1x4096x128.Idx → Elt F .bf16) (v : S1x4096x128.Idx → Elt F .bf16) (Y X : S1x4096x128.Idx → Elt F .fp8e4m3) : Prop :=
  ∃ (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
    arg2.view.read (Elt F) X2 = x ∧ arg3.view.read (Elt F) X3 = k ∧ arg4.view.read (Elt F) X4 = v
      ∧ arg10.view.read (Elt F) f10 = Y
      ∧ arg10.view.read (Elt F) ((point (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.2.2.1 f5 f6 f7 f8 f9 f10 f11 f12 f13 f14 f15 f16) = X

/-- What a point may leave in the block of v's scales: `X`, if it found `Y` there and `x`, `k`, `v` are its input blocks. -/
def Left11 (x : S1x4096x128.Idx → Elt F .bf16) (k : S1x4096x128.Idx → Elt F .bf16) (v : S1x4096x128.Idx → Elt F .bf16) (Y X : S8x16.Idx → Elt F .f32) : Prop :=
  ∃ (X2 : BufTy.Contents (Elt F) arg2.view.ty) (X3 : BufTy.Contents (Elt F) arg3.view.ty) (X4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
    arg2.view.read (Elt F) X2 = x ∧ arg3.view.read (Elt F) X3 = k ∧ arg4.view.read (Elt F) X4 = v
      ∧ arg11.view.read (Elt F) f11 = Y
      ∧ arg11.view.read (Elt F) ((point (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.2.2.2.1 f5 f6 f7 f8 f9 f10 f11 f12 f13 f14 f15 f16) = X

/-- A grid point over owned blocks: the inputs come back as they were, each result block related to what was found. -/
theorem point_owns (x : S1x4096x128.Idx → Elt F .bf16) (k : S1x4096x128.Idx → Elt F .bf16) (v : S1x4096x128.Idx → Elt F .bf16) (Y5 : S1x4096x128.Idx → Elt F .bf16) (Y6 : S1x4096x128.Idx → Elt F .fp8e4m3) (Y7 : S1x16x32.Idx → Elt F .f32) (Y8 : S1x4096x128.Idx → Elt F .fp8e4m3) (Y9 : S1x16x32.Idx → Elt F .f32) (Y10 : S1x4096x128.Idx → Elt F .fp8e4m3) (Y11 : S8x16.Idx → Elt F .f32) :
    (iprop((owns (c : Thread nD τ) arg2 fullShare x ∗ owns (c : Thread nD τ) arg3 fullShare k ∗ owns (c : Thread nD τ) arg4 fullShare v ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))) : sProp 𝕄)
      ⊢ wp frame (wpE (defs₀ (F := F)) 𝒱₀ (c : Thread nD τ) none) Set.univ (cc0_causal_fp8_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop((owns (c : Thread nD τ) arg2 fullShare x ∗ owns (c : Thread nD τ) arg3 fullShare k ∗ owns (c : Thread nD τ) arg4 fullShare v ∗ (∃ X, ⌜Left5 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y5 X⌝ ∗ owns (c : Thread nD τ) arg5 fullShare X) ∗ (∃ X, ⌜Left6 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y6 X⌝ ∗ owns (c : Thread nD τ) arg6 fullShare X) ∗ (∃ X, ⌜Left7 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y7 X⌝ ∗ owns (c : Thread nD τ) arg7 fullShare X) ∗ (∃ X, ⌜Left8 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y8 X⌝ ∗ owns (c : Thread nD τ) arg8 fullShare X) ∗ (∃ X, ⌜Left9 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y9 X⌝ ∗ owns (c : Thread nD τ) arg9 fullShare X) ∗ (∃ X, ⌜Left10 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y10 X⌝ ∗ owns (c : Thread nD τ) arg10 fullShare X) ∗ (∃ X, ⌜Left11 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y11 X⌝ ∗ owns (c : Thread nD τ) arg11 fullShare X)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))) := by
  unfold owns
  iintro ⟨⟨⟨%X2, %h2, H2⟩, ⟨%X3, %h3, H3⟩, ⟨%X4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩⟩, H12, H13, H14, H15, H16⟩
  iapply (wp_wand_r frame (wpE (defs₀ (F := F)) 𝒱₀ (c : Thread nD τ) none) Set.univ)
  isplitl [H2 H3 H4 H5 H6 H7 H8 H9 H10 H11 H12 H13 H14 H15 H16]
  · iapply ((point (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.2.2.2.2 f5 f6 f7 f8 f9 f10 f11)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %r ⟨%f12, %f13, %f14, %f15, %f16, H2, H3, H4, H5, H6, H7, H8, H9, H10, H11, H12, H13, H14, H15, H16⟩
  isplitl [H2 H3 H4 H5 H6 H7 H8 H9 H10 H11]
  · isplitl [H2]
    · iexists X2; isplitr; · ipureintro; exact h2
      iexact H2
    isplitl [H3]
    · iexists X3; isplitr; · ipureintro; exact h3
      iexact H3
    isplitl [H4]
    · iexists X4; isplitr; · ipureintro; exact h4
      iexact H4
    isplitl [H5]
    · iexists _; isplitr; · ipureintro; exact ⟨X2, X3, X4, f5, f6, f7, f8, f9, f10, f11, f12, f13, f14, f15, f16, h2, h3, h4, h5, rfl⟩
      iexists _; isplitr; · ipureintro; rfl
      iexact H5
    isplitl [H6]
    · iexists _; isplitr; · ipureintro; exact ⟨X2, X3, X4, f5, f6, f7, f8, f9, f10, f11, f12, f13, f14, f15, f16, h2, h3, h4, h6, rfl⟩
      iexists _; isplitr; · ipureintro; rfl
      iexact H6
    isplitl [H7]
    · iexists _; isplitr; · ipureintro; exact ⟨X2, X3, X4, f5, f6, f7, f8, f9, f10, f11, f12, f13, f14, f15, f16, h2, h3, h4, h7, rfl⟩
      iexists _; isplitr; · ipureintro; rfl
      iexact H7
    isplitl [H8]
    · iexists _; isplitr; · ipureintro; exact ⟨X2, X3, X4, f5, f6, f7, f8, f9, f10, f11, f12, f13, f14, f15, f16, h2, h3, h4, h8, rfl⟩
      iexists _; isplitr; · ipureintro; rfl
      iexact H8
    isplitl [H9]
    · iexists _; isplitr; · ipureintro; exact ⟨X2, X3, X4, f5, f6, f7, f8, f9, f10, f11, f12, f13, f14, f15, f16, h2, h3, h4, h9, rfl⟩
      iexists _; isplitr; · ipureintro; rfl
      iexact H9
    isplitl [H10]
    · iexists _; isplitr; · ipureintro; exact ⟨X2, X3, X4, f5, f6, f7, f8, f9, f10, f11, f12, f13, f14, f15, f16, h2, h3, h4, h10, rfl⟩
      iexists _; isplitr; · ipureintro; rfl
      iexact H10
    iexists _; isplitr; · ipureintro; exact ⟨X2, X3, X4, f5, f6, f7, f8, f9, f10, f11, f12, f13, f14, f15, f16, h2, h3, h4, h11, rfl⟩
    iexists _; isplitr; · ipureintro; rfl
    iexact H11
  isplitl [H12]; · iexact H12
  isplitl [H13]; · iexact H13
  isplitl [H14]; · iexact H14
  isplitl [H15]; · iexact H15
  iexact H16

end Point

section Launch

variable (m : (ℓ : Loc nD τ sig) → Buf (Elt F) ℓ) (ρ : Dev nD → PrngReg)

/-- What the pipeline's proof speaks of on core `c`: the arrays as launched, and each result block as a point may leave it. -/
def rdat (c : Dev nD) : RDat τ (Elt F) Unit ℕ (UR sig nD τ) ℕ cfg0 c where
  A w := Gen.V m c (Pipeline.arrRef spec0 w)
  after := fun
    | 0 => fun _ _ _ => True | 1 => fun _ _ _ => True | 2 => fun _ _ _ => True
    | 3 => fun t Y X => Left5 (F := F) c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 4 => fun t Y X => Left6 (F := F) c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 5 => fun t Y X => Left7 (F := F) c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 6 => fun t Y X => Left8 (F := F) c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 7 => fun t Y X => Left9 (F := F) c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 8 => fun t Y X => Left10 (F := F) c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 9 => fun t Y X => Left11 (F := F) c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | ⟨_ + 10, h⟩ => absurd h (Nat.not_lt.2 (Nat.le_add_left _ _))
  Φ _ := Pipeline.ΦA spec0 c
  q _ := fullShare
  owed _ := 0

/-- The body table's row at a point is the body at that point. -/
theorem defs₀_row (t : Fin cfg0.N) : defs₀ (F := F) .tc cfg0.body (cfg0.bodyArgs t (cfg0.slots t)) = Gen.bodyAt0 t := by
  unfold defs₀; rw [Defs.onTc_tc]

/-- Input window 0 holds its block of the array at every point. -/
theorem finds_0 (c : Dev nD) (t : Fin cfg0.N) (X) (h : (rdat (F := F) m c).Finds 0 t X) : X = Gen.iblk m c 0 t := by
  obtain ⟨d, rfl⟩ := ((rdat (F := F) m c).finds_of_fetch (Gen.fetch0_0 t) X).mp h
  unfold RDat.fetched RDat.blockOf Gen.iblk; rfl

/-- Input window 1 holds its block of the array at every point. -/
theorem finds_1 (c : Dev nD) (t : Fin cfg0.N) (X) (h : (rdat (F := F) m c).Finds 1 t X) : X = Gen.iblk m c 1 t := by
  obtain ⟨d, rfl⟩ := ((rdat (F := F) m c).finds_of_fetch (Gen.fetch0_1 t) X).mp h
  unfold RDat.fetched RDat.blockOf Gen.iblk; rfl

/-- Input window 2 holds its block of the array at every point. -/
theorem finds_2 (c : Dev nD) (t : Fin cfg0.N) (X) (h : (rdat (F := F) m c).Finds 2 t X) : X = Gen.iblk m c 2 t := by
  obtain ⟨d, rfl⟩ := ((rdat (F := F) m c).finds_of_fetch (Gen.fetch0_2 t) X).mp h
  unfold RDat.fetched RDat.blockOf Gen.iblk; rfl

/-- The body's obligation: at every point, from blocks as found to blocks as left. -/
theorem body_obligation (c : Dev nD) : (rdat (F := F) m c).BodyObligation (defs₀ (F := F)) 𝒱₀ () Set.univ := fun t Y hY => by
  rw [Gen.bigSep_W0, Gen.bigSep_W0, defs₀_row]
  have e0 := finds_0 m c t _ (hY 0)
  have e1 := finds_1 m c t _ (hY 1)
  have e2 := finds_2 m c t _ (hY 2)
  rw [show (rdat (F := F) m c).Φ t.castSucc = Pipeline.ΦA spec0 c from rfl, show (rdat (F := F) m c).Φ t.succ = Pipeline.ΦA spec0 c from rfl,
    show (rdat (F := F) m c).owesAt () t.succ = (rdat (F := F) m c).owesAt () t.castSucc from rfl]
  unfold Pipeline.ΦA
  rw [Gen.scopedRest0_eq]
  have hrun := point_owns (F := F) c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) (Y 3) (Y 4) (Y 5) (Y 6) (Y 7) (Y 8) (Y 9)
  simp only [Memref.view_whole, View.set_whole] at hrun
  iintro ⟨⟨⟨HS0, HS1, HS2, HS3, HS4⟩, Hg⟩, HO, H0, H1, H2, H3, H4, H5, H6, H7, H8, H9⟩
  iapply (wp_wand_r frame (wpE (defs₀ (F := F)) 𝒱₀ (c : Thread nD τ) none) Set.univ)
  isplitl [HS0 HS1 HS2 HS3 HS4 H0 H1 H2 H3 H4 H5 H6 H7 H8 H9]
  · iapply hrun
    isplitl [H0 H1 H2 H3 H4 H5 H6 H7 H8 H9]
    · rw [e0, e1, e2]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS0]; · iexact HS0
    isplitl [HS1]; · iexact HS1
    isplitl [HS2]; · iexact HS2
    isplitl [HS3]; · iexact HS3
    iexact HS4
  iintro %r ⟨⟨H0, H1, H2, H3, H4, H5, H6, H7, H8, H9⟩, HS0, HS1, HS2, HS3, HS4⟩
  isplitl [HS0 HS1 HS2 HS3 HS4 Hg]
  · isplitr [Hg]; swap; · iexact Hg
    isplitl [HS0]; · iexact HS0
    isplitl [HS1]; · iexact HS1
    isplitl [HS2]; · iexact HS2
    isplitl [HS3]; · iexact HS3
    iexact HS4
  isplitl [HO]; · iexact HO
  isplitl [H0]
  · iexists (Gen.iblk m c 0 t); isplitr; · ipureintro; exact True.intro
    iexact H0
  isplitl [H1]
  · iexists (Gen.iblk m c 1 t); isplitr; · ipureintro; exact True.intro
    iexact H1
  isplitl [H2]
  · iexists (Gen.iblk m c 2 t); isplitr; · ipureintro; exact True.intro
    iexact H2
  isplitl [H3]; · iexact H3
  isplitl [H4]; · iexact H4
  isplitl [H5]; · iexact H5
  isplitl [H6]; · iexact H6
  isplitl [H7]; · iexact H7
  isplitl [H8]; · iexact H8
  iexact H9

-- the run's implicit arguments are found by unifying its conclusion with this statement, which takes unfolding plain
-- definitions in a metavariable's type
set_option backward.isDefEq.respectTransparency.types false in
/-- The call, run: every array ends as its blocks were left, and every semaphore counter at zero. -/
theorem run_main :
    θ_run defs (onTc (τ := τ) (main (F := F))) (s₀ m ρ)
      (fun r => RDat.FramePost (cfgs 0) (fun c => rdat (F := F) m c) (Gen.V m) r ∧ r.2.sem = fun _ => 0) :=
  RDat.θ_run_frame (Q' := _) cfgs (0 : Fin 1) Gen.launch0 defs₀ 𝒱₀ (fun c => rdat (F := F) m c) m ρ main
    (hbody := fun c => body_obligation m c) (hshare := fun c => (rdat (F := F) m c).share_full fun _ => rfl)
    (howed := fun _ _ => rfl) (V := Gen.V m) (hmain := Gen.hmain m 𝒱₀) (hA := fun _ _ => rfl) (hΦ := fun _ _ => rfl)

variable {m ρ}

/-- Argument 0 ends as launched. -/
theorem final_arg0 {r : PUnit × MemSt nD τ sig (Elt F)} (h : RDat.FramePost (cfgs 0) (fun c => rdat (F := F) m c) (Gen.V m) r) (c : Dev nD) :
    r.2.mem ((c : Thread nD τ).loc main_arg0) = m ((c : Thread nD τ).loc main_arg0) :=
  h.arr_in c 0 rfl

/-- Argument 1 ends as launched. -/
theorem final_arg1 {r : PUnit × MemSt nD τ sig (Elt F)} (h : RDat.FramePost (cfgs 0) (fun c => rdat (F := F) m c) (Gen.V m) r) (c : Dev nD) :
    r.2.mem ((c : Thread nD τ).loc main_arg1) = m ((c : Thread nD τ).loc main_arg1) :=
  h.arr_in c 1 rfl

/-- Argument 2 ends as launched. -/
theorem final_arg2 {r : PUnit × MemSt nD τ sig (Elt F)} (h : RDat.FramePost (cfgs 0) (fun c => rdat (F := F) m c) (Gen.V m) r) (c : Dev nD) :
    r.2.mem ((c : Thread nD τ).loc main_arg2) = m ((c : Thread nD τ).loc main_arg2) :=
  h.arr_in c 2 rfl

end Launch

end Cert.Proof.Kernel

end
-- ==== Proof.QueryIdeal.lean ====
/- One pass of the loop over the query blocks: sixteen blocks of 256 rows, each going through the key blocks at or before it. -/
module

public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev 𝒱₀ : Variants := Variants.none

local notation "𝕄" => MT nD τ sig Unit (Elt Ideal) ℕ (UR sig nD τ) ℕ

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)
  (v40 : FVec Ideal S1x1 .f32)

/-- What a query block touches: it reads the codes of q and k, the transposed codes of v and the two scale tables, and
    writes the result block, the exponentials and the running maxima. -/
abbrev Query (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (f5 : BufTy.Contents (Elt Ideal) arg5.view.ty) (f15 : BufTy.Contents (Elt Ideal) arg15.view.ty) (f16 : BufTy.Contents (Elt Ideal) arg16.view.ty) : sProp 𝕄 :=
  iprop((arg6.view.loc (c : Thread nD τ) ↦[arg6.view.set]{fullShare} X6) ∗ (arg8.view.loc (c : Thread nD τ) ↦[arg8.view.set]{fullShare} X8) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg5.view.loc (c : Thread nD τ) ↦[arg5.view.set]{fullShare} f5) ∗ (arg15.view.loc (c : Thread nD τ) ↦[arg15.view.set]{fullShare} f15) ∗ (arg16.view.loc (c : Thread nD τ) ↦[arg16.view.set]{fullShare} f16))

set_option maxHeartbeats 4000000 in
/-- One query block, run: the rows it writes into the result and the two scratch tables as it leaves them. -/
@[irreducible] def query (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (k : Fin k0_t4_loop.trips) :
    Σ' (L5 : BufTy.Contents (Elt Ideal) arg15.view.ty → BufTy.Contents (Elt Ideal) arg16.view.ty → List (View.Piece (Elt Ideal) S1x4096x128 .bf16)) (g15 : BufTy.Contents (Elt Ideal) arg15.view.ty → BufTy.Contents (Elt Ideal) arg16.view.ty → BufTy.Contents (Elt Ideal) arg15.view.ty),
      { g16 : BufTy.Contents (Elt Ideal) arg15.view.ty → BufTy.Contents (Elt Ideal) arg16.view.ty → BufTy.Contents (Elt Ideal) arg16.view.ty // ∀ (f5 : BufTy.Contents (Elt Ideal) arg5.view.ty) (f15 : BufTy.Contents (Elt Ideal) arg15.view.ty) (f16 : BufTy.Contents (Elt Ideal) arg16.view.ty) (acc : Unit),
        Query c arg5 arg6 arg8 arg12 arg13 arg14 arg15 arg16 X6 X8 X12 X13 X14 f5 f15 f16
        ⊢ wp frame (wpE (defs₀ (F := Ideal)) 𝒱₀ (c : Thread nD τ) none) Set.univ (Gen.k0_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 v40 k acc)
            (fun _ => Query c arg5 arg6 arg8 arg12 arg13 arg14 arg15 arg16 X6 X8 X12 X13 X14 (arg5.view.writes (Elt Ideal) f5 (L5 f15 f16)) (g15 f15 f16) (g16 f15 f16)) } := by
  have hk : k.val < 16 := Nat.lt_of_lt_of_le k.isLt Gen.k0_t4_abs.2.1
  refine ⟨?_, ?_, ?_, fun f5 f15 f16 acc => ?run⟩
  case run =>
    unfold Gen.k0_t4_body
    rw [Gen.k0_part7_eq_skeleton (F := Ideal)]
    iintro ⟨H6, H8, H12, H13, H14, H5, H15, H16⟩
    sl_exec
    sl_step
    sl_close

/-- What the result block has received and what the two scratch tables hold before query block `k`, from the tables at
    loop entry. -/
def queries (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (G15 : BufTy.Contents (Elt Ideal) arg15.view.ty) (G16 : BufTy.Contents (Elt Ideal) arg16.view.ty) :
    ℕ → List (View.Piece (Elt Ideal) S1x4096x128 .bf16) × BufTy.Contents (Elt Ideal) arg15.view.ty × BufTy.Contents (Elt Ideal) arg16.view.ty
  | 0 => ([], G15, G16)
  | k + 1 =>
    if h : k < k0_t4_loop.trips then
      let s := queries X6 X8 X12 X13 X14 G15 G16 k
      let q := query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 ⟨k, h⟩
      (q.1 s.2.1 s.2.2 ++ s.1, q.2.1 s.2.1 s.2.2, q.2.2.1 s.2.1 s.2.2)
    else queries X6 X8 X12 X13 X14 G15 G16 k

theorem queries_succ (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (G15 : BufTy.Contents (Elt Ideal) arg15.view.ty) (G16 : BufTy.Contents (Elt Ideal) arg16.view.ty) (k : Fin k0_t4_loop.trips) :
    queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 (k.val + 1)
      = ((query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 k).1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.2
          ++ (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).1,
        (query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 k).2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.2,
        (query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 k).2.2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k.val).2.2) := by
  rw [queries.eq_2]; exact dif_pos k.isLt

/-- The state of the memory before query block `k`. -/
abbrev queryInv (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (G5 : BufTy.Contents (Elt Ideal) arg5.view.ty) (G15 : BufTy.Contents (Elt Ideal) arg15.view.ty) (G16 : BufTy.Contents (Elt Ideal) arg16.view.ty) (k : ℕ) (_ : Unit) : sProp 𝕄 :=
  iprop((arg6.view.loc (c : Thread nD τ) ↦[arg6.view.set]{fullShare} X6) ∗ (arg8.view.loc (c : Thread nD τ) ↦[arg8.view.set]{fullShare} X8) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)
    ∗ (∃ f, (arg5.view.loc (c : Thread nD τ) ↦[arg5.view.set]{fullShare} f) ∗ ⌜f = arg5.view.writes (Elt Ideal) G5 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k).1⌝)
    ∗ (∃ f, (arg15.view.loc (c : Thread nD τ) ↦[arg15.view.set]{fullShare} f) ∗ ⌜f = (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k).2.1⌝)
    ∗ (∃ f, (arg16.view.loc (c : Thread nD τ) ↦[arg16.view.set]{fullShare} f) ∗ ⌜f = (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 k).2.2⌝))

set_option warn.classDefReducibility false in
/-- The loop over the query blocks, by its invariant. -/
@[sl_loop] def loopInv_k0_t4 (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty) (G5 : BufTy.Contents (Elt Ideal) arg5.view.ty) (G15 : BufTy.Contents (Elt Ideal) arg15.view.ty) (G16 : BufTy.Contents (Elt Ideal) arg16.view.ty) :
    Gen.LoopInvTy_k0_t4 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 v40 where
  inv := queryInv c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G5 G15 G16
  step k acc := by
    iintro ⟨H6, H8, H12, H13, H14, ⟨%f5, H5, %h5⟩, ⟨%f15, H15, %h15⟩, ⟨%f16, H16, %h16⟩⟩
    iapply (wp_wand_r Idealize.ShloMosaic.frame (wpE (defs₀ (F := Ideal)) 𝒱₀ (c : Thread nD τ) none) Set.univ)
    isplitl [H6 H8 H12 H13 H14 H5 H15 H16]
    · iapply ((query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 k).2.2.2 f5 f15 f16 acc)
      isplitl [H6]; · iexact H6
      isplitl [H8]; · iexact H8
      isplitl [H12]; · iexact H12
      isplitl [H13]; · iexact H13
      isplitl [H14]; · iexact H14
      isplitl [H5]; · iexact H5
      isplitl [H15]; · iexact H15
      iexact H16
    · iintro %yld ⟨H6, H8, H12, H13, H14, H5, H15, H16⟩
      subst h15 h16
      isplitl [H6]; · iexact H6
      isplitl [H8]; · iexact H8
      isplitl [H12]; · iexact H12
      isplitl [H13]; · iexact H13
      isplitl [H14]; · iexact H14
      simp only [queries_succ]
      isplitl [H5]
      · iexists _; isplitl [H5]; · iexact H5
        ipureintro; rw [h5, ← View.writes_append]
      isplitl [H15]
      · iexists _; isplitl [H15]; · iexact H15
        ipureintro; rfl
      · iexists _; isplitl [H16]; · iexact H16
        ipureintro; rfl

end Cert.Proof.KernelIdeal

end
-- ==== Proof.PointIdeal.lean ====
/- One grid point of the kernel: what it leaves in each of the seven result blocks. -/
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.QueryIdeal

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- What a grid point holds: the three input blocks, the seven result blocks, the five scratch buffers. -/
abbrev Point (X2 : BufTy.Contents (Elt Ideal) arg2.view.ty) (X3 : BufTy.Contents (Elt Ideal) arg3.view.ty) (X4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
    ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))

/-- A value for each contents of the blocks and scratch buffers as a point finds them. -/
abbrev Found (α : Type) : Type :=
  BufTy.Contents (Elt Ideal) arg5.view.ty → BufTy.Contents (Elt Ideal) arg6.view.ty → BufTy.Contents (Elt Ideal) arg7.view.ty → BufTy.Contents (Elt Ideal) arg8.view.ty → BufTy.Contents (Elt Ideal) arg9.view.ty → BufTy.Contents (Elt Ideal) arg10.view.ty → BufTy.Contents (Elt Ideal) arg11.view.ty → BufTy.Contents (Elt Ideal) arg12.view.ty → BufTy.Contents (Elt Ideal) arg13.view.ty → BufTy.Contents (Elt Ideal) arg14.view.ty → BufTy.Contents (Elt Ideal) arg15.view.ty → BufTy.Contents (Elt Ideal) arg16.view.ty → α

/-- The condition under which the table of v's scales is cleared: the first point of the grid. -/
abbrev first : Prop :=
  Scalar.cmpi .ne (Scalar.extui (Scalar.andi (Scalar.cmpi .eq (BitVec.ofNat 32 (i 0).val) 0#32) (Scalar.cmpi .eq (BitVec.ofNat 32 (i 1).val) 0#32))) 0#32 = 1#1

set_option maxHeartbeats 4000000 in
/-- The first grid point, run. -/
@[irreducible] def pointFirst (hc : first i) (X2 : BufTy.Contents (Elt Ideal) arg2.view.ty) (X3 : BufTy.Contents (Elt Ideal) arg3.view.ty) (X4 : BufTy.Contents (Elt Ideal) arg4.view.ty) :
    Σ' (g5 : Found arg5 arg6 arg7 arg8 arg9 arg10 arg11 arg12 arg13 arg14 arg15 arg16 (BufTy.Contents (Elt Ideal) arg5.view.ty)) (g6 : Found arg5 arg6 arg7 arg8 arg9 arg10 arg11 arg12 arg13 arg14 arg15 arg16 (BufTy.Contents (Elt Ideal) arg6.view.ty)) (g7 : Found arg5 arg6 arg7 arg8 arg9 arg10 arg11 arg12 arg13 arg14 arg15 arg16 (BufTy.Contents (Elt Ideal) arg7.view.ty)) (g8 : Found arg5 arg6 arg7 arg8 arg9 arg10 arg11 arg12 arg13 arg14 arg15 arg16 (BufTy.Contents (Elt Ideal) arg8.view.ty)) (g9 : Found arg5 arg6 arg7 arg8 arg9 arg10 arg11 arg12 arg13 arg14 arg15 arg16 (BufTy.Contents (Elt Ideal) arg9.view.ty)) (g10 : Found arg5 arg6 arg7 arg8 arg9 arg10 arg11 arg12 arg13 arg14 arg15 arg16 (BufTy.Contents (Elt Ideal) arg10.view.ty)),
      { g11 : Found arg5 arg6 arg7 arg8 arg9 arg10 arg11 arg12 arg13 arg14 arg15 arg16 (BufTy.Contents (Elt Ideal) arg11.view.ty) // ∀ (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty),
        Point c arg2 arg3 arg4 arg5 arg6 arg7 arg8 arg9 arg10 arg11 arg12 arg13 arg14 arg15 arg16 X2 X3 X4 f5 f6 f7 f8 f9 f10 f11
        ⊢ wp frame (wpE (defs₀ (F := Ideal)) 𝒱₀ (c : Thread nD τ) none) Set.univ (cc0_causal_fp8_attn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => iprop(∃ f12 f13 f14 f15 f16, Point c arg2 arg3 arg4 arg5 arg6 arg7 arg8 arg9 arg10 arg11 arg12 arg13 arg14 arg15 arg16 X2 X3 X4 (g5 f5 f6 f7 f8 f9 f10 f11 f12 f13 f14 f15 f16) (g6 f5 f6 f7 f8 f9 f10 f11 f12 f13 f14 f15 f16) (g7 f5 f6 f7 f8 f9 f10 f11 f12 f13 f14 f15 f16) (g8 f5 f6 f7 f8 f9 f10 f11 f12 f13 f14 f15 f16) (g9 f5 f6 f7 f8 f9 f10 f11 f12 f13 f14 f15 f16) (g10 f5 f6 f7 f8 f9 f10 f11 f12 f13 f14 f15 f16) (g11 f5 f6 f7 f8 f9 f10 f11 f12 f13 f14 f15 f16))) } := by
  refine ⟨?_, ?_, ?_, ?_, ?_, ?_, ?_, fun f5 f6 f7 f8 f9 f10 f11 => ?run⟩
  case run =>
    iintro ⟨H2, H3, H4, H5, H6, H7, H8, H9, H10, H11, ⟨%f12, H12⟩, ⟨%f13, H13⟩, ⟨%f14, H14⟩, ⟨%f15, H15⟩, ⟨%f16, H16⟩⟩
    simp only [Gen.cc0_causal_fp8_attn_eq_skeleton]; unfold Gen.cc0_causal_fp8_attn_skel
    rw [Gen.k0_part8_eq_skeleton (F := Ideal), Gen.k0_part9_eq_skeleton (F := Ideal)]
    sl_exec_parts (disch := sl_exact hc)
    sl_step
    iexists f12, f13, f14, f15, f16
    sl_close

set_option maxHeartbeats 4000000 in
/-- Any other grid point, run. -/
@[irreducible] def pointRest (hc : ¬ first i) (X2 : BufTy.Contents (Elt Ideal) arg2.view.ty) (X3 : BufTy.Contents (Elt Ideal) arg3.view.ty) (X4 : BufTy.Contents (Elt Ideal) arg4.view.ty) :
    Σ' (g5 : Found arg5 arg6 arg7 arg8 arg9 arg10 arg11 arg12 arg13 arg14 arg15 arg16 (BufTy.Contents (Elt Ideal) arg5.view.ty)) (g6 : Found arg5 arg6 arg7 arg8 arg9 arg10 arg11 arg12 arg13 arg14 arg15 arg16 (BufTy.Contents (Elt Ideal) arg6.view.ty)) (g7 : Found arg5 arg6 arg7 arg8 arg9 arg10 arg11 arg12 arg13 arg14 arg15 arg16 (BufTy.Contents (Elt Ideal) arg7.view.ty)) (g8 : Found arg5 arg6 arg7 arg8 arg9 arg10 arg11 arg12 arg13 arg14 arg15 arg16 (BufTy.Contents (Elt Ideal) arg8.view.ty)) (g9 : Found arg5 arg6 arg7 arg8 arg9 arg10 arg11 arg12 arg13 arg14 arg15 arg16 (BufTy.Contents (Elt Ideal) arg9.view.ty)) (g10 : Found arg5 arg6 arg7 arg8 arg9 arg10 arg11 arg12 arg13 arg14 arg15 arg16 (BufTy.Contents (Elt Ideal) arg10.view.ty)),
      { g11 : Found arg5 arg6 arg7 arg8 arg9 arg10 arg11 arg12 arg13 arg14 arg15 arg16 (BufTy.Contents (Elt Ideal) arg11.view.ty) // ∀ (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty),
        Point c arg2 arg3 arg4 arg5 arg6 arg7 arg8 arg9 arg10 arg11 arg12 arg13 arg14 arg15 arg16 X2 X3 X4 f5 f6 f7 f8 f9 f10 f11
        ⊢ wp frame (wpE (defs₀ (F := Ideal)) 𝒱₀ (c : Thread nD τ) none) Set.univ (cc0_causal_fp8_attn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => iprop(∃ f12 f13 f14 f15 f16, Point c arg2 arg3 arg4 arg5 arg6 arg7 arg8 arg9 arg10 arg11 arg12 arg13 arg14 arg15 arg16 X2 X3 X4 (g5 f5 f6 f7 f8 f9 f10 f11 f12 f13 f14 f15 f16) (g6 f5 f6 f7 f8 f9 f10 f11 f12 f13 f14 f15 f16) (g7 f5 f6 f7 f8 f9 f10 f11 f12 f13 f14 f15 f16) (g8 f5 f6 f7 f8 f9 f10 f11 f12 f13 f14 f15 f16) (g9 f5 f6 f7 f8 f9 f10 f11 f12 f13 f14 f15 f16) (g10 f5 f6 f7 f8 f9 f10 f11 f12 f13 f14 f15 f16) (g11 f5 f6 f7 f8 f9 f10 f11 f12 f13 f14 f15 f16))) } := by
  refine ⟨?_, ?_, ?_, ?_, ?_, ?_, ?_, fun f5 f6 f7 f8 f9 f10 f11 => ?run⟩
  case run =>
    iintro ⟨H2, H3, H4, H5, H6, H7, H8, H9, H10, H11, ⟨%f12, H12⟩, ⟨%f13, H13⟩, ⟨%f14, H14⟩, ⟨%f15, H15⟩, ⟨%f16, H16⟩⟩
    simp only [Gen.cc0_causal_fp8_attn_eq_skeleton]; unfold Gen.cc0_causal_fp8_attn_skel
    rw [Gen.k0_part8_eq_skeleton (F := Ideal), Gen.k0_part9_eq_skeleton (F := Ideal)]
    sl_exec_parts (disch := sl_exact hc)
    sl_step
    iexists f12, f13, f14, f15, f16
    sl_close

end Cert.Proof.KernelIdeal

end
-- ==== Proof.LaunchIdeal.lean ====
/- The launch: every grid point's body run against the pipeline's staging buffers, and what the whole call leaves in its
   arrays, each result block tied to the point's run. -/
module

public import proofs.«01_k».proof.Proof.Gen.KernelIdeal.Launch
public import proofs.«01_k».proof.Proof.Gen.KernelIdeal.Points
public import proofs.«01_k».proof.Proof.Gen.KernelIdeal.Frame
public import proofs.«01_k».proof.Proof.PointIdeal
public import Idealize.ShloMosaic.Lib.Pipeline.ArrRel

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

section Point

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- What running a grid point yields: each result block as a function of what the point finds, and the run itself. -/
abbrev Run (X2 : BufTy.Contents (Elt Ideal) arg2.view.ty) (X3 : BufTy.Contents (Elt Ideal) arg3.view.ty) (X4 : BufTy.Contents (Elt Ideal) arg4.view.ty) : Type :=
    Σ' (g5 : Found arg5 arg6 arg7 arg8 arg9 arg10 arg11 arg12 arg13 arg14 arg15 arg16 (BufTy.Contents (Elt Ideal) arg5.view.ty)), Σ' (g6 : Found arg5 arg6 arg7 arg8 arg9 arg10 arg11 arg12 arg13 arg14 arg15 arg16 (BufTy.Contents (Elt Ideal) arg6.view.ty)), Σ' (g7 : Found arg5 arg6 arg7 arg8 arg9 arg10 arg11 arg12 arg13 arg14 arg15 arg16 (BufTy.Contents (Elt Ideal) arg7.view.ty)), Σ' (g8 : Found arg5 arg6 arg7 arg8 arg9 arg10 arg11 arg12 arg13 arg14 arg15 arg16 (BufTy.Contents (Elt Ideal) arg8.view.ty)), Σ' (g9 : Found arg5 arg6 arg7 arg8 arg9 arg10 arg11 arg12 arg13 arg14 arg15 arg16 (BufTy.Contents (Elt Ideal) arg9.view.ty)), Σ' (g10 : Found arg5 arg6 arg7 arg8 arg9 arg10 arg11 arg12 arg13 arg14 arg15 arg16 (BufTy.Contents (Elt Ideal) arg10.view.ty)),
      { g11 : Found arg5 arg6 arg7 arg8 arg9 arg10 arg11 arg12 arg13 arg14 arg15 arg16 (BufTy.Contents (Elt Ideal) arg11.view.ty) // ∀ (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty),
        Point c arg2 arg3 arg4 arg5 arg6 arg7 arg8 arg9 arg10 arg11 arg12 arg13 arg14 arg15 arg16 X2 X3 X4 f5 f6 f7 f8 f9 f10 f11
        ⊢ wp frame (wpE (defs₀ (F := Ideal)) 𝒱₀ (c : Thread nD τ) none) Set.univ (cc0_causal_fp8_attn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
            (fun _ => iprop(∃ f12 f13 f14 f15 f16, Point c arg2 arg3 arg4 arg5 arg6 arg7 arg8 arg9 arg10 arg11 arg12 arg13 arg14 arg15 arg16 X2 X3 X4 (g5 f5 f6 f7 f8 f9 f10 f11 f12 f13 f14 f15 f16) (g6 f5 f6 f7 f8 f9 f10 f11 f12 f13 f14 f15 f16) (g7 f5 f6 f7 f8 f9 f10 f11 f12 f13 f14 f15 f16) (g8 f5 f6 f7 f8 f9 f10 f11 f12 f13 f14 f15 f16) (g9 f5 f6 f7 f8 f9 f10 f11 f12 f13 f14 f15 f16) (g10 f5 f6 f7 f8 f9 f10 f11 f12 f13 f14 f15 f16) (g11 f5 f6 f7 f8 f9 f10 f11 f12 f13 f14 f15 f16))) }

open Classical in
/-- A grid point, run: the first one, or any other. -/
def point (X2 : BufTy.Contents (Elt Ideal) arg2.view.ty) (X3 : BufTy.Contents (Elt Ideal) arg3.view.ty) (X4 : BufTy.Contents (Elt Ideal) arg4.view.ty) : Run c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 :=
  if hc : first i then pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 else pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4

/-- What a point may leave in the block of the output: `X`, if it found `Y` there and `x`, `k`, `v` are its input blocks. -/
def Left5 (x : S1x4096x128.Idx → Elt Ideal .bf16) (k : S1x4096x128.Idx → Elt Ideal .bf16) (v : S1x4096x128.Idx → Elt Ideal .bf16) (Y X : S1x4096x128.Idx → Elt Ideal .bf16) : Prop :=
  ∃ (X2 : BufTy.Contents (Elt Ideal) arg2.view.ty) (X3 : BufTy.Contents (Elt Ideal) arg3.view.ty) (X4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty),
    arg2.view.read (Elt Ideal) X2 = x ∧ arg3.view.read (Elt Ideal) X3 = k ∧ arg4.view.read (Elt Ideal) X4 = v
      ∧ arg5.view.read (Elt Ideal) f5 = Y
      ∧ arg5.view.read (Elt Ideal) ((point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).1 f5 f6 f7 f8 f9 f10 f11 f12 f13 f14 f15 f16) = X

/-- What a point may leave in the block of q's codes: `X`, if it found `Y` there and `x`, `k`, `v` are its input blocks. -/
def Left6 (x : S1x4096x128.Idx → Elt Ideal .bf16) (k : S1x4096x128.Idx → Elt Ideal .bf16) (v : S1x4096x128.Idx → Elt Ideal .bf16) (Y X : S1x4096x128.Idx → Elt Ideal .fp8e4m3) : Prop :=
  ∃ (X2 : BufTy.Contents (Elt Ideal) arg2.view.ty) (X3 : BufTy.Contents (Elt Ideal) arg3.view.ty) (X4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty),
    arg2.view.read (Elt Ideal) X2 = x ∧ arg3.view.read (Elt Ideal) X3 = k ∧ arg4.view.read (Elt Ideal) X4 = v
      ∧ arg6.view.read (Elt Ideal) f6 = Y
      ∧ arg6.view.read (Elt Ideal) ((point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.1 f5 f6 f7 f8 f9 f10 f11 f12 f13 f14 f15 f16) = X

/-- What a point may leave in the block of q's scales: `X`, if it found `Y` there and `x`, `k`, `v` are its input blocks. -/
def Left7 (x : S1x4096x128.Idx → Elt Ideal .bf16) (k : S1x4096x128.Idx → Elt Ideal .bf16) (v : S1x4096x128.Idx → Elt Ideal .bf16) (Y X : S1x16x32.Idx → Elt Ideal .f32) : Prop :=
  ∃ (X2 : BufTy.Contents (Elt Ideal) arg2.view.ty) (X3 : BufTy.Contents (Elt Ideal) arg3.view.ty) (X4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty),
    arg2.view.read (Elt Ideal) X2 = x ∧ arg3.view.read (Elt Ideal) X3 = k ∧ arg4.view.read (Elt Ideal) X4 = v
      ∧ arg7.view.read (Elt Ideal) f7 = Y
      ∧ arg7.view.read (Elt Ideal) ((point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.1 f5 f6 f7 f8 f9 f10 f11 f12 f13 f14 f15 f16) = X

/-- What a point may leave in the block of k's codes: `X`, if it found `Y` there and `x`, `k`, `v` are its input blocks. -/
def Left8 (x : S1x4096x128.Idx → Elt Ideal .bf16) (k : S1x4096x128.Idx → Elt Ideal .bf16) (v : S1x4096x128.Idx → Elt Ideal .bf16) (Y X : S1x4096x128.Idx → Elt Ideal .fp8e4m3) : Prop :=
  ∃ (X2 : BufTy.Contents (Elt Ideal) arg2.view.ty) (X3 : BufTy.Contents (Elt Ideal) arg3.view.ty) (X4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty),
    arg2.view.read (Elt Ideal) X2 = x ∧ arg3.view.read (Elt Ideal) X3 = k ∧ arg4.view.read (Elt Ideal) X4 = v
      ∧ arg8.view.read (Elt Ideal) f8 = Y
      ∧ arg8.view.read (Elt Ideal) ((point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.1 f5 f6 f7 f8 f9 f10 f11 f12 f13 f14 f15 f16) = X

/-- What a point may leave in the block of k's scales: `X`, if it found `Y` there and `x`, `k`, `v` are its input blocks. -/
def Left9 (x : S1x4096x128.Idx → Elt Ideal .bf16) (k : S1x4096x128.Idx → Elt Ideal .bf16) (v : S1x4096x128.Idx → Elt Ideal .bf16) (Y X : S1x16x32.Idx → Elt Ideal .f32) : Prop :=
  ∃ (X2 : BufTy.Contents (Elt Ideal) arg2.view.ty) (X3 : BufTy.Contents (Elt Ideal) arg3.view.ty) (X4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty),
    arg2.view.read (Elt Ideal) X2 = x ∧ arg3.view.read (Elt Ideal) X3 = k ∧ arg4.view.read (Elt Ideal) X4 = v
      ∧ arg9.view.read (Elt Ideal) f9 = Y
      ∧ arg9.view.read (Elt Ideal) ((point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.2.1 f5 f6 f7 f8 f9 f10 f11 f12 f13 f14 f15 f16) = X

/-- What a point may leave in the block of v's codes: `X`, if it found `Y` there and `x`, `k`, `v` are its input blocks. -/
def Left10 (x : S1x4096x128.Idx → Elt Ideal .bf16) (k : S1x4096x128.Idx → Elt Ideal .bf16) (v : S1x4096x128.Idx → Elt Ideal .bf16) (Y X : S1x4096x128.Idx → Elt Ideal .fp8e4m3) : Prop :=
  ∃ (X2 : BufTy.Contents (Elt Ideal) arg2.view.ty) (X3 : BufTy.Contents (Elt Ideal) arg3.view.ty) (X4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty),
    arg2.view.read (Elt Ideal) X2 = x ∧ arg3.view.read (Elt Ideal) X3 = k ∧ arg4.view.read (Elt Ideal) X4 = v
      ∧ arg10.view.read (Elt Ideal) f10 = Y
      ∧ arg10.view.read (Elt Ideal) ((point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.2.2.1 f5 f6 f7 f8 f9 f10 f11 f12 f13 f14 f15 f16) = X

/-- What a point may leave in the block of v's scales: `X`, if it found `Y` there and `x`, `k`, `v` are its input blocks. -/
def Left11 (x : S1x4096x128.Idx → Elt Ideal .bf16) (k : S1x4096x128.Idx → Elt Ideal .bf16) (v : S1x4096x128.Idx → Elt Ideal .bf16) (Y X : S8x16.Idx → Elt Ideal .f32) : Prop :=
  ∃ (X2 : BufTy.Contents (Elt Ideal) arg2.view.ty) (X3 : BufTy.Contents (Elt Ideal) arg3.view.ty) (X4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty),
    arg2.view.read (Elt Ideal) X2 = x ∧ arg3.view.read (Elt Ideal) X3 = k ∧ arg4.view.read (Elt Ideal) X4 = v
      ∧ arg11.view.read (Elt Ideal) f11 = Y
      ∧ arg11.view.read (Elt Ideal) ((point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.2.2.2.1 f5 f6 f7 f8 f9 f10 f11 f12 f13 f14 f15 f16) = X

/-- A grid point over owned blocks: the inputs come back as they were, each result block related to what was found. -/
theorem point_owns (x : S1x4096x128.Idx → Elt Ideal .bf16) (k : S1x4096x128.Idx → Elt Ideal .bf16) (v : S1x4096x128.Idx → Elt Ideal .bf16) (Y5 : S1x4096x128.Idx → Elt Ideal .bf16) (Y6 : S1x4096x128.Idx → Elt Ideal .fp8e4m3) (Y7 : S1x16x32.Idx → Elt Ideal .f32) (Y8 : S1x4096x128.Idx → Elt Ideal .fp8e4m3) (Y9 : S1x16x32.Idx → Elt Ideal .f32) (Y10 : S1x4096x128.Idx → Elt Ideal .fp8e4m3) (Y11 : S8x16.Idx → Elt Ideal .f32) :
    (iprop((owns (c : Thread nD τ) arg2 fullShare x ∗ owns (c : Thread nD τ) arg3 fullShare k ∗ owns (c : Thread nD τ) arg4 fullShare v ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))) : sProp 𝕄)
      ⊢ wp frame (wpE (defs₀ (F := Ideal)) 𝒱₀ (c : Thread nD τ) none) Set.univ (cc0_causal_fp8_attn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop((owns (c : Thread nD τ) arg2 fullShare x ∗ owns (c : Thread nD τ) arg3 fullShare k ∗ owns (c : Thread nD τ) arg4 fullShare v ∗ (∃ X, ⌜Left5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y5 X⌝ ∗ owns (c : Thread nD τ) arg5 fullShare X) ∗ (∃ X, ⌜Left6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y6 X⌝ ∗ owns (c : Thread nD τ) arg6 fullShare X) ∗ (∃ X, ⌜Left7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y7 X⌝ ∗ owns (c : Thread nD τ) arg7 fullShare X) ∗ (∃ X, ⌜Left8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y8 X⌝ ∗ owns (c : Thread nD τ) arg8 fullShare X) ∗ (∃ X, ⌜Left9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y9 X⌝ ∗ owns (c : Thread nD τ) arg9 fullShare X) ∗ (∃ X, ⌜Left10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y10 X⌝ ∗ owns (c : Thread nD τ) arg10 fullShare X) ∗ (∃ X, ⌜Left11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y11 X⌝ ∗ owns (c : Thread nD τ) arg11 fullShare X)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))) := by
  unfold owns
  iintro ⟨⟨⟨%X2, %h2, H2⟩, ⟨%X3, %h3, H3⟩, ⟨%X4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩⟩, H12, H13, H14, H15, H16⟩
  iapply (wp_wand_r frame (wpE (defs₀ (F := Ideal)) 𝒱₀ (c : Thread nD τ) none) Set.univ)
  isplitl [H2 H3 H4 H5 H6 H7 H8 H9 H10 H11 H12 H13 H14 H15 H16]
  · iapply ((point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4).2.2.2.2.2.2.2 f5 f6 f7 f8 f9 f10 f11)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %r ⟨%f12, %f13, %f14, %f15, %f16, H2, H3, H4, H5, H6, H7, H8, H9, H10, H11, H12, H13, H14, H15, H16⟩
  isplitl [H2 H3 H4 H5 H6 H7 H8 H9 H10 H11]
  · isplitl [H2]
    · iexists X2; isplitr; · ipureintro; exact h2
      iexact H2
    isplitl [H3]
    · iexists X3; isplitr; · ipureintro; exact h3
      iexact H3
    isplitl [H4]
    · iexists X4; isplitr; · ipureintro; exact h4
      iexact H4
    isplitl [H5]
    · iexists _; isplitr; · ipureintro; exact ⟨X2, X3, X4, f5, f6, f7, f8, f9, f10, f11, f12, f13, f14, f15, f16, h2, h3, h4, h5, rfl⟩
      iexists _; isplitr; · ipureintro; rfl
      iexact H5
    isplitl [H6]
    · iexists _; isplitr; · ipureintro; exact ⟨X2, X3, X4, f5, f6, f7, f8, f9, f10, f11, f12, f13, f14, f15, f16, h2, h3, h4, h6, rfl⟩
      iexists _; isplitr; · ipureintro; rfl
      iexact H6
    isplitl [H7]
    · iexists _; isplitr; · ipureintro; exact ⟨X2, X3, X4, f5, f6, f7, f8, f9, f10, f11, f12, f13, f14, f15, f16, h2, h3, h4, h7, rfl⟩
      iexists _; isplitr; · ipureintro; rfl
      iexact H7
    isplitl [H8]
    · iexists _; isplitr; · ipureintro; exact ⟨X2, X3, X4, f5, f6, f7, f8, f9, f10, f11, f12, f13, f14, f15, f16, h2, h3, h4, h8, rfl⟩
      iexists _; isplitr; · ipureintro; rfl
      iexact H8
    isplitl [H9]
    · iexists _; isplitr; · ipureintro; exact ⟨X2, X3, X4, f5, f6, f7, f8, f9, f10, f11, f12, f13, f14, f15, f16, h2, h3, h4, h9, rfl⟩
      iexists _; isplitr; · ipureintro; rfl
      iexact H9
    isplitl [H10]
    · iexists _; isplitr; · ipureintro; exact ⟨X2, X3, X4, f5, f6, f7, f8, f9, f10, f11, f12, f13, f14, f15, f16, h2, h3, h4, h10, rfl⟩
      iexists _; isplitr; · ipureintro; rfl
      iexact H10
    iexists _; isplitr; · ipureintro; exact ⟨X2, X3, X4, f5, f6, f7, f8, f9, f10, f11, f12, f13, f14, f15, f16, h2, h3, h4, h11, rfl⟩
    iexists _; isplitr; · ipureintro; rfl
    iexact H11
  isplitl [H12]; · iexact H12
  isplitl [H13]; · iexact H13
  isplitl [H14]; · iexact H14
  isplitl [H15]; · iexact H15
  iexact H16

end Point

section Launch

variable (m : (ℓ : Loc nD τ sig) → Buf (Elt Ideal) ℓ) (ρ : Dev nD → PrngReg)

/-- What the pipeline's proof speaks of on core `c`: the arrays as launched, and each result block as a point may leave it. -/
def rdat (c : Dev nD) : RDat τ (Elt Ideal) Unit ℕ (UR sig nD τ) ℕ cfg0 c where
  A w := Gen.V m c (Pipeline.arrRef spec0 w)
  after := fun
    | 0 => fun _ _ _ => True | 1 => fun _ _ _ => True | 2 => fun _ _ _ => True
    | 3 => fun t Y X => Left5 c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 4 => fun t Y X => Left6 c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 5 => fun t Y X => Left7 c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 6 => fun t Y X => Left8 c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 7 => fun t Y X => Left9 c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 8 => fun t Y X => Left10 c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | 9 => fun t Y X => Left11 c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) Y X
    | ⟨_ + 10, h⟩ => absurd h (Nat.not_lt.2 (Nat.le_add_left _ _))
  Φ _ := Pipeline.ΦA spec0 c
  q _ := fullShare
  owed _ := 0

/-- The body table's row at a point is the body at that point. -/
theorem defs₀_row (t : Fin cfg0.N) : defs₀ (F := Ideal) .tc cfg0.body (cfg0.bodyArgs t (cfg0.slots t)) = Gen.bodyAt0 t := by
  unfold defs₀; rw [Defs.onTc_tc]

/-- Input window 0 holds its block of the array at every point. -/
theorem finds_0 (c : Dev nD) (t : Fin cfg0.N) (X) (h : (rdat m c).Finds 0 t X) : X = Gen.iblk m c 0 t := by
  obtain ⟨d, rfl⟩ := ((rdat m c).finds_of_fetch (Gen.fetch0_0 t) X).mp h
  unfold RDat.fetched RDat.blockOf Gen.iblk; rfl

/-- Input window 1 holds its block of the array at every point. -/
theorem finds_1 (c : Dev nD) (t : Fin cfg0.N) (X) (h : (rdat m c).Finds 1 t X) : X = Gen.iblk m c 1 t := by
  obtain ⟨d, rfl⟩ := ((rdat m c).finds_of_fetch (Gen.fetch0_1 t) X).mp h
  unfold RDat.fetched RDat.blockOf Gen.iblk; rfl

/-- Input window 2 holds its block of the array at every point. -/
theorem finds_2 (c : Dev nD) (t : Fin cfg0.N) (X) (h : (rdat m c).Finds 2 t X) : X = Gen.iblk m c 2 t := by
  obtain ⟨d, rfl⟩ := ((rdat m c).finds_of_fetch (Gen.fetch0_2 t) X).mp h
  unfold RDat.fetched RDat.blockOf Gen.iblk; rfl

/-- The body's obligation: at every point, from blocks as found to blocks as left. -/
theorem body_obligation (c : Dev nD) : (rdat m c).BodyObligation (defs₀ (F := Ideal)) 𝒱₀ () Set.univ := fun t Y hY => by
  rw [Gen.bigSep_W0, Gen.bigSep_W0, defs₀_row]
  have e0 := finds_0 m c t _ (hY 0)
  have e1 := finds_1 m c t _ (hY 1)
  have e2 := finds_2 m c t _ (hY 2)
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA
  rw [Gen.scopedRest0_eq]
  have hrun := point_owns c (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (win0_5.stage (cfg0.slots t 5)) (Gen.hstage0_5 ((cfg0.slots t 5).cast Gen.nbuf0_5)) (win0_6.stage (cfg0.slots t 6)) (Gen.hstage0_6 ((cfg0.slots t 6).cast Gen.nbuf0_6)) (win0_7.stage (cfg0.slots t 7)) (Gen.hstage0_7 ((cfg0.slots t 7).cast Gen.nbuf0_7)) (win0_8.stage (cfg0.slots t 8)) (Gen.hstage0_8 ((cfg0.slots t 8).cast Gen.nbuf0_8)) (win0_9.stage (cfg0.slots t 9)) (Gen.hstage0_9 ((cfg0.slots t 9).cast Gen.nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Gen.iblk m c 0 t) (Gen.iblk m c 1 t) (Gen.iblk m c 2 t) (Y 3) (Y 4) (Y 5) (Y 6) (Y 7) (Y 8) (Y 9)
  simp only [Memref.view_whole, View.set_whole] at hrun
  iintro ⟨⟨⟨HS0, HS1, HS2, HS3, HS4⟩, Hg⟩, HO, H0, H1, H2, H3, H4, H5, H6, H7, H8, H9⟩
  iapply (wp_wand_r frame (wpE (defs₀ (F := Ideal)) 𝒱₀ (c : Thread nD τ) none) Set.univ)
  isplitl [HS0 HS1 HS2 HS3 HS4 H0 H1 H2 H3 H4 H5 H6 H7 H8 H9]
  · iapply hrun
    isplitl [H0 H1 H2 H3 H4 H5 H6 H7 H8 H9]
    · rw [e0, e1, e2]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS0]; · iexact HS0
    isplitl [HS1]; · iexact HS1
    isplitl [HS2]; · iexact HS2
    isplitl [HS3]; · iexact HS3
    iexact HS4
  iintro %r ⟨⟨H0, H1, H2, H3, H4, H5, H6, H7, H8, H9⟩, HS0, HS1, HS2, HS3, HS4⟩
  isplitl [HS0 HS1 HS2 HS3 HS4 Hg]
  · isplitr [Hg]; swap; · iexact Hg
    isplitl [HS0]; · iexact HS0
    isplitl [HS1]; · iexact HS1
    isplitl [HS2]; · iexact HS2
    isplitl [HS3]; · iexact HS3
    iexact HS4
  isplitl [HO]; · iexact HO
  isplitl [H0]
  · iexists (Gen.iblk m c 0 t); isplitr; · ipureintro; exact True.intro
    iexact H0
  isplitl [H1]
  · iexists (Gen.iblk m c 1 t); isplitr; · ipureintro; exact True.intro
    iexact H1
  isplitl [H2]
  · iexists (Gen.iblk m c 2 t); isplitr; · ipureintro; exact True.intro
    iexact H2
  isplitl [H3]; · iexact H3
  isplitl [H4]; · iexact H4
  isplitl [H5]; · iexact H5
  isplitl [H6]; · iexact H6
  isplitl [H7]; · iexact H7
  isplitl [H8]; · iexact H8
  iexact H9

-- the run's implicit arguments are found by unifying its conclusion with this statement, which takes unfolding plain
-- definitions in a metavariable's type
set_option backward.isDefEq.respectTransparency.types false in
/-- The call, run: every array ends as its blocks were left, and every semaphore counter at zero. -/
theorem run_main :
    θ_run defs (onTc (τ := τ) (main (F := Ideal))) (s₀ m ρ)
      (fun r => RDat.FramePost (cfgs 0) (fun c => rdat m c) (Gen.V m) r ∧ r.2.sem = fun _ => 0) :=
  RDat.θ_run_frame (Q' := _) cfgs (0 : Fin 1) Gen.launch0 defs₀ 𝒱₀ (fun c => rdat m c) m ρ main
    (hbody := fun c => body_obligation m c) (hshare := fun c => (rdat m c).share_full fun _ => rfl)
    (howed := fun _ _ => rfl) (V := Gen.V m) (hmain := Gen.hmain m 𝒱₀) (hA := fun _ _ => rfl) (hΦ := fun _ _ => rfl)

variable {m ρ}

/-- Argument 0 ends as launched. -/
theorem final_arg0 {r : PUnit × MemSt nD τ sig (Elt Ideal)} (h : RDat.FramePost (cfgs 0) (fun c => rdat m c) (Gen.V m) r) (c : Dev nD) :
    r.2.mem ((c : Thread nD τ).loc main_arg0) = m ((c : Thread nD τ).loc main_arg0) :=
  h.arr_in c 0 rfl

/-- Argument 1 ends as launched. -/
theorem final_arg1 {r : PUnit × MemSt nD τ sig (Elt Ideal)} (h : RDat.FramePost (cfgs 0) (fun c => rdat m c) (Gen.V m) r) (c : Dev nD) :
    r.2.mem ((c : Thread nD τ).loc main_arg1) = m ((c : Thread nD τ).loc main_arg1) :=
  h.arr_in c 1 rfl

/-- Argument 2 ends as launched. -/
theorem final_arg2 {r : PUnit × MemSt nD τ sig (Elt Ideal)} (h : RDat.FramePost (cfgs 0) (fun c => rdat m c) (Gen.V m) r) (c : Dev nD) :
    r.2.mem ((c : Thread nD τ).loc main_arg2) = m ((c : Thread nD τ).loc main_arg2) :=
  h.arr_in c 2 rfl

end Launch

end Cert.Proof.KernelIdeal

end
-- ==== Proof.Pieces.lean ====
/- Writes that fill a buffer strip by strip: what the buffer reads after all of them. -/
module

public import proofs.«01_k».proof.Proof.Gen.KernelIdeal
public import Idealize.ShloMosaic.Lib.Writes
public import Idealize.ShloMosaic.Lib.Pointwise

@[expose] public section

noncomputable section

namespace Cert.Proof.KernelIdeal

open Cert.KernelIdeal
open Idealize.ShloMosaic Idealize.ShloMosaic.TcCoe

/-- Row `r` of strip `k` among the 4096 rows. -/
def row (k : ℕ) (r : Fin 128) : Fin 4096 := ⟨(128 * k + r.val) % 4096, Nat.mod_lt _ (by norm_num)⟩

theorem row_val (k : ℕ) (hk : k < 32) (r : Fin 128) : (row k r).val = 128 * k + r.val := by
  have := r.isLt
  exact Nat.mod_eq_of_lt (by omega)

/-- A block's elements by row and column. -/
def blk {e : EltTy} (v : Memref sig .tc .vmem S1x4096x128 e) (X : BufTy.Contents (Elt Ideal) v.view.ty) (r : Fin 4096) (l : Fin 128) : Elt Ideal e :=
  v.view.read (Elt Ideal) X (ix3 0 r l)

/-- A load of 128 rows reads the block's rows. -/
theorem readAt_rows {e : EltTy} (v : Memref sig .tc .vmem S1x4096x128 e) (X : BufTy.Contents (Elt Ideal) v.view.ty)
    (off : Fin 3 → Nat) (k : ℕ) (hk : k < 32) (ho : off = ![0, 128 * k, 0])
    (h) (r l : Fin 128) :
    View.readAt (Elt Ideal) v.view (Rect.unit (s := S1x4096x128) off ![1, 128, 128] h).toLoadRect X (ix3 0 r l) = blk v X (row k r) l := by
  subst ho
  rw [View.readAt_apply]
  refine congrArg _ ?_
  funext a
  apply Fin.ext
  have := row_val k hk r
  match a with
  | ⟨0, _⟩ => rfl
  | ⟨1, _⟩ => exact (by simp [this] : 128 * k + 1 * r.val = (row k r).val)
  | ⟨2, _⟩ => exact (by simp : 0 + 1 * l.val = l.val)

variable {e : EltTy}

/-- Strips of 128 rows, one per step, fill a block of 4096 rows. -/
theorem strips (v : Memref sig .tc .vmem S1x4096x128 e) (G : Fin 4096 → Fin 128 → Elt Ideal e)
    (L : ℕ → List (View.Piece (Elt Ideal) S1x4096x128 e)) (h0 : L 0 = [])
    (step : ∀ k, k < 32 → ∃ (off : Fin 3 → Nat) (h : _) (V : _), off = ![0, 128 * k, 0] ∧
      L (k + 1) = [⟨Rect.unit (s := S1x4096x128) off ![1, 128, 128] h, V⟩] ++ L k ∧
      ∀ r l : Fin 128, V (ix3 0 r l) = G (row k r) l)
    (f : BufTy.Contents (Elt Ideal) v.view.ty) (r : Fin 4096) (l : Fin 128) :
    v.view.read (Elt Ideal) (v.view.writes (Elt Ideal) f (L 32)) (ix3 0 r l) = G r l := by
  have key : ∀ n, n ≤ 32 → (∀ p ∈ L n, ∀ x : p.1.shape.Idx, p.2 x = (fun y : S1x4096x128.Idx => G (y 1) (y 2)) (p.1.emb x)) ∧
      ∀ y : S1x4096x128.Idx, (y 1).val < 128 * n → ∃ p ∈ L n, y ∈ p.1.set := by
    intro n
    induction n with
    | zero => intro _; rw [h0]; exact ⟨fun p hp => absurd hp List.not_mem_nil, fun y hy => absurd hy (by omega)⟩
    | succ k ih =>
      intro hk
      obtain ⟨i1, i2⟩ := ih (by omega)
      obtain ⟨off, h, V, ho, hL, hV⟩ := step k (by omega)
      subst ho
      rw [hL]
      constructor
      · intro p hp
        rcases List.mem_append.1 hp with hp | hp
        · rw [List.mem_singleton] at hp
          subst hp
          intro x
          obtain ⟨r, l, rfl⟩ : ∃ r l : Fin 128, x = ix3 (n0 := 1) 0 r l := by
            refine ⟨x 1, x 2, ?_⟩
            refine (eq_ix3 (n0 := 1) (n1 := 128) (n2 := 128) x).trans ?_
            congr 1
            exact Subsingleton.elim (α := Fin 1) _ _
          refine (hV r l).trans ?_
          have e1 : row k r = (Rect.unit (s := S1x4096x128) ![0, 128 * k, 0] ![1, 128, 128] h).emb (ix3 (n0 := 1) 0 r l) 1 := by
            apply Fin.ext
            rw [row_val k (by omega)]
            exact (by simp : 128 * k + r.val = 128 * k + 1 * r.val)
          have e2 : l = (Rect.unit (s := S1x4096x128) ![0, 128 * k, 0] ![1, 128, 128] h).emb (ix3 (n0 := 1) 0 r l) 2 := by
            apply Fin.ext
            exact (by simp : l.val = 0 + 1 * l.val)
          exact congrArg₂ G e1 e2
        · exact i1 p hp
      · intro y hy
        by_cases hlt : (y 1).val < 128 * k
        · obtain ⟨p, hp, hm⟩ := i2 y hlt
          exact ⟨p, List.mem_append.2 (Or.inr hp), hm⟩
        · refine ⟨_, List.mem_append.2 (Or.inl (List.mem_singleton.2 rfl)), ?_⟩
          rw [Rect.mem_set_unit]
          have y0 : (y 0).val < 1 := (y 0).isLt
          have y2 : (y 2).val < 128 := (y 2).isLt
          intro a
          match a with
          | ⟨0, _⟩ => exact ⟨Nat.zero_le _, y0⟩
          | ⟨1, _⟩ => exact ⟨not_lt.1 hlt, (by omega : (y 1).val < 128 * k + 128)⟩
          | ⟨2, _⟩ => exact ⟨Nat.zero_le _, (by omega : (y 2).val < 0 + 128)⟩
  obtain ⟨a, b⟩ := key 32 le_rfl
  exact View.read_writes_apply_of_pieces v.view f (fun y : S1x4096x128.Idx => G (y 1) (y 2)) (L 32) a (ix3 0 r l)
    (b _ (by have := r.isLt; exact (by omega : r.val < 128 * 32)))

/-- One row of 128 lanes per step fills a buffer of 32 rows. -/
theorem lanes (v : Memref sig .tc .vmem S32x128 e) (G : Fin 32 → Fin 128 → Elt Ideal e)
    (L : ℕ → List (View.Piece (Elt Ideal) S32x128 e)) (h0 : L 0 = [])
    (step : ∀ k (hk : k < 32), ∃ (off : Fin 2 → Nat) (h : _) (V : _), off = ![k, 0] ∧
      L (k + 1) = [⟨Rect.unit (s := S32x128) off ![1, 128] h, V⟩] ++ L k ∧
      ∀ l : Fin 128, V (ix2 0 l) = G ⟨k, hk⟩ l)
    (f : BufTy.Contents (Elt Ideal) v.view.ty) (r : Fin 32) (l : Fin 128) :
    v.view.read (Elt Ideal) (v.view.writes (Elt Ideal) f (L 32)) (ix2 r l) = G r l := by
  have key : ∀ n, n ≤ 32 → (∀ p ∈ L n, ∀ x : p.1.shape.Idx, p.2 x = (fun y : S32x128.Idx => G (y 0) (y 1)) (p.1.emb x)) ∧
      ∀ y : S32x128.Idx, (y 0).val < n → ∃ p ∈ L n, y ∈ p.1.set := by
    intro n
    induction n with
    | zero => intro _; rw [h0]; exact ⟨fun p hp => absurd hp List.not_mem_nil, fun y hy => absurd hy (by omega)⟩
    | succ k ih =>
      intro hk
      obtain ⟨i1, i2⟩ := ih (by omega)
      obtain ⟨off, h, V, ho, hL, hV⟩ := step k (by omega)
      subst ho
      rw [hL]
      constructor
      · intro p hp
        rcases List.mem_append.1 hp with hp | hp
        · rw [List.mem_singleton] at hp
          subst hp
          intro x
          obtain ⟨l, rfl⟩ : ∃ l : Fin 128, x = ix2 (n0 := 1) 0 l := by
            refine ⟨x 1, ?_⟩
            refine (eq_ix2 (n0 := 1) (n1 := 128) x).trans ?_
            congr 1
            exact Subsingleton.elim (α := Fin 1) _ _
          refine (hV l).trans ?_
          have e1 : (⟨k, by omega⟩ : Fin 32) = (Rect.unit (s := S32x128) ![k, 0] ![1, 128] h).emb (ix2 (n0 := 1) 0 l) 0 := by
            apply Fin.ext
            exact (by simp : k = k + 1 * 0)
          have e2 : l = (Rect.unit (s := S32x128) ![k, 0] ![1, 128] h).emb (ix2 (n0 := 1) 0 l) 1 := by
            apply Fin.ext
            exact (by simp : l.val = 0 + 1 * l.val)
          exact congrArg₂ G e1 e2
        · exact i1 p hp
      · intro y hy
        by_cases hlt : (y 0).val < k
        · obtain ⟨p, hp, hm⟩ := i2 y hlt
          exact ⟨p, List.mem_append.2 (Or.inr hp), hm⟩
        · refine ⟨_, List.mem_append.2 (Or.inl (List.mem_singleton.2 rfl)), ?_⟩
          rw [Rect.mem_set_unit]
          have y2 : (y 1).val < 128 := (y 1).isLt
          intro a
          match a with
          | ⟨0, _⟩ => exact ⟨not_lt.1 hlt, (by omega : (y 0).val < k + 1)⟩
          | ⟨1, _⟩ => exact ⟨Nat.zero_le _, (by omega : (y 1).val < 0 + 128)⟩
  obtain ⟨a, b⟩ := key 32 le_rfl
  exact View.read_writes_apply_of_pieces v.view f (fun y : S32x128.Idx => G (y 0) (y 1)) (L 32) a (ix2 r l)
    (b _ r.isLt)

end Cert.Proof.KernelIdeal
-- ==== Proof.Exponent.lean ====
/- The power-of-two scale of a quantised tile, as a number: the kernel finds the exponent by comparing
   with the 256 words `k <<< 23`, the reference by a logarithm; both scales are `2 ^ (± exn y)`. -/
module

public import Idealize.ShloMosaic.PureOps.Ideal
public import Idealize.ShloMosaic.Lib.IdealHost
public import Mathlib.Analysis.SpecialFunctions.Log.Basic

@[expose] public section

noncomputable section

namespace Cert.Proof.Expo

open Idealize.ShloMosaic

/-- The value of the word `k <<< 23`. -/
def word (k : Nat) : EReal := Ideal.ofBits .f32 (IntOp.shli ArithUnit.vector (BitVec.ofNat 32 k) 23#32)

/-- The fields of the word `k <<< 23`. -/
theorem word_fields : ∀ k : Fin 256,
    (IntOp.shli ArithUnit.vector (BitVec.ofNat 32 k.val) 23#32).extractLsb' 31 1 = 0#1 ∧
    ((IntOp.shli ArithUnit.vector (BitVec.ofNat 32 k.val) 23#32).extractLsb' 23 8).toNat = k.val ∧
    ((IntOp.shli ArithUnit.vector (BitVec.ofNat 32 k.val) 23#32).extractLsb' 0 23).toNat = 0 := by
  decide +kernel

/-- The word's number: the exponent field is `k`, the fraction zero. -/
theorem word_eq (k : Nat) (h0 : 1 ≤ k) (h : k ≤ 254) :
    word k = (((2 : ℝ) ^ ((k : ℤ) - 127) : ℝ) : EReal) := by
  obtain ⟨e1, e2, e3⟩ := word_fields ⟨k, by omega⟩
  simp only at e1 e2 e3
  show Ideal.ieee 8 23 (IntOp.shli ArithUnit.vector (BitVec.ofNat 32 k) 23#32) = _
  generalize IntOp.shli ArithUnit.vector (BitVec.ofNat 32 k) 23#32 = b at e1 e2 e3
  unfold Ideal.ieee
  simp only [Nat.reduceAdd, e1, e2, e3]
  rw [if_neg (by omega), if_neg (by omega)]
  refine congrArg _ ?_
  rw [show ((k : ℤ) - 127) = ((k : ℤ) - (2 ^ (8 - 1) - 1) - (23 : ℕ)) + 23 by norm_num, zpow_add₀ (by norm_num)]
  norm_num
  ring

theorem word_zero : word 0 = 0 := by
  have : IntOp.shli ArithUnit.vector (BitVec.ofNat 32 0) 23#32 = 0#32 := by decide
  unfold word; rw [this]; simp [Ideal.ofBits, Ideal.ieee]

theorem word_top : word 255 = ⊤ := by
  have : IntOp.shli ArithUnit.vector (BitVec.ofNat 32 255) 23#32 = 0x7f800000#32 := by decide
  unfold word; rw [this]; simp [Ideal.ofBits, Ideal.ieee]

/-- The greatest of values below `2 ^ 31`, as the greatest natural number. -/
theorem fold_maxsi {ι : Type} [DecidableEq ι] (s : Finset ι) (g : ι → Nat) (hg : ∀ i, g i < 2 ^ 31) :
    Finset.fold IntOp.maxsi 2147483648#32 (fun i => BitVec.ofNat 32 (g i)) s =
      if s = ∅ then 2147483648#32 else BitVec.ofNat 32 (s.sup g) := by
  have hm : ∀ a b : Nat, a < 2 ^ 31 → b < 2 ^ 31 →
      IntOp.maxsi (BitVec.ofNat 32 a) (BitVec.ofNat 32 b) = BitVec.ofNat 32 (max a b) := by
    intro a b ha hb
    have ea : (BitVec.ofNat 32 a).toInt = a := by
      rw [BitVec.toInt_eq_toNat_cond, BitVec.toNat_ofNat, Nat.mod_eq_of_lt (by omega), if_pos (by omega)]
    have eb : (BitVec.ofNat 32 b).toInt = b := by
      rw [BitVec.toInt_eq_toNat_cond, BitVec.toNat_ofNat, Nat.mod_eq_of_lt (by omega), if_pos (by omega)]
    unfold IntOp.maxsi
    rw [BitVec.slt, ea, eb]
    by_cases h : b < a
    · rw [if_pos (by simpa using h), max_eq_left h.le]
    · rw [if_neg (by simpa using h), max_eq_right (by omega)]
  have hmin : ∀ a : Nat, a < 2 ^ 31 → IntOp.maxsi (BitVec.ofNat 32 a) 2147483648#32 = BitVec.ofNat 32 a := by
    intro a ha
    have ea : (BitVec.ofNat 32 a).toInt = a := by
      rw [BitVec.toInt_eq_toNat_cond, BitVec.toNat_ofNat, Nat.mod_eq_of_lt (by omega), if_pos (by omega)]
    have eb : (2147483648#32 : BitVec 32).toInt = -2147483648 := by decide
    unfold IntOp.maxsi
    rw [BitVec.slt, ea, eb, if_pos (by simp; omega)]
  induction s using Finset.induction_on with
  | empty => simp
  | insert i s hi ih =>
    rw [Finset.fold_insert hi, ih, if_neg (Finset.insert_ne_empty i s), Finset.sup_insert]
    by_cases hs : s = ∅
    · subst hs
      simp [hmin _ (hg i)]
    · rw [if_neg hs, hm _ _ (hg i) ((Finset.sup_lt_iff (by norm_num)).2 fun j _ => hg j)]

/-- The kernel's exponent field of `y`: the greatest `k` whose word is at most `y`. -/
def field (y : EReal) : BitVec 32 :=
  Finset.fold IntOp.maxsi 2147483648#32
    (fun k : Fin 256 => if y < word k.val then 0#32 else BitVec.ofNat 32 k.val) Finset.univ

/-- The words do not decrease. -/
theorem word_mono (j k : Nat) (hjk : j ≤ k) (hk : k ≤ 255) : word j ≤ word k := by
  rcases Nat.eq_zero_or_pos j with h0 | h0
  · subst h0
    rw [word_zero]
    rcases Nat.eq_zero_or_pos k with k0 | k0
    · subst k0; rw [word_zero]
    · by_cases h5 : k = 255
      · subst h5; rw [word_top]; exact le_top
      · rw [word_eq k k0 (by omega)]
        exact_mod_cast (by positivity : (0 : ℝ) ≤ 2 ^ ((k : ℤ) - 127))
  · by_cases h5 : k = 255
    · subst h5; rw [word_top]; exact le_top
    · rw [word_eq k (by omega) (by omega), word_eq j h0 (by omega)]
      exact_mod_cast (zpow_le_zpow_right₀ (by norm_num) (by omega) : (2 : ℝ) ^ ((j : ℤ) - 127) ≤ 2 ^ ((k : ℤ) - 127))

theorem field_eq (y : EReal) (b : Nat) (hb : b ≤ 254) (h1 : word b ≤ y) (h2 : y < word (b + 1)) :
    field y = BitVec.ofNat 32 b := by
  unfold field
  have e : (fun k : Fin 256 => if y < word k.val then 0#32 else BitVec.ofNat 32 k.val) =
      fun k : Fin 256 => BitVec.ofNat 32 (if y < word k.val then 0 else k.val) := by
    funext k; split <;> rfl
  rw [e, fold_maxsi _ (fun k : Fin 256 => if y < word k.val then 0 else k.val)
    (by intro i; have := i.isLt; split <;> omega),
    if_neg (Finset.univ_nonempty.ne_empty)]
  congr 1
  apply le_antisymm
  · apply Finset.sup_le
    intro k _
    split
    · exact Nat.zero_le _
    · rename_i h
      by_contra hk
      have := word_mono (b + 1) k.val (by omega) (by have := k.isLt; omega)
      exact h (lt_of_lt_of_le h2 this)
  · have := Finset.le_sup (f := fun k : Fin 256 => if y < word k.val then 0 else k.val) (Finset.mem_univ (⟨b, by omega⟩ : Fin 256))
    simpa [not_lt.2 h1] using this

/-- The exponent of a tile whose greatest absolute value over 448 is `y`. -/
def exn (y : ℝ) : ℤ := if y < (2 : ℝ) ^ (-126 : ℤ) then 0 else ⌊Real.log y / Real.log 2⌋ + 1

/-- The floor of the logarithm brackets its argument between powers of two. -/
theorem floor_log (y : ℝ) (hy : 0 < y) (n : ℤ) (h : ⌊Real.log y / Real.log 2⌋ = n) :
    (2 : ℝ) ^ n ≤ y ∧ y < (2 : ℝ) ^ (n + 1) := by
  have l2 : 0 < Real.log 2 := Real.log_pos (by norm_num)
  obtain ⟨h1, h2⟩ := Int.floor_eq_iff.1 h
  rw [le_div_iff₀ l2] at h1
  rw [div_lt_iff₀ l2] at h2
  constructor
  · rw [← Real.log_le_log_iff (by positivity) hy, Real.log_zpow]; exact h1
  · rw [← Real.log_lt_log_iff hy (by positivity), Real.log_zpow]; push_cast; exact h2

theorem field_small (y : ℝ) (h0 : 0 ≤ y) (h : y < (2 : ℝ) ^ (-126 : ℤ)) : field (y : EReal) = 0#32 := by
  refine field_eq _ 0 (by omega) ?_ ?_
  · rw [word_zero]; exact_mod_cast h0
  · rw [word_eq 1 (by omega) (by omega)]; exact_mod_cast h

theorem field_large (y : ℝ) (h : (2 : ℝ) ^ (-126 : ℤ) ≤ y) (h' : y < (2 : ℝ) ^ (126 : ℤ)) :
    ∃ b : Nat, 1 ≤ b ∧ b ≤ 252 ∧ field (y : EReal) = BitVec.ofNat 32 b ∧ exn y = (b : ℤ) - 126 := by
  have hy : 0 < y := lt_of_lt_of_le (by positivity) h
  obtain ⟨h1, h2⟩ := floor_log y hy _ rfl
  set n := ⌊Real.log y / Real.log 2⌋ with hn
  have n1 : -126 ≤ n := by
    have := (zpow_lt_zpow_iff_right₀ (by norm_num : (1 : ℝ) < 2)).1 (lt_of_le_of_lt h h2)
    omega
  have n2 : n < 126 := (zpow_lt_zpow_iff_right₀ (by norm_num : (1 : ℝ) < 2)).1 (lt_of_le_of_lt h1 h')
  refine ⟨(n + 127).toNat, by omega, by omega, ?_, ?_⟩
  · have c : (((n + 127).toNat : ℕ) : ℤ) = n + 127 := Int.toNat_of_nonneg (by omega)
    refine field_eq _ _ (by omega) ?_ ?_
    · rw [word_eq _ (by omega) (by omega), c]
      exact_mod_cast (by convert h1 using 2; ring : (2 : ℝ) ^ (n + 127 - 127) ≤ y)
    · rw [word_eq _ (by omega) (by omega)]
      push_cast
      rw [c]
      exact_mod_cast (by convert h2 using 2; ring : y < (2 : ℝ) ^ (n + 127 + 1 - 127))
  · unfold exn
    rw [if_neg (not_lt.2 h), ← hn]
    omega

/-- The kernel's word for a scale is the power of two: `z` is whether the tile is all zero. -/
theorem inv_word (a y : ℝ) (h0 : 0 ≤ y) (h : y < (2 : ℝ) ^ (126 : ℤ)) (ha : a = 0 → y = 0) (z : BitVec 1)
    (hz : z = IntOp.ori (BitVec.ofBool (decide ((a : EReal) = 0))) (IntOp.cmpi .eq (field (y : EReal)) 0#32)) :
    Ideal.ofBits .f32 (IntOp.shli .vector (Scalar.select z 127#32 (IntOp.subi 253#32 (field (y : EReal)))) 23#32) =
      (((2 : ℝ) ^ (-exn y) : ℝ) : EReal) ∧
    Ideal.ofBits .f32 (IntOp.shli .vector (Scalar.select z 127#32 (IntOp.addi (field (y : EReal)) 1#32)) 23#32) =
      (((2 : ℝ) ^ (exn y) : ℝ) : EReal) := by
  have w127 : Ideal.ofBits .f32 (IntOp.shli .vector 127#32 23#32) = 1 := by
    have := word_eq 127 (by omega) (by omega)
    unfold word at this
    rw [this]; norm_num
  rcases lt_or_ge y ((2 : ℝ) ^ (-126 : ℤ)) with hs | hs
  · have f0 := field_small y h0 hs
    have hz1 : z = 1#1 := by
      rw [hz, f0]
      generalize BitVec.ofBool _ = q
      revert q; decide
    have e : exn y = 0 := by unfold exn; rw [if_pos hs]
    rw [hz1, e]
    simp only [Scalar.select]
    refine ⟨?_, ?_⟩ <;> simp [w127]
  · obtain ⟨b, b1, b2, fb, eb⟩ := field_large y hs h
    have hy : 0 < y := lt_of_lt_of_le (by positivity) hs
    have hz0 : z = 0#1 := by
      have a0 : a ≠ 0 := fun h => hy.ne' (ha h)
      have d : decide ((a : EReal) = 0) = false := by simpa using a0
      rw [hz, fb, d]
      have : ∀ b : Fin 253, 1 ≤ b.val → IntOp.ori (BitVec.ofBool false) (IntOp.cmpi .eq (BitVec.ofNat 32 b.val) 0#32) = 0#1 := by
        decide +kernel
      exact this ⟨b, by omega⟩ b1
    rw [hz0, fb, eb]
    have s1 : IntOp.subi 253#32 (BitVec.ofNat 32 b) = BitVec.ofNat 32 (253 - b) := by
      have : ∀ b : Fin 253, IntOp.subi 253#32 (BitVec.ofNat 32 b.val) = BitVec.ofNat 32 (253 - b.val) := by
        decide +kernel
      exact this ⟨b, by omega⟩
    have s2 : IntOp.addi (BitVec.ofNat 32 b) 1#32 = BitVec.ofNat 32 (b + 1) := by
      have : ∀ b : Fin 253, IntOp.addi (BitVec.ofNat 32 b.val) 1#32 = BitVec.ofNat 32 (b.val + 1) := by
        decide +kernel
      exact this ⟨b, by omega⟩
    have t1 := word_eq (253 - b) (by omega) (by omega)
    have t2 := word_eq (b + 1) (by omega) (by omega)
    unfold word at t1 t2
    simp only [Scalar.select]
    constructor
    · rw [if_neg (by decide), s1, t1]
      congr 2; omega
    · rw [if_neg (by decide), s2, t2]
      congr 2; omega

/-- The reference's exponent, read at an element. -/
def expo (y : EReal) : EReal :=
  if y < Ideal.ofBits FTy.f32 8388608#32 then Ideal.ofBits FTy.f32 0#32
  else Ideal.liftRound Int.floor (Ideal.div (Ideal.log y) (Ideal.log (Ideal.ofBits FTy.f32 1073741824#32))) + 1

theorem ofBits_two : Ideal.ofBits FTy.f32 1073741824#32 = ((2 : ℝ) : EReal) := by
  have := word_eq 128 (by omega) (by omega)
  unfold word at this
  rw [show IntOp.shli ArithUnit.vector (BitVec.ofNat 32 128) 23#32 = 1073741824#32 by decide] at this
  rw [this]; norm_num

theorem ofBits_tiny : Ideal.ofBits FTy.f32 8388608#32 = (((2 : ℝ) ^ (-126 : ℤ) : ℝ) : EReal) := by
  have := word_eq 1 (by omega) (by omega)
  unfold word at this
  rw [show IntOp.shli ArithUnit.vector (BitVec.ofNat 32 1) 23#32 = 8388608#32 by decide] at this
  rw [this]; norm_num

theorem ofBits_zero : Ideal.ofBits FTy.f32 0#32 = 0 := by
  simp [Ideal.ofBits, Ideal.ieee]

theorem expo_eq (y : ℝ) (h0 : 0 ≤ y) : expo (y : EReal) = ((exn y : ℝ) : EReal) := by
  unfold expo exn
  rw [ofBits_tiny, ofBits_two, ofBits_zero]
  by_cases h : y < (2 : ℝ) ^ (-126 : ℤ)
  · rw [if_pos (by exact_mod_cast h), if_pos h]; simp
  · rw [if_neg (by exact_mod_cast h), if_neg h]
    have hy : 0 < y := lt_of_lt_of_le (by positivity) (not_lt.1 h)
    have l2 : 0 < Real.log 2 := Real.log_pos (by norm_num)
    have e1 : Ideal.log (y : EReal) = ((Real.log y : ℝ) : EReal) := if_neg (not_le.2 hy)
    have e2 : Ideal.log ((2 : ℝ) : EReal) = ((Real.log 2 : ℝ) : EReal) := if_neg (by norm_num)
    rw [e1, e2, Ideal.div, if_neg (by exact_mod_cast l2.ne'), ← EReal.coe_inv, ← EReal.coe_mul,
      Ideal.liftRound_coe, ← div_eq_mul_inv]
    push_cast
    rfl

theorem pow_two (n : ℤ) :
    Ideal.pow (Ideal.ofBits FTy.f32 1073741824#32) (((n : ℝ)) : EReal) = (((2 : ℝ) ^ n : ℝ) : EReal) := by
  rw [ofBits_two]
  show ((Real.rpow 2 (n : ℝ) : ℝ) : EReal) = _
  congr 1
  exact Real.rpow_intCast 2 n

end Cert.Proof.Expo
-- ==== Proof.Quantise.lean ====
/- The quantiser of one tile: its greatest absolute value, its power-of-two scale and its clipped codes, as the reference
   states them, and the kernel's words for the scale and its reciprocal. -/
module

public import proofs.«01_k».proof.Proof.Exponent

@[expose] public section

noncomputable section

namespace Cert.Proof.Expo

open Idealize.ShloMosaic

/-- The reciprocal of 448, as both programs hold it. -/
def c448 : EReal := Ideal.ofBits .f32 991054117#32

/-- The greatest absolute value of a tile. -/
def amax {ι : Type} [Fintype ι] (T : ι → EReal) : EReal := Finset.univ.sup fun i => max (T i) (-(T i))

/-- The scale of a tile with greatest absolute value `A`, and its reciprocal. -/
def scaleOf (A : EReal) : EReal := Ideal.pow (Ideal.ofBits FTy.f32 1073741824#32) (expo (A * c448))
def invOf (A : EReal) : EReal := Ideal.pow (Ideal.ofBits FTy.f32 1073741824#32) (-(expo (A * c448)))

/-- The code of `x` by the reciprocal scale `w`. -/
def codeOf (x w : EReal) : EReal := min (Ideal.ofBits FTy.f32 1138753536#32) (max (Ideal.ofBits FTy.f32 3286237184#32) (x * w))

/-- Whether the kernel takes the scale to be one. -/
def kZero (A : EReal) : BitVec 1 :=
  IntOp.ori (BitVec.ofBool (decide (A = 0))) (IntOp.cmpi .eq (field (A * c448)) 0#32)
/-- The kernel's words for the reciprocal scale and the scale. -/
def kInv (A : EReal) : EReal :=
  Ideal.ofBits .f32 (IntOp.shli .vector (Scalar.select (kZero A) 127#32 (IntOp.subi 253#32 (field (A * c448)))) 23#32)
def kFwd (A : EReal) : EReal :=
  Ideal.ofBits .f32 (IntOp.shli .vector (Scalar.select (kZero A) 127#32 (IntOp.addi (field (A * c448)) 1#32)) 23#32)

theorem c448_eq : ∃ c : ℝ, c448 = (c : EReal) ∧ 0 < c ∧ c ≤ 1 / 128 := by
  have h : c448 = (((9586981 : ℝ) * (2 : ℝ) ^ (-32 : ℤ) : ℝ) : EReal) := by
    simp [c448, Ideal.ofBits, Ideal.ieee, -EReal.coe_mul]
  exact ⟨_, h, by norm_num, by norm_num⟩

/-- The kernel's words are the reference's powers of two, for a greatest absolute value below `2 ^ 130`. -/
theorem words_eq (A : EReal) (a : ℝ) (h : A = (a : EReal)) (h0 : 0 ≤ a) (h1 : a ≤ (2 : ℝ) ^ (130 : ℤ)) :
    kInv A = invOf A ∧ kFwd A = scaleOf A := by
  obtain ⟨c, hc, c0, c1⟩ := c448_eq
  have hy : A * c448 = ((a * c : ℝ) : EReal) := by rw [h, hc, EReal.coe_mul]
  have y0 : 0 ≤ a * c := mul_nonneg h0 c0.le
  have y1 : a * c < (2 : ℝ) ^ (126 : ℤ) := by
    calc a * c ≤ (2 : ℝ) ^ (130 : ℤ) * (1 / 128) := mul_le_mul h1 c1 c0.le (by positivity)
      _ < (2 : ℝ) ^ (126 : ℤ) := by norm_num
  have key := inv_word a (a * c) y0 y1 (fun e => by rw [e, zero_mul]) (kZero A) (by unfold kZero; rw [hy, h])
  unfold kInv kFwd invOf scaleOf
  rw [hy, expo_eq _ y0, pow_two, ← EReal.coe_neg, ← Int.cast_neg, pow_two]
  exact key

/-- A nonempty tile of bounded reals has a greatest absolute value that is a bounded real. -/
theorem amax_real {ι : Type} [Fintype ι] [Nonempty ι] (T : ι → EReal) (M : ℝ)
    (h : ∀ i, max (T i) (-(T i)) ≤ (M : EReal)) : ∃ a : ℝ, amax T = (a : EReal) ∧ 0 ≤ a ∧ a ≤ M := by
  have lo : (0 : EReal) ≤ amax T := by
    obtain ⟨i⟩ := ‹Nonempty ι›
    refine le_trans ?_ (Finset.le_sup (f := fun i => max (T i) (-(T i))) (Finset.mem_univ i))
    rcases le_total 0 (T i) with h | h
    · exact le_max_of_le_left h
    · exact le_max_of_le_right (by simpa using EReal.neg_le_neg_iff.2 h)
  have hi : amax T ≤ (M : EReal) := Finset.sup_le fun i _ => h i
  have e : ((amax T).toReal : EReal) = amax T :=
    EReal.coe_toReal (ne_top_of_le_ne_top (EReal.coe_ne_top M) hi) (ne_bot_of_le_ne_bot EReal.zero_ne_bot lo)
  refine ⟨(amax T).toReal, e.symm, ?_, ?_⟩
  · rw [← e] at lo; exact_mod_cast lo
  · rw [← e] at hi; exact_mod_cast hi

/-- The kernel's scale words of a bounded tile are the reference's. -/
theorem tile_words {ι : Type} [Fintype ι] [Nonempty ι] (T : ι → EReal)
    (h : ∀ i, max (T i) (-(T i)) ≤ (((2 : ℝ) ^ (130 : ℤ) : ℝ) : EReal)) :
    kInv (amax T) = invOf (amax T) ∧ kFwd (amax T) = scaleOf (amax T) := by
  obtain ⟨a, e, a0, a1⟩ := amax_real T _ h
  exact words_eq _ a e a0 a1

theorem ofBits_bot : Ideal.ofBits FTy.f32 4286578688#32 = ⊥ := by
  simp [Ideal.ofBits, Ideal.ieee]

/-- A maximum from minus infinity is a supremum. -/
theorem fold_max {ι : Type} (s : Finset ι) (f : ι → EReal) :
    Finset.fold max (Ideal.ofBits FTy.f32 4286578688#32) f s = s.sup f := by
  rw [ofBits_bot]; rfl

/-- Two nested suprema are one over pairs. -/
theorem sup_sup {ι κ : Type} [Fintype ι] [Fintype κ] (f : ι → κ → EReal) :
    (Finset.univ.sup fun j => Finset.univ.sup fun i => f i j) = Finset.univ.sup fun p : ι × κ => f p.1 p.2 := by
  rw [← Finset.univ_product_univ, Finset.sup_product_right]

end Cert.Proof.Expo
-- ==== Proof.TripQK.lean ====
/- One step of the loop over 128-row strips of q and k: the codes and the scales that it stores. -/
module

public import proofs.«01_k».proof.Proof.Gen.KernelIdeal.Loops
public import proofs.«01_k».proof.Proof.Pieces
public import proofs.«01_k».proof.Proof.Quantise
public import Idealize.ShloMosaic.Lib.Pointwise

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo

/-- Strip `k` of a block, as a tile. -/
def tile (B : Fin 4096 → Fin 128 → EReal) (k : ℕ) (p : Fin 128 × Fin 128) : EReal := B (row k p.1) p.2

/-- A block less its columns' means, from the columns' sums. -/
def centred (B : Fin 4096 → Fin 128 → EReal) (v2 : FVec Ideal S1x128 .f32) (r : Fin 4096) (l : Fin 128) : EReal :=
  B r l - v2 (ix2 0 l) * Ideal.ofBits FTy.f32 964689920#32

/-- The kernel's maximum over rows, then over lanes, is the tile's greatest absolute value. -/
theorem fold_amax {ι κ : Type} [Fintype ι] [Fintype κ] (f : ι → κ → EReal) :
    Finset.fold max (Ideal.ofBits FTy.f32 4286578688#32)
      (fun l => Finset.fold max (Ideal.ofBits FTy.f32 4286578688#32) (fun r => FloatOps.absf (F := Ideal) (φ := .f32) (f r l)) Finset.univ)
      Finset.univ = amax fun p : ι × κ => f p.1 p.2 := by
  simp only [fold_max]
  rw [sup_sup (fun (r : ι) (l : κ) => (FloatOps.absf (F := Ideal) (φ := .f32) (f r l) : EReal))]
  rfl

variable (𝒱 : Variants) (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- The codes of strip `k` of q. -/
theorem trip_qc (v2 : FVec Ideal S1x128 .f32) (X2 : BufTy.Contents (Elt Ideal) arg2.view.ty) (X3 : BufTy.Contents (Elt Ideal) arg3.view.ty)
    (X4 : BufTy.Contents (Elt Ideal) arg4.view.ty) (k : Fin k0_t2_loop.trips) (acc : FVec Ideal S1x128 .f32) :
    ∃ (h : _) (V : _), (Gen.tripL_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 k acc).1 = [⟨Rect.unit (s := S1x4096x128) (k0_off2 k) ![1, 128, 128] h, V⟩] ∧
      ∀ r l : Fin 128, V (ix3 0 r l) = codeOf (tile (blk arg2 X2) k.val (r, l)) (kInv (amax (tile (blk arg2 X2) k.val))) := by
  unfold Gen.tripL_k0_t2 Gen.trip_k0_t2
  dsimp only
  sl_unfold_run_names
  refine ⟨_, _, rfl, ?_⟩
  intro r l
  pointwise [Gen.k0_pay1, Gen.k0_pay2, Gen.k0_pay3, Gen.k0_pay4, Gen.k0_pay5, Gen.k0_pay6, Gen.k0_pay7, Gen.k0_pay8, k0_part1]
  simp only [readAt_rows _ _ _ k.val k.isLt (Gen.k0_off2_eq k)]
  rw [fold_amax]
  rfl

/-- The codes of strip `k` of k less its mean. -/
theorem trip_kc (v2 : FVec Ideal S1x128 .f32) (X2 : BufTy.Contents (Elt Ideal) arg2.view.ty) (X3 : BufTy.Contents (Elt Ideal) arg3.view.ty)
    (X4 : BufTy.Contents (Elt Ideal) arg4.view.ty) (k : Fin k0_t2_loop.trips) (acc : FVec Ideal S1x128 .f32) :
    ∃ (h : _) (V : _), (Gen.tripL_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 k acc).2.1 = [⟨Rect.unit (s := S1x4096x128) (k0_off2 k) ![1, 128, 128] h, V⟩] ∧
      ∀ r l : Fin 128, V (ix3 0 r l) = codeOf (tile (centred (blk arg3 X3) v2) k.val (r, l)) (kInv (amax (tile (centred (blk arg3 X3) v2) k.val))) := by
  unfold Gen.tripL_k0_t2 Gen.trip_k0_t2
  dsimp only
  sl_unfold_run_names
  refine ⟨_, _, rfl, ?_⟩
  intro r l
  pointwise [Gen.k0_pay49, Gen.k0_pay52, Gen.k0_pay51, Gen.k0_pay53]
  simp only [readAt_rows _ _ _ k.val k.isLt (Gen.k0_off2_eq k)]
  rw [fold_amax]
  rfl

/-- The scale of strip `k` of q, in every lane. -/
theorem trip_qs (v2 : FVec Ideal S1x128 .f32) (X2 : BufTy.Contents (Elt Ideal) arg2.view.ty) (X3 : BufTy.Contents (Elt Ideal) arg3.view.ty)
    (X4 : BufTy.Contents (Elt Ideal) arg4.view.ty) (k : Fin k0_t2_loop.trips) (acc : FVec Ideal S1x128 .f32) :
    ∃ (h : _) (V : _), (Gen.tripL_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 k acc).2.2.1 = [⟨Rect.unit (s := S32x128) (k0_off3 k) ![1, 128] h, V⟩] ∧
      ∀ l : Fin 128, V (ix2 0 l) = kFwd (amax (tile (blk arg2 X2) k.val)) := by
  unfold Gen.tripL_k0_t2 Gen.trip_k0_t2
  dsimp only
  sl_unfold_run_names
  refine ⟨_, _, rfl, ?_⟩
  intro l
  pointwise [Gen.k0_pay1, Gen.k0_pay2, Gen.k0_pay3, Gen.k0_pay4, Gen.k0_pay5, Gen.k0_pay6, Gen.k0_pay7, Gen.k0_pay8, k0_part1]
  simp only [readAt_rows _ _ _ k.val k.isLt (Gen.k0_off2_eq k)]
  rw [fold_amax]
  rfl

/-- The scale of strip `k` of k less its mean, in every lane. -/
theorem trip_ks (v2 : FVec Ideal S1x128 .f32) (X2 : BufTy.Contents (Elt Ideal) arg2.view.ty) (X3 : BufTy.Contents (Elt Ideal) arg3.view.ty)
    (X4 : BufTy.Contents (Elt Ideal) arg4.view.ty) (k : Fin k0_t2_loop.trips) (acc : FVec Ideal S1x128 .f32) :
    ∃ (h : _) (V : _), (Gen.tripL_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 k acc).2.2.2 = [⟨Rect.unit (s := S32x128) (k0_off3 k) ![1, 128] h, V⟩] ∧
      ∀ l : Fin 128, V (ix2 0 l) = kFwd (amax (tile (centred (blk arg3 X3) v2) k.val)) := by
  unfold Gen.tripL_k0_t2 Gen.trip_k0_t2
  dsimp only
  sl_unfold_run_names
  refine ⟨_, _, rfl, ?_⟩
  intro l
  pointwise [Gen.k0_pay49, Gen.k0_pay52, Gen.k0_pay51, Gen.k0_pay53]
  simp only [readAt_rows _ _ _ k.val k.isLt (Gen.k0_off2_eq k)]
  rw [fold_amax]
  rfl

end Cert.Proof.KernelIdeal
-- ==== Proof.Block.lean ====
/- What a grid point leaves in its code blocks and scale rows, from the blocks of q, k and v that it finds. -/
module

public import proofs.«01_k».proof.Proof.Gen.KernelIdeal.Loops
public import proofs.«01_k».proof.Proof.TripQK
public import proofs.«01_k».proof.Proof.Quantise
public import Idealize.ShloMosaic.Lib.Pointwise

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo

/-- The codes of a block whose 128-row strips have a scale each. -/
def stripCode (B : Fin 4096 → Fin 128 → EReal) (r : Fin 4096) (l : Fin 128) : EReal :=
  codeOf (B r l) (kInv (amax (tile B (r.val / 128))))
/-- The scale of strip `n`. -/
def stripScale (B : Fin 4096 → Fin 128 → EReal) (n : ℕ) : EReal := kFwd (amax (tile B n))
/-- A block as one tile. -/
def whole (B : Fin 4096 → Fin 128 → EReal) (p : Fin 4096 × Fin 128) : EReal := B p.1 p.2
/-- The codes of a block with one scale, and that scale. -/
def blockCode (B : Fin 4096 → Fin 128 → EReal) (r : Fin 4096) (l : Fin 128) : EReal := codeOf (B r l) (kInv (amax (whole B)))
def blockScale (B : Fin 4096 → Fin 128 → EReal) : EReal := kFwd (amax (whole B))
/-- A block less its columns' means. -/
def smooth (B : Fin 4096 → Fin 128 → EReal) (r : Fin 4096) (l : Fin 128) : EReal :=
  B r l - (∑ r' : Fin 4096, B r' l) * Ideal.ofBits FTy.f32 964689920#32

/-- An absolute value is not negative. -/
theorem abs_nonneg' (x : EReal) : 0 ≤ max x (-x) := by
  rcases le_total 0 x with h | h
  · exact le_max_of_le_left h
  · exact le_max_of_le_right (by simpa using EReal.neg_le_neg_iff.2 h)

theorem row_div (k : ℕ) (hk : k < 32) (r : Fin 128) : (row k r).val / 128 = k := by
  rw [row_val k hk]; have := r.isLt; omega

/-- Row `r` is row `r % 128` of strip `r / 128`. -/
theorem row_of (r : Fin 4096) : row (r.val / 128) ⟨r.val % 128, Nat.mod_lt _ (by norm_num)⟩ = r := by
  apply Fin.ext
  rw [row_val _ (by have := r.isLt; omega)]
  exact Nat.div_add_mod r.val 128

variable (𝒱 : Variants) (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- The loop over k's 256-row strips sums the columns. -/
theorem sum_loop (X3 : BufTy.Contents (Elt Ideal) arg3.view.ty) (l : Fin 128) (n : ℕ) (hn : n ≤ 16) :
    Gen.st_k0_t1 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 n (ix2 0 l) = ∑ k ∈ Finset.range n, ∑ x : Fin 256, blk arg3 X3 ⟨(256 * k + x.val) % 4096, Nat.mod_lt _ (by norm_num)⟩ l := by
  induction n with
  | zero =>
    rw [Gen.st_k0_t1_zero, Finset.sum_range_zero]
    pointwise [Gen.k0_pay47]
  | succ k ih =>
    have hk : k < 16 := by omega
    have e := Gen.st_k0_t1_succ (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 ⟨k, hk⟩
    dsimp only at e
    rw [e, Finset.sum_range_succ, ← ih (by omega)]
    unfold Gen.tripR_k0_t1 Gen.trip_k0_t1
    dsimp only
    sl_unfold_run_names
    generalize Gen.st_k0_t1 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 k = acc
    have ho := Gen.k0_off1_eq ⟨k, hk⟩
    pointwise [Gen.k0_pay48]
    refine congrArg _ (Finset.sum_congr rfl fun x _ => ?_)
    rw [View.readAt_apply]
    refine congrArg _ ?_
    funext a
    apply Fin.ext
    have hx := x.isLt
    match a with
    | ⟨0, _⟩ => exact (by simp [ho] : k0_off1 ⟨k, hk⟩ 0 + 1 * 0 = 0)
    | ⟨1, _⟩ =>
      show k0_off1 ⟨k, _⟩ 1 + 1 * x.val = (256 * k + x.val) % 4096
      rw [ho, Nat.mod_eq_of_lt (by omega)]
      simp
    | ⟨2, _⟩ => exact (by simp [ho] : k0_off1 ⟨k, hk⟩ 2 + 1 * l.val = l.val)

/-- All sixteen strips: the columns' sums. -/
theorem sum_all (X3 : BufTy.Contents (Elt Ideal) arg3.view.ty) (l : Fin 128) :
    Gen.st_k0_t1 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16 (ix2 0 l) = ∑ r : Fin 4096, blk arg3 X3 r l := by
  rw [sum_loop 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 X3 l 16 le_rfl, Finset.sum_range]
  rw [← Fintype.sum_prod_type' (fun (k : Fin 16) (x : Fin 256) => blk arg3 X3 ⟨(256 * k.val + x.val) % 4096, Nat.mod_lt _ (by norm_num)⟩ l)]
  refine Fintype.sum_equiv (finProdFinEquiv (m := 16) (n := 256)) _ _ ?_
  intro p
  refine congrArg (fun r : Fin 4096 => blk arg3 X3 r l) ?_
  apply Fin.ext
  have h1 := p.1.isLt
  have h2 := p.2.isLt
  show (256 * p.1.val + p.2.val) % 4096 = p.2.val + 256 * p.1.val
  rw [Nat.mod_eq_of_lt (by omega)]; omega

/-- The block less its means, as the kernel computes them. -/
theorem centred_sum (X3 : BufTy.Contents (Elt Ideal) arg3.view.ty) :
    centred (blk arg3 X3) (Gen.st_k0_t1 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16) = smooth (blk arg3 X3) := by
  funext r l
  unfold centred smooth
  rw [sum_all]

/-- The block of q's codes. -/
theorem read_qc (v2 : FVec Ideal S1x128 .f32) (X2 : BufTy.Contents (Elt Ideal) arg2.view.ty) (X3 : BufTy.Contents (Elt Ideal) arg3.view.ty) (X4 : BufTy.Contents (Elt Ideal) arg4.view.ty)
    (f : BufTy.Contents (Elt Ideal) arg6.view.ty) (r : Fin 4096) (l : Fin 128) :
    arg6.view.read (Elt Ideal) (arg6.view.writes (Elt Ideal) f (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 32).2.1) (ix3 0 r l) = stripCode (blk arg2 X2) r l := by
  refine strips arg6 (fun r l => stripCode (blk arg2 X2) r l) (fun n => (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 n).2.1) rfl ?_ f _ _
  intro k hk
  obtain ⟨h, V, hL, hV⟩ := trip_qc 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 ⟨k, hk⟩ (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 k).1
  refine ⟨_, h, V, Gen.k0_off2_eq ⟨k, hk⟩, ?_, ?_⟩
  · have e := Gen.st_k0_t2_succ (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 ⟨k, hk⟩
    dsimp only at e ⊢
    rw [e]
    exact congrArg (· ++ _) hL
  · intro r l
    rw [hV r l]
    unfold stripCode
    rw [row_div k hk]
    rfl

/-- The block of k's codes. -/
theorem read_kc (v2 : FVec Ideal S1x128 .f32) (X2 : BufTy.Contents (Elt Ideal) arg2.view.ty) (X3 : BufTy.Contents (Elt Ideal) arg3.view.ty) (X4 : BufTy.Contents (Elt Ideal) arg4.view.ty)
    (f : BufTy.Contents (Elt Ideal) arg8.view.ty) (r : Fin 4096) (l : Fin 128) :
    arg8.view.read (Elt Ideal) (arg8.view.writes (Elt Ideal) f (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 32).2.2.1) (ix3 0 r l) = stripCode (centred (blk arg3 X3) v2) r l := by
  refine strips arg8 (fun r l => stripCode (centred (blk arg3 X3) v2) r l) (fun n => (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 n).2.2.1) rfl ?_ f _ _
  intro k hk
  obtain ⟨h, V, hL, hV⟩ := trip_kc 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 ⟨k, hk⟩ (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 k).1
  refine ⟨_, h, V, Gen.k0_off2_eq ⟨k, hk⟩, ?_, ?_⟩
  · have e := Gen.st_k0_t2_succ (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 ⟨k, hk⟩
    dsimp only at e ⊢
    rw [e]
    exact congrArg (· ++ _) hL
  · intro r l
    rw [hV r l]
    unfold stripCode
    rw [row_div k hk]
    rfl

/-- The scratch rows of q's scales. -/
theorem read_qs (v2 : FVec Ideal S1x128 .f32) (X2 : BufTy.Contents (Elt Ideal) arg2.view.ty) (X3 : BufTy.Contents (Elt Ideal) arg3.view.ty) (X4 : BufTy.Contents (Elt Ideal) arg4.view.ty)
    (f : BufTy.Contents (Elt Ideal) arg13.view.ty) (n : Fin 32) (l : Fin 128) :
    arg13.view.read (Elt Ideal) (arg13.view.writes (Elt Ideal) f (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 32).2.2.2.1) (ix2 n l) = stripScale (blk arg2 X2) n.val := by
  refine lanes arg13 (fun n _ => stripScale (blk arg2 X2) n.val) (fun n => (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 n).2.2.2.1) rfl ?_ f _ _
  intro k hk
  obtain ⟨h, V, hL, hV⟩ := trip_qs 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 ⟨k, hk⟩ (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 k).1
  refine ⟨_, h, V, Gen.k0_off3_eq ⟨k, hk⟩, ?_, ?_⟩
  · have e := Gen.st_k0_t2_succ (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 ⟨k, hk⟩
    dsimp only at e ⊢
    rw [e]
    exact congrArg (· ++ _) hL
  · intro l
    exact hV l

/-- The scratch rows of k's scales. -/
theorem read_ks (v2 : FVec Ideal S1x128 .f32) (X2 : BufTy.Contents (Elt Ideal) arg2.view.ty) (X3 : BufTy.Contents (Elt Ideal) arg3.view.ty) (X4 : BufTy.Contents (Elt Ideal) arg4.view.ty)
    (f : BufTy.Contents (Elt Ideal) arg14.view.ty) (n : Fin 32) (l : Fin 128) :
    arg14.view.read (Elt Ideal) (arg14.view.writes (Elt Ideal) f (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 32).2.2.2.2) (ix2 n l) = stripScale (centred (blk arg3 X3) v2) n.val := by
  refine lanes arg14 (fun n _ => stripScale (centred (blk arg3 X3) v2) n.val) (fun n => (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 n).2.2.2.2) rfl ?_ f _ _
  intro k hk
  obtain ⟨h, V, hL, hV⟩ := trip_ks 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 ⟨k, hk⟩ (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 k).1
  refine ⟨_, h, V, Gen.k0_off3_eq ⟨k, hk⟩, ?_, ?_⟩
  · have e := Gen.st_k0_t2_succ (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 ⟨k, hk⟩
    dsimp only at e ⊢
    rw [e]
    exact congrArg (· ++ _) hL
  · intro l
    exact hV l

/-- A bound of the running column maxima of v is a bound of the rows seen so far. -/
theorem vmax_loop (v2 : FVec Ideal S1x128 .f32) (X2 : BufTy.Contents (Elt Ideal) arg2.view.ty) (X3 : BufTy.Contents (Elt Ideal) arg3.view.ty) (X4 : BufTy.Contents (Elt Ideal) arg4.view.ty) (l : Fin 128) (z : EReal) (n : ℕ) (hn : n ≤ 32) :
    (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 n).1 (ix2 0 l) ≤ z ↔ 0 ≤ z ∧ ∀ k, k < n → ∀ r : Fin 128, max (blk arg4 X4 (row k r) l) (-(blk arg4 X4 (row k r) l)) ≤ z := by
  induction n with
  | zero =>
    rw [Gen.st_k0_t2_zero]
    have e : (Gen.k0_pay50 (F := Ideal)) (ix2 0 l) = 0 := by pointwise [Gen.k0_pay50]
    rw [e]
    exact ⟨fun h => ⟨h, fun k hk => absurd hk (by omega)⟩, fun h => h.1⟩
  | succ k ih =>
    have hk : k < 32 := by omega
    have e := Gen.st_k0_t2_succ (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 ⟨k, hk⟩
    dsimp only at e
    rw [e]
    dsimp only
    have ih' := ih (by omega)
    unfold Gen.tripR_k0_t2 Gen.trip_k0_t2
    dsimp only
    sl_unfold_run_names
    generalize (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 k).1 = acc at ih' ⊢
    have e2 : ∀ b, (Gen.k0_pay54 (F := Ideal) acc b) (ix2 0 l) = max (acc (ix2 0 l))
        (Finset.fold max (Ideal.ofBits FTy.f32 4286578688#32) (fun x => FloatOps.absf (F := Ideal) (φ := .f32) (b (ix3 0 x l))) Finset.univ) := by
      intro b
      pointwise [Gen.k0_pay54]
    rw [e2, fold_max, max_le_iff, ih', Finset.sup_le_iff]
    simp only [readAt_rows _ _ _ k hk (Gen.k0_off2_eq ⟨k, hk⟩)]
    constructor
    · rintro ⟨⟨h0, h1⟩, h2⟩
      refine ⟨h0, fun k' hk' r => ?_⟩
      rcases Nat.lt_succ_iff_lt_or_eq.1 hk' with h | h
      · exact h1 k' h r
      · subst h; exact h2 r (Finset.mem_univ r)
    · rintro ⟨h0, h1⟩
      exact ⟨⟨h0, fun k' hk' r => h1 k' (by omega) r⟩, fun r _ => h1 k (by omega) r⟩

/-- The greatest lane of the column maxima is v's greatest absolute value. -/
theorem vmax_all (v2 : FVec Ideal S1x128 .f32) (X2 : BufTy.Contents (Elt Ideal) arg2.view.ty) (X3 : BufTy.Contents (Elt Ideal) arg3.view.ty) (X4 : BufTy.Contents (Elt Ideal) arg4.view.ty) :
    Finset.fold max (Ideal.ofBits FTy.f32 4286578688#32) (fun l : Fin 128 => (Gen.st_k0_t2 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 Gen.k0_pay50 32).1 (ix2 0 l)) Finset.univ =
      amax (whole (blk arg4 X4)) := by
  rw [fold_max]
  refine eq_of_forall_ge_iff fun z => ?_
  unfold amax
  simp only [Finset.sup_le_iff, Finset.mem_univ, true_imp_iff, vmax_loop 𝒱 c i arg2 harg2 arg3 harg3 arg4 harg4 arg5 harg5 arg6 harg6 arg7 harg7 arg8 harg8 arg9 harg9 arg10 harg10 arg11 harg11 arg12 harg12 arg13 harg13 arg14 harg14 arg15 harg15 arg16 harg16 v2 X2 X3 X4 _ z 32 le_rfl]
  constructor
  · rintro h ⟨r, l⟩
    have hr : r.val / 128 < 32 := by have := r.isLt; omega
    have key := (h l).2 (r.val / 128) hr ⟨r.val % 128, Nat.mod_lt _ (by norm_num)⟩
    rw [row_of] at key
    exact key
  · intro h l
    have key : ∀ r : Fin 4096, max (blk arg4 X4 r l) (-(blk arg4 X4 r l)) ≤ z := fun r => h (r, l)
    exact ⟨(abs_nonneg' _).trans (key ⟨0, by norm_num⟩), fun k _ r => key (row k r)⟩

/-- The block of v's codes, from the column maxima `V7`. -/
theorem read_vc (a0 a1 : BitVec 32) (V7 : FVec Ideal S1x128 .f32) (v34 : IVec S1x1 32) (X4 : BufTy.Contents (Elt Ideal) arg4.view.ty)
    (f : BufTy.Contents (Elt Ideal) arg10.view.ty) (r : Fin 4096) (l : Fin 128) :
    arg10.view.read (Elt Ideal) (arg10.view.writes (Elt Ideal) f (Gen.pb_k0_t3 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 a0 a1 (Gen.k0_pay58 V7) v34 23#32 X4 32).1) (ix3 0 r l) =
      codeOf (blk arg4 X4 r l) (kInv (Finset.fold max (Ideal.ofBits FTy.f32 4286578688#32) (fun l : Fin 128 => V7 (ix2 0 l)) Finset.univ)) := by
  refine strips arg10 (fun r l => codeOf (blk arg4 X4 r l) (kInv (Finset.fold max (Ideal.ofBits FTy.f32 4286578688#32) (fun l : Fin 128 => V7 (ix2 0 l)) Finset.univ)))
    (fun n => (Gen.pb_k0_t3 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 a0 a1 (Gen.k0_pay58 V7) v34 23#32 X4 n).1) rfl ?_ f r l
  intro k hk
  have e := Gen.pb_k0_t3_succ (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 a0 a1 (Gen.k0_pay58 V7) v34 23#32 X4 ⟨k, hk⟩
  dsimp only at e ⊢
  rw [e]
  unfold Gen.trip_k0_t3
  dsimp only
  sl_unfold_run_names
  refine ⟨_, _, _, Gen.k0_off4_eq ⟨k, hk⟩, rfl, ?_⟩
  intro r l
  pointwise [Gen.k0_pay63, Gen.k0_pay60, Gen.k0_pay62, Gen.k0_pay58, Gen.k0_pay57, Gen.k0_pay56, Gen.k0_pay55]
  simp only [readAt_rows _ _ _ k hk (Gen.k0_off4_eq ⟨k, hk⟩)]
  rfl

/-- The table of v's scales after a point: its own entry is new. -/
theorem table (a0 a1 : BitVec 32) (V7 : FVec Ideal S1x128 .f32) (v : Vec Ideal S8x16 .f32) (r : Fin 8) (l : Fin 16) :
    Gen.k0_pay68 (F := Ideal) a0 a1 (Gen.k0_pay59 V7) v (ix2 r l) =
      if BitVec.ofNat 32 r.val = a0 ∧ BitVec.ofNat 32 l.val = a1 then
        kFwd (Finset.fold max (Ideal.ofBits FTy.f32 4286578688#32) (fun l : Fin 128 => V7 (ix2 0 l)) Finset.univ)
      else v (ix2 r l) := by
  pointwise [Gen.k0_pay68, Gen.k0_pay61, Gen.k0_pay59, Gen.k0_pay57, Gen.k0_pay56, Gen.k0_pay55]
  by_cases h : BitVec.ofNat 32 r.val = a0 ∧ BitVec.ofNat 32 l.val = a1
  · have hc : IntOp.andi (IntOp.cmpi CmpIPredicate.eq (BitVec.ofNat 32 r.val) a0) (IntOp.cmpi CmpIPredicate.eq (BitVec.ofNat 32 l.val) a1) = 1#1 := by
      simp [IntOp.cmpi, IntOp.andi, h.1, h.2]
    rw [hc, if_pos h]
    exact if_pos rfl
  · have hc : IntOp.andi (IntOp.cmpi CmpIPredicate.eq (BitVec.ofNat 32 r.val) a0) (IntOp.cmpi CmpIPredicate.eq (BitVec.ofNat 32 l.val) a1) = 0#1 := by
      by_cases h0 : BitVec.ofNat 32 r.val = a0
      · have h1 : ¬ BitVec.ofNat 32 l.val = a1 := fun h1 => h ⟨h0, h1⟩
        simp [IntOp.cmpi, IntOp.andi, beq_eq_false_iff_ne.2 h1]
      · simp [IntOp.cmpi, IntOp.andi, beq_eq_false_iff_ne.2 h0]
    rw [hc, if_neg h]
    exact if_neg (by decide)

end Cert.Proof.KernelIdeal
-- ==== Proof.Bounded.lean ====
/- What the precondition says: every element of the arguments is a real of absolute value at most `2 ^ 128`. And what
   follows for a block less its columns' means. -/
module

public import proofs.«01_k».proof.Pre_bounded
public import proofs.«01_k».proof.Proof.Block
public import Idealize.ShloMosaic.Lib.ReduceAll

@[expose] public section

noncomputable section

namespace Cert.Proof.Bounded

open Idealize.ShloMosaic
open Cert.Proof.Expo

/-- The precondition's bound is below `2 ^ 128`. -/
theorem bound_le : Ideal.ofBits .f32 0x7F7F0000#32 ≤ (((2 : ℝ) ^ (128 : ℤ) : ℝ) : EReal) := by
  have h : Ideal.ofBits .f32 0x7F7F0000#32 = ((16711680 * (2 : ℝ) ^ (104 : ℤ) : ℝ) : EReal) := by
    simp [Ideal.ofBits, Ideal.ieee, -EReal.coe_mul]
  rw [h]
  exact_mod_cast (by norm_num : (16711680 * (2 : ℝ) ^ (104 : ℤ) : ℝ) ≤ (2 : ℝ) ^ (128 : ℤ))

/-- One argument's part of the precondition, read at an element. -/
theorem all_le {s t u : Shape} {axes : List (Fin s.rank)} [Subsingleton t.Idx] (A : FVec Ideal s .bf16) (Y : FVec Ideal s .f32)
    (hb : FTy.bits .bf16 < FTy.bits .f32) (hY : ∀ i, Y i = Ideal.ofBits .f32 0x7F7F0000#32) (init : u.Idx → BitVec 1)
    (h : s.ReducesTo axes t) (hu : 0 < u.numel) (j : t.Idx)
    (e : Host.reduce IntOp.andi (cmpf .ole (Host.absf (extf .f32 A hb)) Y) init h hu j = 1#1) (i : s.Idx) :
    max (A i) (-(A i)) ≤ (((2 : ℝ) ^ (128 : ℤ) : ℝ) : EReal) := by
  have k := Host.reduce_andi_all _ _ _ _ j e i
  have k' : BitVec.ofBool (decide (max (A i) (-(A i)) ≤ Y i)) = 1#1 := k
  have k'' : max (A i) (-(A i)) ≤ Y i := by
    by_contra hn
    rw [decide_eq_false hn] at k'
    exact absurd k' (by decide)
  rw [hY] at k''
  exact k''.trans bound_le

/-- The shape relations that the precondition states. -/
instance facts : Cert.Pre_bounded.Facts where
  bitsLt_bf16_f32 := by decide
  bcast_S_S8x4096x2048 := by decide
  reducesTo_S8x4096x2048_S_d0_1_2 := by decide
  h_S_ := by decide

/-- The precondition, read at an element of each argument. -/
theorem args_le (x k v : FVec Ideal Cert.Pre_bounded.S8x4096x2048 .bf16) (h : Cert.Pre_bounded.fn x k v = fun _ => 1#1) :
    (∀ i, max (x i) (-(x i)) ≤ (((2 : ℝ) ^ (128 : ℤ) : ℝ) : EReal))
    ∧ (∀ i, max (k i) (-(k i)) ≤ (((2 : ℝ) ^ (128 : ℤ) : ℝ) : EReal))
    ∧ (∀ i, max (v i) (-(v i)) ≤ (((2 : ℝ) ^ (128 : ℤ) : ℝ) : EReal)) := by
  have h0 := congrFun h (fun a => a.elim0)
  obtain ⟨h1, h2⟩ := IntOp.andi_eq_one.1 h0
  obtain ⟨h3, h4⟩ := IntOp.andi_eq_one.1 h1
  exact ⟨all_le x _ _ (fun _ => rfl) _ _ _ _ h3, all_le k _ _ (fun _ => rfl) _ _ _ _ h4, all_le v _ _ (fun _ => rfl) _ _ _ _ h2⟩

/-- A bounded extended real is a bounded real. -/
theorem real_of (x : EReal) (M : ℝ) (h : max x (-x) ≤ (M : EReal)) : ∃ a : ℝ, x = (a : EReal) ∧ |a| ≤ M := by
  have h1 : x ≤ (M : EReal) := (le_max_left _ _).trans h
  have h2 : -x ≤ (M : EReal) := (le_max_right _ _).trans h
  have h3 : ((-M : ℝ) : EReal) ≤ x := by
    rw [EReal.coe_neg]
    exact EReal.neg_le.1 h2
  have e : (x.toReal : EReal) = x := EReal.coe_toReal (ne_top_of_le_ne_top (EReal.coe_ne_top M) h1) (ne_bot_of_le_ne_bot (EReal.coe_ne_bot _) h3)
  refine ⟨x.toReal, e.symm, abs_le.2 ⟨?_, ?_⟩⟩
  · rw [← e] at h3; exact_mod_cast h3
  · rw [← e] at h1; exact_mod_cast h1

/-- A bounded real has a bounded absolute value as an extended real. -/
theorem of_real (a M : ℝ) (h : |a| ≤ M) : max (a : EReal) (-(a : EReal)) ≤ (M : EReal) := by
  obtain ⟨h1, h2⟩ := abs_le.1 h
  refine max_le (by exact_mod_cast h2) ?_
  rw [← EReal.coe_neg]
  exact_mod_cast (by linarith : -a ≤ M)

theorem ofBits_mean : Ideal.ofBits FTy.f32 964689920#32 = (((2 : ℝ) ^ (-12 : ℤ) : ℝ) : EReal) := by
  simp [Ideal.ofBits, Ideal.ieee, -EReal.coe_mul]
  norm_num

theorem ofBits_rows : Ideal.ofBits FTy.f32 1166016512#32 = ((4096 : ℝ) : EReal) := by
  simp [Ideal.ofBits, Ideal.ieee, -EReal.coe_mul]
  norm_num

/-- The sum of 4096 reals, as an extended real. -/
theorem sum_real {ι : Type} [Fintype ι] (g : ι → ℝ) : (∑ r, (g r : EReal)) = ((∑ r, g r : ℝ) : EReal) := by
  classical
  induction (Finset.univ : Finset ι) using Finset.induction_on with
  | empty => simp
  | insert a s ha ih => rw [Finset.sum_insert ha, Finset.sum_insert ha, ih, EReal.coe_add]

/-- A mean of 4096: the quotient by 4096 is the product with its reciprocal. -/
theorem mean_eq (x : EReal) : Ideal.div x (Ideal.ofBits .f32 1166016512#32) = x * Ideal.ofBits .f32 964689920#32 := by
  rw [ofBits_mean, ofBits_rows, Ideal.div_coe (by norm_num)]
  norm_num

variable (B : Fin 4096 → Fin 128 → EReal) (hB : ∀ r l, max (B r l) (-(B r l)) ≤ (((2 : ℝ) ^ (128 : ℤ) : ℝ) : EReal))

include hB in
/-- A bounded block less its columns' means is bounded. -/
theorem smooth_le (r : Fin 4096) (l : Fin 128) :
    max (Cert.Proof.KernelIdeal.smooth B r l) (-(Cert.Proof.KernelIdeal.smooth B r l)) ≤ (((2 : ℝ) ^ (130 : ℤ) : ℝ) : EReal) := by
  choose g hg hb using fun r => real_of _ _ (hB r l)
  have e : (∑ r, B r l) = ((∑ r, g r : ℝ) : EReal) := by
    rw [← sum_real]
    exact Finset.sum_congr rfl fun r _ => hg r
  have hs : |∑ r, g r| ≤ 4096 * (2 : ℝ) ^ (128 : ℤ) := by
    refine (Finset.abs_sum_le_sum_abs _ _).trans ((Finset.sum_le_card_nsmul _ _ _ fun r _ => hb r).trans (le_of_eq ?_))
    rw [Finset.card_univ, Fintype.card_fin, nsmul_eq_mul]
    norm_num
  have k : Cert.Proof.KernelIdeal.smooth B r l = ((g r - (∑ r, g r) * (2 : ℝ) ^ (-12 : ℤ) : ℝ) : EReal) := by
    unfold Cert.Proof.KernelIdeal.smooth
    rw [e, ofBits_mean, hg r, EReal.coe_sub, EReal.coe_mul]
  rw [k]
  refine of_real _ _ ((abs_sub _ _).trans ?_)
  rw [abs_mul, abs_of_pos (by positivity : (0 : ℝ) < (2 : ℝ) ^ (-12 : ℤ))]
  have h1 : |∑ r, g r| * (2 : ℝ) ^ (-12 : ℤ) ≤ 4096 * (2 : ℝ) ^ (128 : ℤ) * (2 : ℝ) ^ (-12 : ℤ) := mul_le_mul_of_nonneg_right hs (by positivity)
  have h2 := hb r
  have h3 : (2 : ℝ) ^ (128 : ℤ) + 4096 * (2 : ℝ) ^ (128 : ℤ) * (2 : ℝ) ^ (-12 : ℤ) ≤ (2 : ℝ) ^ (130 : ℤ) := by norm_num
  linarith

end Cert.Proof.Bounded

end
-- ==== Proof.Frames.lean ====
/- The frames, and the one named constant: each program runs to its end without fault, leaves its arguments as they were and
   every semaphore counter at zero. -/
module

public import proofs.«01_k».proof.Defs
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.Bounded
public import Idealize.ShloMosaic.Lib.Quiescent

@[expose] public section

noncomputable section

namespace Cert.Proof

open Idealize.ShloMosaic Idealize.ShloMosaic.TcCoe Idealize.SL.Sem

/-- The kernel on words. -/
theorem frame_kernel : Cert.quiescent_Kernel (hKernel := Cert.Kernel.Gen.facts) := fun m ρ _ =>
  (θ_run Cert.Kernel.defs _ _).mono
    (fun _ h => ⟨fun c => ⟨Kernel.final_arg0 h.1 c, Kernel.final_arg1 h.1 c, Kernel.final_arg2 h.1 c⟩, h.2⟩)
    (Kernel.run_main (F := Bits) m ρ)

/-- The kernel over the extended reals. -/
theorem frame_kernelIdeal : Cert.quiescent_KernelIdeal (hKernelIdeal := Cert.KernelIdeal.Gen.facts) := fun m ρ _ =>
  (θ_run Cert.KernelIdeal.defs _ _).mono
    (fun _ h => ⟨fun c => ⟨KernelIdeal.final_arg0 h.1 c, KernelIdeal.final_arg1 h.1 c, KernelIdeal.final_arg2 h.1 c⟩, h.2⟩)
    (KernelIdeal.run_main m ρ)

/-- The reference over the extended reals, which declares no semaphore. -/
theorem frame_referenceIdeal : Cert.quiescent_ReferenceIdeal (hReferenceIdeal := Cert.ReferenceIdeal.Gen.facts) := fun m ρ _ =>
  (θ_run Cert.ReferenceIdeal.defs _ _).mono
    (fun r h => ⟨fun c => (h c).2.2.2.2.2.2.2, sem_eq_zero_of_no_sems rfl r.2⟩)
    (Cert.ReferenceIdeal.Value.run (F := Ideal) m ρ)

/-- The same two frames from the memories that the value claim starts from. -/
theorem frame_kernelIdeal_bounded : Cert.quiescent_KernelIdeal_pre_bounded (hKernelIdeal := Cert.KernelIdeal.Gen.facts) (hPre_bounded := Bounded.facts) :=
  fun m ρ _ => frame_kernelIdeal m ρ trivial

theorem frame_referenceIdeal_bounded : Cert.quiescent_ReferenceIdeal_pre_bounded (hReferenceIdeal := Cert.ReferenceIdeal.Gen.facts) (hPre_bounded := Bounded.facts) :=
  fun m ρ _ => frame_referenceIdeal m ρ trivial

/-- The kernel over the extended reals takes log2 e / √128 for its rounding. -/
theorem preserves : Cert.preserves_Kernel_KernelIdeal :=
  IdealRules.named_const.statement Cert.KernelIdeal.κ "sm_log2e" .f32 0x3E0293EE#32 (((Real.sqrt 128)⁻¹ * (Real.log 2)⁻¹ : ℝ) : EReal) rfl

end Cert.Proof

end
-- ==== Proof.RefRead.lean ====
/- The reference program's quantiser, element by element. -/
module

public import proofs.«01_k».proof.Proof.Gen.ReferenceIdeal.Run
public import proofs.«01_k».proof.Proof.Quantise
public import Idealize.ShloMosaic.Lib.Pointwise
public import Idealize.ShloMosaic.Lib.Tactic.CleanTypes

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.SL.Sem Idealize.ShloMosaic.StableHlo
open Cert.Proof.Expo

/-- A reduction by the maximum of the absolute values, read at one place: the greatest absolute value of the
    elements that the reduction sends there, listed by `e`. -/
theorem reduce_amax {s t : Shape} {axes : List (Fin s.rank)} (hr : s.ReducesTo axes t) (T : FVec Ideal s .f32) (j : t.Idx)
    {P : Type} [Fintype P] (e : P → s.Idx) (h1 : ∀ p, hr.drop (e p) = j) (h2 : ∀ x, hr.drop x = j → ∃ p, x = e p) :
    (Host.reduce FloatOps.maximumf (Host.absf T) (constant S_ .f32 0xFF800000#32) hr h_S_ : FVec Ideal t .f32) j
      = amax (fun p => T (e p)) := by
  refine (Host.reduce_eq_fold (max : EReal → EReal → EReal) (fun x => max (T x) (-(T x)))
    (fun _ => Ideal.ofBits .f32 4286578688#32) hr h_S_ j).trans ?_
  rw [fold_max]
  unfold amax
  apply le_antisymm
  · refine Finset.sup_le fun x hx => ?_
    obtain ⟨p, rfl⟩ := h2 x (Finset.mem_filter.mp hx).2
    exact Finset.le_sup (f := fun p => max (T (e p)) (-(T (e p)))) (Finset.mem_univ p)
  · refine Finset.sup_le fun p _ => ?_
    exact Finset.le_sup (f := fun x => max (T x) (-(T x))) (b := e p)
      (Finset.mem_filter.mpr ⟨Finset.mem_univ _, h1 p⟩)

/-- The greatest absolute value of each tile of 128 rows of a head. -/
def red5 (T : FVec Ideal S8x32x128x16x128 .f32) : FVec Ideal S8x32x16 .f32 :=
  Host.reduce FloatOps.maximumf (Host.absf T) (constant S_ .f32 0xFF800000#32) reducesTo_S8x32x128x16x128_S8x32x16_d2_4 h_S_

theorem red5_eq (T : FVec Ideal S8x32x128x16x128 .f32) (a : Fin 8) (b : Fin 32) (h : Fin 16) :
    red5 T (ix3 a b h) = amax (fun p : Fin 128 × Fin 128 => T (ix5 a b p.1 h p.2)) := by
  refine reduce_amax reducesTo_S8x32x128x16x128_S8x32x16_d2_4 T (ix3 a b h) (P := Fin 128 × Fin 128) (fun p => ix5 a b p.1 h p.2) ?_ ?_
  · intro p
    funext k
    match k with
    | ⟨0, _⟩ => rfl
    | ⟨1, _⟩ => rfl
    | ⟨2, _⟩ => rfl
  · intro x hx
    have h0 : x 0 = a := congrFun hx 0
    have h1 : x 1 = b := congrFun hx 1
    have h3 : x 3 = h := congrFun hx 2
    refine ⟨(x 2, x 4), ?_⟩
    funext k
    match k with
    | ⟨0, _⟩ => exact h0
    | ⟨1, _⟩ => exact h1
    | ⟨2, _⟩ => rfl
    | ⟨3, _⟩ => exact h3
    | ⟨4, _⟩ => rfl

/-- The greatest absolute value of each tile of 128 rows of a head, over 448. -/
def top5 (T : FVec Ideal S8x32x128x16x128 .f32) : FVec Ideal S8x32x1x16x1 .f32 :=
  mulf (broadcastInDim S8x32x1x16x1 ![0, 1, 3] bcast_S8x32x16_S8x32x1x16x1_0_1_3 (red5 T)) (broadcastInDim S8x32x1x16x1 ![] bcast_S_S8x32x1x16x1 (constant S_ .f32 0x3B124925#32))

/-- The exponents of the tiles' scales. -/
def exp5 (Y : FVec Ideal S8x32x1x16x1 .f32) : FVec Ideal S8x32x1x16x1 .f32 :=
  select (cmpf .olt Y (broadcastInDim S8x32x1x16x1 ![] bcast_S_S8x32x1x16x1 (constant S_ .f32 0x00800000#32))) (broadcastInDim S8x32x1x16x1 ![] bcast_S_S8x32x1x16x1 (id (constant S_ .f32 0x00000000#32))) (addf (Host.floor (Host.divf (Host.log Y) (broadcastInDim S8x32x1x16x1 ![] bcast_S_S8x32x1x16x1 (Host.log (constant S_ .f32 0x40000000#32))))) (broadcastInDim S8x32x1x16x1 ![] bcast_S_S8x32x1x16x1 (constant S_ .f32 0x3F800000#32)))

/-- Two to the exponents. -/
def pow5 (E : FVec Ideal S8x32x1x16x1 .f32) : FVec Ideal S8x32x1x16x1 .f32 :=
  Host.powf (broadcastInDim S8x32x1x16x1 ![] bcast_S_S8x32x1x16x1 (constant S_ .f32 0x40000000#32)) E

/-- The codes: the values times a power for each tile, clipped. -/
def codes5 (T : FVec Ideal S8x32x128x16x128 .f32) (W : FVec Ideal S8x32x1x16x1 .f32) : FVec Ideal S8x32x128x16x128 .f32 :=
  minimumf (broadcastInDim S8x32x128x16x128 ![] bcast_S_S8x32x128x16x128 (id (constant S_ .f32 0x43E00000#32))) (maximumf (broadcastInDim S8x32x128x16x128 ![] bcast_S_S8x32x128x16x128 (id (constant S_ .f32 0xC3E00000#32))) (mulf T (broadcastInDim S8x32x128x16x128 ![0, 1, 2, 3, 4] bcast_S8x32x1x16x1_S8x32x128x16x128_0_1_2_3_4 W)))

theorem top5_of (R : FVec Ideal S8x32x16 .f32) (a : Fin 8) (b : Fin 32) (h : Fin 16) :
    (mulf (broadcastInDim S8x32x1x16x1 ![0, 1, 3] bcast_S8x32x16_S8x32x1x16x1_0_1_3 R) (broadcastInDim S8x32x1x16x1 ![] bcast_S_S8x32x1x16x1 (constant S_ .f32 0x3B124925#32)) : FVec Ideal S8x32x1x16x1 .f32) (ix5 a b 0 h 0) = R (ix3 a b h) * Ideal.ofBits .f32 991054117#32 := by
  clean_types
  pointwise

/-- The maximum over a tile, over 448. -/
theorem top5_eq (T : FVec Ideal S8x32x128x16x128 .f32) (a : Fin 8) (b : Fin 32) (h : Fin 16) :
    top5 T (ix5 a b 0 h 0) = amax (fun p : Fin 128 × Fin 128 => T (ix5 a b p.1 h p.2)) * c448 := by
  unfold top5 c448
  rw [top5_of, red5_eq]

theorem exp5_eq (Y : FVec Ideal S8x32x1x16x1 .f32) (a : Fin 8) (b : Fin 32) (h : Fin 16) :
    exp5 Y (ix5 a b 0 h 0) = expo (Y (ix5 a b 0 h 0)) := by
  unfold exp5
  clean_types
  pointwise
  rfl

theorem pow5_eq (E : FVec Ideal S8x32x1x16x1 .f32) (a : Fin 8) (b : Fin 32) (h : Fin 16) :
    pow5 E (ix5 a b 0 h 0) = Ideal.pow (Ideal.ofBits FTy.f32 1073741824#32) (E (ix5 a b 0 h 0)) := by
  unfold pow5
  clean_types
  pointwise

theorem neg5_eq (E : FVec Ideal S8x32x1x16x1 .f32) (a : Fin 8) (b : Fin 32) (h : Fin 16) :
    (Host.negf E) (ix5 a b 0 h 0) = -(E (ix5 a b 0 h 0)) := by
  clean_types
  pointwise

theorem codes5_eq (T : FVec Ideal S8x32x128x16x128 .f32) (W : FVec Ideal S8x32x1x16x1 .f32) (a : Fin 8) (b : Fin 32) (r : Fin 128) (h : Fin 16) (l : Fin 128) :
    codes5 T W (ix5 a b r h l) = codeOf (T (ix5 a b r h l)) (W (ix5 a b 0 h 0)) := by
  unfold codes5
  clean_types
  pointwise
  rfl

theorem flat5_eq (T : FVec Ideal S8x32x128x16x128 .f32) (a : Fin 8) (s : Fin 4096) (h : Fin 16) (l : Fin 128) (hl : h.val * 128 + l.val < 2048)  :
    (Host.convertf .fp8e4m3 (shapeCast S8x4096x2048 T shapeCasts_S8x32x128x16x128_S8x4096x2048) : FVec Ideal S8x4096x2048 .fp8e4m3) (ix3 a s ⟨h.val * 128 + l.val, hl⟩) = T (ix5 a ⟨s.val / 128, by omega⟩ ⟨s.val % 128, by omega⟩ h l) := by
  clean_types
  pointwise

theorem rows5_eq (T : FVec Ideal S8x32x1x16x1 .f32) (a : Fin 8) (h : Fin 16) (n : Fin 32) :
    (transpose S8x16x32 [0, 2, 1] (shapeCast S8x32x16 T shapeCasts_S8x32x1x16x1_S8x32x16) transposes_S8x32x16_S8x16x32_0_2_1 : FVec Ideal S8x16x32 .f32) (ix3 a h n) = T (ix5 a n 0 h 0) := by
  clean_types
  pointwise

/-- The greatest absolute value of each head. -/
def red4 (T : FVec Ideal S8x4096x16x128 .f32) : FVec Ideal S8x16 .f32 :=
  Host.reduce FloatOps.maximumf (Host.absf T) (constant S_ .f32 0xFF800000#32) reducesTo_S8x4096x16x128_S8x16_d1_3 h_S_

theorem red4_eq (T : FVec Ideal S8x4096x16x128 .f32) (a : Fin 8) (h : Fin 16) :
    red4 T (ix2 a h) = amax (fun p : Fin 4096 × Fin 128 => T (ix4 a p.1 h p.2)) := by
  refine reduce_amax reducesTo_S8x4096x16x128_S8x16_d1_3 T (ix2 a h) (P := Fin 4096 × Fin 128) (fun p => ix4 a p.1 h p.2) ?_ ?_
  · intro p
    funext k
    match k with
    | ⟨0, _⟩ => rfl
    | ⟨1, _⟩ => rfl
  · intro x hx
    have h0 : x 0 = a := congrFun hx 0
    have h2 : x 2 = h := congrFun hx 1
    refine ⟨(x 1, x 3), ?_⟩
    funext k
    match k with
    | ⟨0, _⟩ => exact h0
    | ⟨1, _⟩ => rfl
    | ⟨2, _⟩ => exact h2
    | ⟨3, _⟩ => rfl

/-- The greatest absolute value of each head, over 448. -/
def top4 (T : FVec Ideal S8x4096x16x128 .f32) : FVec Ideal S8x1x16x1 .f32 :=
  mulf (broadcastInDim S8x1x16x1 ![0, 2] bcast_S8x16_S8x1x16x1_0_2 (red4 T)) (broadcastInDim S8x1x16x1 ![] bcast_S_S8x1x16x1 (constant S_ .f32 0x3B124925#32))

/-- The exponents of the heads' scales. -/
def exp4 (Y : FVec Ideal S8x1x16x1 .f32) : FVec Ideal S8x1x16x1 .f32 :=
  select (cmpf .olt Y (broadcastInDim S8x1x16x1 ![] bcast_S_S8x1x16x1 (constant S_ .f32 0x00800000#32))) (broadcastInDim S8x1x16x1 ![] bcast_S_S8x1x16x1 (id (constant S_ .f32 0x00000000#32))) (addf (Host.floor (Host.divf (Host.log Y) (broadcastInDim S8x1x16x1 ![] bcast_S_S8x1x16x1 (Host.log (constant S_ .f32 0x40000000#32))))) (broadcastInDim S8x1x16x1 ![] bcast_S_S8x1x16x1 (constant S_ .f32 0x3F800000#32)))

/-- Two to the exponents. -/
def pow4 (E : FVec Ideal S8x1x16x1 .f32) : FVec Ideal S8x1x16x1 .f32 :=
  Host.powf (broadcastInDim S8x1x16x1 ![] bcast_S_S8x1x16x1 (constant S_ .f32 0x40000000#32)) E

/-- The codes: the values times a power for each head, clipped. -/
def codes4 (T : FVec Ideal S8x4096x16x128 .f32) (W : FVec Ideal S8x1x16x1 .f32) : FVec Ideal S8x4096x16x128 .f32 :=
  minimumf (broadcastInDim S8x4096x16x128 ![] bcast_S_S8x4096x16x128 (id (constant S_ .f32 0x43E00000#32))) (maximumf (broadcastInDim S8x4096x16x128 ![] bcast_S_S8x4096x16x128 (id (constant S_ .f32 0xC3E00000#32))) (mulf T (broadcastInDim S8x4096x16x128 ![0, 1, 2, 3] bcast_S8x1x16x1_S8x4096x16x128_0_1_2_3 W)))

theorem top4_of (R : FVec Ideal S8x16 .f32) (a : Fin 8) (h : Fin 16) :
    (mulf (broadcastInDim S8x1x16x1 ![0, 2] bcast_S8x16_S8x1x16x1_0_2 R) (broadcastInDim S8x1x16x1 ![] bcast_S_S8x1x16x1 (constant S_ .f32 0x3B124925#32)) : FVec Ideal S8x1x16x1 .f32) (ix4 a 0 h 0) = R (ix2 a h) * Ideal.ofBits .f32 991054117#32 := by
  clean_types
  pointwise

/-- The maximum over a head, over 448. -/
theorem top4_eq (T : FVec Ideal S8x4096x16x128 .f32) (a : Fin 8) (h : Fin 16) :
    top4 T (ix4 a 0 h 0) = amax (fun p : Fin 4096 × Fin 128 => T (ix4 a p.1 h p.2)) * c448 := by
  unfold top4 c448
  rw [top4_of, red4_eq]

theorem exp4_eq (Y : FVec Ideal S8x1x16x1 .f32) (a : Fin 8) (h : Fin 16) :
    exp4 Y (ix4 a 0 h 0) = expo (Y (ix4 a 0 h 0)) := by
  unfold exp4
  clean_types
  pointwise
  rfl

theorem pow4_eq (E : FVec Ideal S8x1x16x1 .f32) (a : Fin 8) (h : Fin 16) :
    pow4 E (ix4 a 0 h 0) = Ideal.pow (Ideal.ofBits FTy.f32 1073741824#32) (E (ix4 a 0 h 0)) := by
  unfold pow4
  clean_types
  pointwise

theorem neg4_eq (E : FVec Ideal S8x1x16x1 .f32) (a : Fin 8) (h : Fin 16) :
    (Host.negf E) (ix4 a 0 h 0) = -(E (ix4 a 0 h 0)) := by
  clean_types
  pointwise

theorem codes4_eq (T : FVec Ideal S8x4096x16x128 .f32) (W : FVec Ideal S8x1x16x1 .f32) (a : Fin 8) (r : Fin 4096) (h : Fin 16) (l : Fin 128) :
    codes4 T W (ix4 a r h l) = codeOf (T (ix4 a r h l)) (W (ix4 a 0 h 0)) := by
  unfold codes4
  clean_types
  pointwise
  rfl

theorem flat4_eq (T : FVec Ideal S8x4096x16x128 .f32) (a : Fin 8) (s : Fin 4096) (h : Fin 16) (l : Fin 128) (hl : h.val * 128 + l.val < 2048)  :
    (Host.convertf .fp8e4m3 (shapeCast S8x4096x2048 T shapeCasts_S8x4096x16x128_S8x4096x2048) : FVec Ideal S8x4096x2048 .fp8e4m3) (ix3 a s ⟨h.val * 128 + l.val, hl⟩) = T (ix4 a s h l) := by
  clean_types
  pointwise

theorem rows4_eq (T : FVec Ideal S8x1x16x1 .f32) (a : Fin 8) (h : Fin 16) :
    (shapeCast S8x16 T shapeCasts_S8x1x16x1_S8x16 : FVec Ideal S8x16 .f32) (ix2 a h) = T (ix4 a 0 h 0) := by
  clean_types
  pointwise

/-- An argument by heads. -/
def heads (A : FVec Ideal S8x4096x2048 .bf16) : FVec Ideal S8x4096x16x128 .f32 :=
  shapeCast S8x4096x16x128 (extf .f32 A bitsLt_bf16_f32) shapeCasts_S8x4096x2048_S8x4096x16x128

theorem heads_eq (A : FVec Ideal S8x4096x2048 .bf16) (a : Fin 8) (s : Fin 4096) (h : Fin 16) (l : Fin 128) :
    heads A (ix4 a s h l) = A (ix3 a s ⟨h.val * 128 + l.val, by omega⟩) := by
  unfold heads
  clean_types
  pointwise

/-- An argument by tiles of 128 rows and heads. -/
def tiles (A : FVec Ideal S8x4096x2048 .bf16) : FVec Ideal S8x32x128x16x128 .f32 :=
  shapeCast S8x32x128x16x128 (extf .f32 A bitsLt_bf16_f32) shapeCasts_S8x4096x2048_S8x32x128x16x128

theorem tiles_eq (A : FVec Ideal S8x4096x2048 .bf16) (a : Fin 8) (b : Fin 32) (r : Fin 128) (h : Fin 16) (l : Fin 128) :
    tiles A (ix5 a b r h l) = A (ix3 a ⟨b.val * 128 + r.val, by omega⟩ ⟨h.val * 128 + l.val, by omega⟩) := by
  unfold tiles
  clean_types
  pointwise

/-- The keys less their mean over the rows. -/
def smoothed (T : FVec Ideal S8x4096x16x128 .f32) : FVec Ideal S8x4096x16x128 .f32 :=
  subf T (broadcastInDim S8x4096x16x128 ![0, 1, 2, 3] bcast_S8x1x16x128_S8x4096x16x128_0_1_2_3 (Host.divf (broadcastInDim S8x1x16x128 ![0, 2, 3] bcast_S8x16x128_S8x1x16x128_0_2_3 (Host.reduceAdd T (constant S_ .f32 0x00000000#32) reducesTo_S8x4096x16x128_S8x16x128_d1 h_S_)) (broadcastInDim S8x1x16x128 ![] bcast_S_S8x1x16x128 (constant S_ .f32 0x45800000#32))))

theorem smoothed_eq (T : FVec Ideal S8x4096x16x128 .f32) (a : Fin 8) (s : Fin 4096) (h : Fin 16) (l : Fin 128) :
    smoothed T (ix4 a s h l) = T (ix4 a s h l) - Ideal.div (∑ r : Fin 4096, T (ix4 a r h l)) (Ideal.ofBits .f32 1166016512#32) := by
  unfold smoothed
  clean_types
  pointwise

theorem split_eq (T : FVec Ideal S8x4096x16x128 .f32) (a : Fin 8) (b : Fin 32) (r : Fin 128) (h : Fin 16) (l : Fin 128) :
    (shapeCast S8x32x128x16x128 T shapeCasts_S8x4096x16x128_S8x32x128x16x128 : FVec Ideal S8x32x128x16x128 .f32) (ix5 a b r h l) =
      T (ix4 a ⟨b.val * 128 + r.val, by omega⟩ h l) := by
  clean_types
  pointwise

end Cert.Proof.ReferenceIdeal
-- ==== Proof.RefAttention.lean ====
/- The reference program's attention, element by element. -/
module

public import proofs.«01_k».proof.Proof.RefRead

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.SL.Sem Idealize.ShloMosaic.StableHlo
open Cert.Proof.Expo

/-- The products of the queries with the keys. -/
def rawOf (Cq Ck : FVec Ideal S8x32x128x16x128 .f32) : FVec Ideal S8x16x4096x4096 .f32 :=
  Host.dotGeneral dot_S8x4096x16x128_S8x4096x16x128_S8x16x4096x4096_3_3_1_1_02_02 none (shapeCast _ Cq shapeCasts_S8x32x128x16x128_S8x4096x16x128) (shapeCast _ Ck shapeCasts_S8x32x128x16x128_S8x4096x16x128)

theorem rawOf_eq (Cq Ck : FVec Ideal S8x32x128x16x128 .f32) (a : Fin 8) (h : Fin 16) (q : Fin 4096) (k : Fin 4096) :
    rawOf Cq Ck (ix4 a h q k) = ∑ d : Fin 128, Cq (ix5 a ⟨q.val / 128, by omega⟩ ⟨q.val % 128, by omega⟩ h d) * Ck (ix5 a ⟨k.val / 128, by omega⟩ ⟨k.val % 128, by omega⟩ h d) := by
  unfold rawOf
  clean_types
  pointwise

/-- The scores: the products times the scales, of the keys that are not after the query. -/
def scoresOf (R : FVec Ideal S8x16x4096x4096 .f32) (Sq Sk : FVec Ideal S8x32x1x16x1 .f32) : FVec Ideal S8x16x4096x4096 .f32 :=
  select (broadcastInDim S8x16x4096x4096 ![2, 3] bcast_S4096x4096_S8x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (mulf R (broadcastInDim S8x16x4096x4096 ![0, 1, 2, 3] bcast_S8x16x4096x1_S8x16x4096x4096_0_1_2_3 (Host.divf (broadcastInDim S8x16x4096x1 ![0, 1, 2] bcast_S8x16x4096_S8x16x4096x1_0_1_2 (transpose S8x16x4096 [0, 2, 1] (shapeCast _ (broadcastInDim S8x32x128x16x1 ![0, 1, 2, 3, 4] bcast_S8x32x1x16x1_S8x32x128x16x1_0_1_2_3_4 Sq) shapeCasts_S8x32x128x16x1_S8x4096x16) transposes_S8x4096x16_S8x16x4096_0_2_1)) (broadcastInDim S8x16x4096x1 ![] bcast_S_S8x16x4096x1 (Host.sqrt (constant S_ .f32 0x43000000#32)))))) (broadcastInDim S8x16x4096x4096 ![0, 1, 2, 3] bcast_S8x16x1x4096_S8x16x4096x4096_0_1_2_3 (broadcastInDim S8x16x1x4096 ![0, 1, 3] bcast_S8x16x4096_S8x16x1x4096_0_1_3 (transpose S8x16x4096 [0, 2, 1] (shapeCast _ (broadcastInDim S8x32x128x16x1 ![0, 1, 2, 3, 4] bcast_S8x32x1x16x1_S8x32x128x16x1_0_1_2_3_4 Sk) shapeCasts_S8x32x128x16x1_S8x4096x16) transposes_S8x4096x16_S8x16x4096_0_2_1)))) (broadcastInDim S8x16x4096x4096 ![] bcast_S_S8x16x4096x4096 (id (constant S_ .f32 0xFF800000#32)))

theorem scoresOf_eq (R : FVec Ideal S8x16x4096x4096 .f32) (Sq Sk : FVec Ideal S8x32x1x16x1 .f32) (a : Fin 8) (h : Fin 16) (q : Fin 4096) (k : Fin 4096) :
    scoresOf R Sq Sk (ix4 a h q k) = if k.val ≤ q.val then R (ix4 a h q k) * Ideal.div (Sq (ix5 a ⟨q.val / 128, by omega⟩ 0 h 0)) (Ideal.sqrt (Ideal.ofBits .f32 1124073472#32)) * Sk (ix5 a ⟨k.val / 128, by omega⟩ 0 h 0) else ⊥ := by
  unfold scoresOf
  clean_types
  pointwise
  have hq := q.isLt
  have hk := k.isLt
  have e : ∀ z : ℕ, z < 4096 → (BitVec.ofNat 32 z).toInt = z := fun z hz => by
    rw [BitVec.toInt_eq_toNat_of_lt (by rw [BitVec.toNat_ofNat]; omega), BitVec.toNat_ofNat]
    omega
  have hc : IntOp.cmpi CmpIPredicate.sle (BitVec.ofNat 32 k.val) (BitVec.ofNat 32 q.val) = if k.val ≤ q.val then 1#1 else 0#1 := by
    by_cases h : k.val ≤ q.val
    · rw [if_pos h]
      simp [IntOp.cmpi, BitVec.sle, e _ hq, e _ hk, h]
    · rw [if_neg h]
      simp [IntOp.cmpi, BitVec.sle, e _ hq, e _ hk, h]
  rw [hc]
  by_cases h : k.val ≤ q.val
  · rw [if_pos h, if_pos h]
    rfl
  · rw [if_neg h, if_neg h]
    exact ofBits_bot

/-- The greatest score of each query. -/
def maxOf (S : FVec Ideal S8x16x4096x4096 .f32) : FVec Ideal S8x16x4096 .f32 :=
  Host.reduce FloatOps.maximumf S (constant S_ .f32 0xFF800000#32) reducesTo_S8x16x4096x4096_S8x16x4096_d3 h_S_

theorem maxOf_eq (S : FVec Ideal S8x16x4096x4096 .f32) (a : Fin 8) (h : Fin 16) (q : Fin 4096) :
    maxOf S (ix3 a h q) = Finset.univ.sup fun k : Fin 4096 => S (ix4 a h q k) := by
  refine (Host.reduce_eq_fold (max : EReal → EReal → EReal) S (fun _ => Ideal.ofBits .f32 4286578688#32) reducesTo_S8x16x4096x4096_S8x16x4096_d3 h_S_ (ix3 a h q)).trans ?_
  rw [fold_max]
  apply le_antisymm
  · refine Finset.sup_le fun x hx => ?_
    have hx := (Finset.mem_filter.mp hx).2
    have h0 : x 0 = a := congrFun hx 0
    have h1 : x 1 = h := congrFun hx 1
    have h2 : x 2 = q := congrFun hx 2
    have e : x = ix4 a h q (x 3) := by
      funext k
      match k with
      | ⟨0, _⟩ => exact h0
      | ⟨1, _⟩ => exact h1
      | ⟨2, _⟩ => exact h2
      | ⟨3, _⟩ => rfl
    rw [e]
    exact Finset.le_sup (f := fun k : Fin 4096 => S (ix4 a h q k)) (Finset.mem_univ _)
  · refine Finset.sup_le fun k _ => ?_
    refine Finset.le_sup (f := S) (Finset.mem_filter.mpr ⟨Finset.mem_univ (ix4 a h q k), ?_⟩)
    funext k
    match k with
    | ⟨0, _⟩ => rfl
    | ⟨1, _⟩ => rfl
    | ⟨2, _⟩ => rfl

/-- The exponentials of the scores less the greatest. -/
def expsOf (S : FVec Ideal S8x16x4096x4096 .f32) (M : FVec Ideal S8x16x4096 .f32) : FVec Ideal S8x16x4096x4096 .f32 :=
  Host.exp (subf S (broadcastInDim S8x16x4096x4096 ![0, 1, 2, 3] bcast_S8x16x4096x1_S8x16x4096x4096_0_1_2_3 (broadcastInDim S8x16x4096x1 ![0, 1, 2] bcast_S8x16x4096_S8x16x4096x1_0_1_2 M)))

theorem expsOf_eq (S : FVec Ideal S8x16x4096x4096 .f32) (M : FVec Ideal S8x16x4096 .f32) (a : Fin 8) (h : Fin 16) (q : Fin 4096) (k : Fin 4096) :
    expsOf S M (ix4 a h q k) = Ideal.exp (S (ix4 a h q k) - M (ix3 a h q)) := by
  unfold expsOf
  clean_types
  pointwise

/-- Their sum over the keys. -/
def sumsOf (E : FVec Ideal S8x16x4096x4096 .f32) : FVec Ideal S8x16x4096x1 .f32 :=
  broadcastInDim S8x16x4096x1 ![0, 1, 2] bcast_S8x16x4096_S8x16x4096x1_0_1_2 (Host.reduceAdd E (constant S_ .f32 0x00000000#32) reducesTo_S8x16x4096x4096_S8x16x4096_d3 h_S_)

theorem sumsOf_eq (E : FVec Ideal S8x16x4096x4096 .f32) (a : Fin 8) (h : Fin 16) (q : Fin 4096) :
    sumsOf E (ix4 a h q 0) = ∑ k : Fin 4096, E (ix4 a h q k) := by
  unfold sumsOf
  clean_types
  pointwise

/-- One over the sum, over 448. -/
def invsOf (L : FVec Ideal S8x16x4096x1 .f32) : FVec Ideal S8x16x4096x1 .f32 :=
  mulf (Host.divf (broadcastInDim S8x16x4096x1 ![] bcast_S_S8x16x4096x1 (constant S_ .f32 0x3F800000#32)) L) (broadcastInDim S8x16x4096x1 ![] bcast_S_S8x16x4096x1 (constant S_ .f32 0x3B124925#32))

theorem invsOf_eq (L : FVec Ideal S8x16x4096x1 .f32) (a : Fin 8) (h : Fin 16) (q : Fin 4096) :
    invsOf L (ix4 a h q 0) = Ideal.div (Ideal.ofBits .f32 1065353216#32) (L (ix4 a h q 0)) * c448 := by
  unfold invsOf c448
  clean_types
  pointwise

/-- The exponents of the probabilities' scales. -/
def expOf (Y : FVec Ideal S8x16x4096x1 .f32) : FVec Ideal S8x16x4096x1 .f32 :=
  select (cmpf .olt Y (broadcastInDim S8x16x4096x1 ![] bcast_S_S8x16x4096x1 (constant S_ .f32 0x00800000#32))) (broadcastInDim S8x16x4096x1 ![] bcast_S_S8x16x4096x1 (id (constant S_ .f32 0x00000000#32))) (addf (Host.floor (Host.divf (Host.log Y) (broadcastInDim S8x16x4096x1 ![] bcast_S_S8x16x4096x1 (Host.log (constant S_ .f32 0x40000000#32))))) (broadcastInDim S8x16x4096x1 ![] bcast_S_S8x16x4096x1 (constant S_ .f32 0x3F800000#32)))

theorem expOf_eq (Y : FVec Ideal S8x16x4096x1 .f32) (a : Fin 8) (h : Fin 16) (q : Fin 4096) : expOf Y (ix4 a h q 0) = expo (Y (ix4 a h q 0)) := by
  unfold expOf
  clean_types
  pointwise
  rfl

/-- The codes of the probabilities. -/
def probsOf (E : FVec Ideal S8x16x4096x4096 .f32) (L X : FVec Ideal S8x16x4096x1 .f32) : FVec Ideal S8x16x4096x4096 .f32 :=
  minimumf (broadcastInDim S8x16x4096x4096 ![] bcast_S_S8x16x4096x4096 (id (constant S_ .f32 0x43E00000#32))) (maximumf (broadcastInDim S8x16x4096x4096 ![] bcast_S_S8x16x4096x4096 (id (constant S_ .f32 0xC3E00000#32))) (mulf (Host.divf E (broadcastInDim S8x16x4096x4096 ![0, 1, 2, 3] bcast_S8x16x4096x1_S8x16x4096x4096_0_1_2_3 L)) (broadcastInDim S8x16x4096x4096 ![0, 1, 2, 3] bcast_S8x16x4096x1_S8x16x4096x4096_0_1_2_3 (Host.powf (broadcastInDim S8x16x4096x1 ![] bcast_S_S8x16x4096x1 (constant S_ .f32 0x40000000#32)) (Host.negf X)))))

theorem probsOf_eq (E : FVec Ideal S8x16x4096x4096 .f32) (L X : FVec Ideal S8x16x4096x1 .f32) (a : Fin 8) (h : Fin 16) (q : Fin 4096) (k : Fin 4096) :
    probsOf E L X (ix4 a h q k) = codeOf (Ideal.div (E (ix4 a h q k)) (L (ix4 a h q 0))) (Ideal.pow (Ideal.ofBits FTy.f32 1073741824#32) (-(X (ix4 a h q 0)))) := by
  unfold probsOf
  clean_types
  pointwise
  rfl

/-- The products of the probabilities with the values. -/
def mixOf (P : FVec Ideal S8x16x4096x4096 .f32) (Cv : FVec Ideal S8x4096x16x128 .f32) : FVec Ideal S8x16x4096x128 .f32 :=
  Host.dotGeneral dot_S8x16x4096x4096_S8x4096x16x128_S8x16x4096x128_3_1_2_3_01_02 none P Cv

theorem mixOf_eq (P : FVec Ideal S8x16x4096x4096 .f32) (Cv : FVec Ideal S8x4096x16x128 .f32) (a : Fin 8) (h : Fin 16) (q : Fin 4096) (d : Fin 128) :
    mixOf P Cv (ix4 a h q d) = ∑ k : Fin 4096, P (ix4 a h q k) * Cv (ix4 a k h d) := by
  unfold mixOf
  clean_types
  pointwise

/-- The result: the products times the scales. -/
def resultOf (O : FVec Ideal S8x16x4096x128 .f32) (X : FVec Ideal S8x16x4096x1 .f32) (Sv : FVec Ideal S8x1x16x1 .f32) : FVec Ideal S8x4096x2048 .bf16 :=
  truncf .bf16 (shapeCast _ (transpose S8x4096x16x128 [0, 2, 1, 3] (mulf (mulf O (broadcastInDim S8x16x4096x128 ![0, 1, 2, 3] bcast_S8x16x4096x1_S8x16x4096x128_0_1_2_3 (Host.powf (broadcastInDim S8x16x4096x1 ![] bcast_S_S8x16x4096x1 (constant S_ .f32 0x40000000#32)) X))) (broadcastInDim S8x16x4096x128 ![0, 1, 2, 3] bcast_S8x16x1x1_S8x16x4096x128_0_1_2_3 (transpose S8x16x1x1 [0, 2, 1, 3] Sv transposes_S8x1x16x1_S8x16x1x1_0_2_1_3))) transposes_S8x16x4096x128_S8x4096x16x128_0_2_1_3) shapeCasts_S8x4096x16x128_S8x4096x2048) bitsLt_bf16_f32

theorem resultOf_eq (O : FVec Ideal S8x16x4096x128 .f32) (X : FVec Ideal S8x16x4096x1 .f32) (Sv : FVec Ideal S8x1x16x1 .f32) (a : Fin 8) (h : Fin 16) (q : Fin 4096) (d : Fin 128) (hl : h.val * 128 + d.val < 2048) :
    resultOf O X Sv (ix3 a q ⟨h.val * 128 + d.val, hl⟩) = O (ix4 a h q d) * Ideal.pow (Ideal.ofBits FTy.f32 1073741824#32) (X (ix4 a h q 0)) * Sv (ix4 a 0 h 0) := by
  unfold resultOf
  clean_types
  pointwise

end Cert.Proof.ReferenceIdeal

end
-- ==== Proof.PointBlocks.lean ====
/- The blocks that one grid point leaves, element by element. -/
module

public import proofs.«01_k».proof.Proof.Gen.KernelIdeal.Loops
public import proofs.«01_k».proof.Proof.Block
public import proofs.«01_k».proof.Proof.PointIdeal
public import proofs.«01_k».proof.Proof.Quantise
public import Idealize.ShloMosaic.Lib.Pointwise

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo

/-- A load of a whole block of 8 by 16 reads it. -/
theorem readAt_table (v : Memref sig .tc .vmem S8x16 .f32) (X : BufTy.Contents (Elt Ideal) v.view.ty) (h) (r : Fin 8) (l : Fin 16) :
    View.readAt (Elt Ideal) v.view (Rect.unit (s := S8x16) ![0, 0] S8x16.size h).toLoadRect X (ix2 r l) = v.view.read (Elt Ideal) X (ix2 r l) := by
  rw [View.readAt_apply]
  refine congrArg _ ?_
  funext a
  apply Fin.ext
  match a with
  | ⟨0, _⟩ => exact (by simp : 0 + 1 * r.val = r.val)
  | ⟨1, _⟩ => exact (by simp : 0 + 1 * l.val = l.val)

/-- After a store of a whole block of 8 by 16, the block reads what was stored. -/
theorem read_table (v : Memref sig .tc .vmem S8x16 .f32) (f : BufTy.Contents (Elt Ideal) v.view.ty) (h)
    (w : S8x16.Idx → Elt Ideal .f32) (L : List (View.Piece (Elt Ideal) S8x16 .f32)) (r : Fin 8) (l : Fin 16) :
    v.view.read (Elt Ideal) (v.view.writes (Elt Ideal) f (⟨Rect.unit (s := S8x16) ![0, 0] S8x16.size h, w⟩ :: L)) (ix2 r l) = w (ix2 r l) := by
  have e : (Rect.unit (s := S8x16) ![0, 0] S8x16.size h).emb (ix2 (n0 := 8) (n1 := 16) r l) = ix2 (n0 := 8) (n1 := 16) r l := by
    funext a
    apply Fin.ext
    match a with
    | ⟨0, _⟩ => exact (by simp : 0 + 1 * r.val = r.val)
    | ⟨1, _⟩ => exact (by simp : 0 + 1 * l.val = l.val)
  have := View.read_writes_cons_emb v.view f (Rect.unit (s := S8x16) ![0, 0] S8x16.size h) w L (ix2 (n0 := 8) (n1 := 16) r l)
  rw [e] at this
  exact this

/-- A load of a whole block of 32 by 128 reads it. -/
theorem readAt_scales (v : Memref sig .tc .vmem S32x128 .f32) (X : BufTy.Contents (Elt Ideal) v.view.ty) (h) (r : Fin 32) (l : Fin 128) :
    View.readAt (Elt Ideal) v.view (Rect.unit (s := S32x128) ![0, 0] S32x128.size h).toLoadRect X (ix2 r l) = v.view.read (Elt Ideal) X (ix2 r l) := by
  rw [View.readAt_apply]
  refine congrArg _ ?_
  funext a
  apply Fin.ext
  match a with
  | ⟨0, _⟩ => exact (by simp : 0 + 1 * r.val = r.val)
  | ⟨1, _⟩ => exact (by simp : 0 + 1 * l.val = l.val)

/-- After a store of row `o` of a block of 16 rows of 32: that row is new, the others are as before. -/
theorem read_scaleRow (v : Memref sig .tc .vmem S1x16x32 .f32) (f : BufTy.Contents (Elt Ideal) v.view.ty) (off : Fin 3 → Nat) (o : Fin 16)
    (ho : off = ![0, o.val, 0]) (h) (w : (⟨3, ![1, 1, 32]⟩ : Shape).Idx → Elt Ideal .f32) (r : Fin 16) (n : Fin 32) :
    v.view.read (Elt Ideal) (v.view.writes (Elt Ideal) f [⟨Rect.unit (s := S1x16x32) off ![1, 1, 32] h, w⟩]) (ix3 0 r n) =
      if r.val = o.val then w (ix3 0 0 n) else v.view.read (Elt Ideal) f (ix3 0 r n) := by
  subst ho
  by_cases hr : r.val = o.val
  · obtain rfl : r = o := Fin.ext hr
    rw [if_pos rfl]
    have e : (Rect.unit (s := S1x16x32) ![0, r.val, 0] ![1, 1, 32] h).emb (ix3 (n0 := 1) (n1 := 1) (n2 := 32) 0 0 n) = ix3 (n0 := 1) (n1 := 16) (n2 := 32) 0 r n := by
      funext a
      apply Fin.ext
      match a with
      | ⟨0, _⟩ => rfl
      | ⟨1, _⟩ => exact (by simp : r.val + 1 * 0 = r.val)
      | ⟨2, _⟩ => exact (by simp : 0 + 1 * n.val = n.val)
    have := View.read_writes_cons_emb v.view f (Rect.unit (s := S1x16x32) ![0, r.val, 0] ![1, 1, 32] h) w [] (ix3 (n0 := 1) (n1 := 1) (n2 := 32) 0 0 n)
    rw [e] at this
    exact this
  · rw [if_neg hr]
    refine View.read_writes_apply_of_forall_not_mem v.view f _ _ ?_
    intro p hp
    rw [List.mem_singleton] at hp
    subst hp
    rw [Rect.mem_set_unit]
    intro hm
    have h1 := hm (1 : Fin 3)
    refine hr ?_
    have h2 : o.val ≤ r.val ∧ r.val < o.val + 1 := h1
    omega

/-- The table entry that a point writes is at its own coordinates. -/
theorem own_iff (i : grid0.Coords) (b : Fin 8) (h : Fin 16) :
    (BitVec.ofNat 32 b.val = BitVec.ofNat 32 (i 0).val ∧ BitVec.ofNat 32 h.val = BitVec.ofNat 32 (i 1).val) ↔ b.val = (i 0).val ∧ h.val = (i 1).val := by
  have h0 : (i 0).val < 8 := (i 0).isLt
  have h1 : (i 1).val < 16 := (i 1).isLt
  have b8 := b.isLt
  have h16 := h.isLt
  have key : ∀ x y : ℕ, x < 2 ^ 32 → y < 2 ^ 32 → (BitVec.ofNat 32 x = BitVec.ofNat 32 y ↔ x = y) := by
    intro x y hx hy
    refine ⟨fun e => ?_, fun e => by rw [e]⟩
    have := congrArg BitVec.toNat e
    rwa [BitVec.toNat_ofNat, BitVec.toNat_ofNat, Nat.mod_eq_of_lt hx, Nat.mod_eq_of_lt hy] at this
  rw [key _ _ (by omega) (by omega), key _ _ (by omega) (by omega)]

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- The block of q's codes. -/
theorem qc_first (hc : first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 4096) (l : Fin 128) :
    arg6.view.read (Elt Ideal) ((pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.1 f5 f6 f7 f8 f9 f10 f11 f12 f13 f14 f15 f16) (ix3 0 r l) =
      stripCode (blk arg2 X2) r l := by
  unfold pointFirst
  dsimp only
  sl_unfold_run_names
  exact read_qc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f6 r l

/-- The block of q's codes. -/
theorem qc_rest (hc : ¬ first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 4096) (l : Fin 128) :
    arg6.view.read (Elt Ideal) ((pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.1 f5 f6 f7 f8 f9 f10 f11 f12 f13 f14 f15 f16) (ix3 0 r l) =
      stripCode (blk arg2 X2) r l := by
  unfold pointRest
  dsimp only
  sl_unfold_run_names
  exact read_qc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f6 r l

/-- The block of k's codes. -/
theorem kc_first (hc : first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 4096) (l : Fin 128) :
    arg8.view.read (Elt Ideal) ((pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.2.1 f5 f6 f7 f8 f9 f10 f11 f12 f13 f14 f15 f16) (ix3 0 r l) =
      stripCode (smooth (blk arg3 X3)) r l := by
  unfold pointFirst
  dsimp only
  sl_unfold_run_names
  refine (read_kc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f8 r l).trans ?_
  rw [← centred_sum 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 X3]
  rfl

/-- The block of k's codes. -/
theorem kc_rest (hc : ¬ first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 4096) (l : Fin 128) :
    arg8.view.read (Elt Ideal) ((pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.2.1 f5 f6 f7 f8 f9 f10 f11 f12 f13 f14 f15 f16) (ix3 0 r l) =
      stripCode (smooth (blk arg3 X3)) r l := by
  unfold pointRest
  dsimp only
  sl_unfold_run_names
  refine (read_kc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f8 r l).trans ?_
  rw [← centred_sum 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 X3]
  rfl

/-- The block of v's codes. -/
theorem vc_first (hc : first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 4096) (l : Fin 128) :
    arg10.view.read (Elt Ideal) ((pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.2.2.2.1 f5 f6 f7 f8 f9 f10 f11 f12 f13 f14 f15 f16) (ix3 0 r l) =
      blockCode (blk arg4 X4) r l := by
  unfold pointFirst
  dsimp only
  sl_unfold_run_names
  refine (read_vc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ X4 f10 r l).trans ?_
  unfold blockCode
  rw [← vmax_all 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4]
  rfl

/-- The block of v's codes. -/
theorem vc_rest (hc : ¬ first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 4096) (l : Fin 128) :
    arg10.view.read (Elt Ideal) ((pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.2.2.2.1 f5 f6 f7 f8 f9 f10 f11 f12 f13 f14 f15 f16) (ix3 0 r l) =
      blockCode (blk arg4 X4) r l := by
  unfold pointRest
  dsimp only
  sl_unfold_run_names
  refine (read_vc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ X4 f10 r l).trans ?_
  unfold blockCode
  rw [← vmax_all 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4]
  rfl

/-- The block of q's scales: the point's own row is new. -/
theorem qs_first (hc : first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (h : Fin 16) (n : Fin 32) :
    arg7.view.read (Elt Ideal) ((pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.1 f5 f6 f7 f8 f9 f10 f11 f12 f13 f14 f15 f16) (ix3 0 h n) =
      if h.val = (i 1).val then stripScale (blk arg2 X2) n.val else arg7.view.read (Elt Ideal) f7 (ix3 0 h n) := by
  unfold pointFirst
  dsimp only
  sl_unfold_run_names
  rw [read_scaleRow arg7 f7 _ (i 1) (Gen.k0_off6_eq i)]
  refine if_congr Iff.rfl ?_ rfl
  have e : ∀ a : Vec Ideal S32x128 .f32, Gen.k0_pay65 (F := Ideal) a (ix3 0 0 n) = a (ix2 n 0) := by
    intro a
    pointwise [Gen.k0_pay65]
  refine (e _).trans ?_
  refine (readAt_scales arg13 _ _ n 0).trans ?_
  exact read_qs 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f13 n 0

/-- The block of q's scales: the point's own row is new. -/
theorem qs_rest (hc : ¬ first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (h : Fin 16) (n : Fin 32) :
    arg7.view.read (Elt Ideal) ((pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.1 f5 f6 f7 f8 f9 f10 f11 f12 f13 f14 f15 f16) (ix3 0 h n) =
      if h.val = (i 1).val then stripScale (blk arg2 X2) n.val else arg7.view.read (Elt Ideal) f7 (ix3 0 h n) := by
  unfold pointRest
  dsimp only
  sl_unfold_run_names
  rw [read_scaleRow arg7 f7 _ (i 1) (Gen.k0_off6_eq i)]
  refine if_congr Iff.rfl ?_ rfl
  have e : ∀ a : Vec Ideal S32x128 .f32, Gen.k0_pay65 (F := Ideal) a (ix3 0 0 n) = a (ix2 n 0) := by
    intro a
    pointwise [Gen.k0_pay65]
  refine (e _).trans ?_
  refine (readAt_scales arg13 _ _ n 0).trans ?_
  exact read_qs 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f13 n 0

/-- The block of k's scales: the point's own row is new. -/
theorem ks_first (hc : first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (h : Fin 16) (n : Fin 32) :
    arg9.view.read (Elt Ideal) ((pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.2.2.1 f5 f6 f7 f8 f9 f10 f11 f12 f13 f14 f15 f16) (ix3 0 h n) =
      if h.val = (i 1).val then stripScale (smooth (blk arg3 X3)) n.val else arg9.view.read (Elt Ideal) f9 (ix3 0 h n) := by
  unfold pointFirst
  dsimp only
  sl_unfold_run_names
  rw [read_scaleRow arg9 f9 _ (i 1) (Gen.k0_off6_eq i)]
  refine if_congr Iff.rfl ?_ rfl
  have e : ∀ a : Vec Ideal S32x128 .f32, Gen.k0_pay66 (F := Ideal) a (ix3 0 0 n) = a (ix2 n 0) := by
    intro a
    pointwise [Gen.k0_pay66]
  refine (e _).trans ?_
  refine (readAt_scales arg14 _ _ n 0).trans ?_
  refine (read_ks 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f14 n 0).trans ?_
  rw [← centred_sum 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 X3]
  rfl

/-- The block of k's scales: the point's own row is new. -/
theorem ks_rest (hc : ¬ first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (h : Fin 16) (n : Fin 32) :
    arg9.view.read (Elt Ideal) ((pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.2.2.1 f5 f6 f7 f8 f9 f10 f11 f12 f13 f14 f15 f16) (ix3 0 h n) =
      if h.val = (i 1).val then stripScale (smooth (blk arg3 X3)) n.val else arg9.view.read (Elt Ideal) f9 (ix3 0 h n) := by
  unfold pointRest
  dsimp only
  sl_unfold_run_names
  rw [read_scaleRow arg9 f9 _ (i 1) (Gen.k0_off6_eq i)]
  refine if_congr Iff.rfl ?_ rfl
  have e : ∀ a : Vec Ideal S32x128 .f32, Gen.k0_pay66 (F := Ideal) a (ix3 0 0 n) = a (ix2 n 0) := by
    intro a
    pointwise [Gen.k0_pay66]
  refine (e _).trans ?_
  refine (readAt_scales arg14 _ _ n 0).trans ?_
  refine (read_ks 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f14 n 0).trans ?_
  rw [← centred_sum 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 X3]
  rfl

/-- The table of v's scales: the point's own entry is new. -/
theorem vs_first (hc : first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (b : Fin 8) (h : Fin 16) :
    arg11.view.read (Elt Ideal) ((pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.2.2.2.2.1 f5 f6 f7 f8 f9 f10 f11 f12 f13 f14 f15 f16) (ix2 b h) =
      if b.val = (i 0).val ∧ h.val = (i 1).val then blockScale (blk arg4 X4) else 0 := by
  unfold pointFirst
  dsimp only
  sl_unfold_run_names
  refine (read_table arg11 _ _ _ _ b h).trans ?_
  refine (table _ _ _ _ b h).trans ?_
  refine if_congr (own_iff i b h) ?_ ?_
  · unfold blockScale
    rw [← vmax_all 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4]
    rfl
  · rw [View.readCov_cons_toLoadRect]
    pointwise [Gen.k0_pay67]

/-- The table of v's scales: the point's own entry is new. -/
theorem vs_rest (hc : ¬ first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (b : Fin 8) (h : Fin 16) :
    arg11.view.read (Elt Ideal) ((pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).2.2.2.2.2.2.1 f5 f6 f7 f8 f9 f10 f11 f12 f13 f14 f15 f16) (ix2 b h) =
      if b.val = (i 0).val ∧ h.val = (i 1).val then blockScale (blk arg4 X4) else arg11.view.read (Elt Ideal) f11 (ix2 b h) := by
  unfold pointRest
  dsimp only
  sl_unfold_run_names
  refine (read_table arg11 _ _ _ _ b h).trans ?_
  refine (table _ _ _ _ b h).trans ?_
  refine if_congr (own_iff i b h) ?_ ?_
  · unfold blockScale
    rw [← vmax_all 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4]
    rfl
  · exact readAt_table arg11 f11 _ b h

end Cert.Proof.KernelIdeal
-- ==== Proof.LeftBlocks.lean ====
/- What a grid point may leave in each of its result blocks, by the elements of its input blocks. -/
module

public import proofs.«01_k».proof.Proof.Gen.KernelIdeal.Loops
public import proofs.«01_k».proof.Proof.Block
public import proofs.«01_k».proof.Proof.PointBlocks
public import proofs.«01_k».proof.Proof.LaunchIdeal
public import proofs.«01_k».proof.Proof.Quantise
public import Idealize.ShloMosaic.Lib.Pointwise

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo

/-- A block of 4096 by 128 with a leading unit axis, as a table. -/
def tab (x : S1x4096x128.Idx → EReal) (r : Fin 4096) (l : Fin 128) : EReal := x (ix3 0 r l)

/-- A condition on the grid coordinates that says "the first point". -/
theorem first_zero (i : grid0.Coords) (h : first i) : (i 0).val = 0 ∧ (i 1).val = 0 := by
  have h0 : (i 0).val < 8 := (i 0).isLt
  have h1 : (i 1).val < 16 := (i 1).isLt
  have key : ∀ a < 8, ∀ b < 16, (Scalar.cmpi .ne (Scalar.extui (Scalar.andi (Scalar.cmpi .eq (BitVec.ofNat 32 a) 0#32) (Scalar.cmpi .eq (BitVec.ofNat 32 b) 0#32))) 0#32 = 1#1) → a = 0 ∧ b = 0 := by
    decide +kernel
  exact key _ h0 _ h1 h

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- The block of q's codes. -/
theorem left6 (x k v : S1x4096x128.Idx → EReal) (Y X : S1x4096x128.Idx → EReal) (H : Left6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y X) (r : Fin 4096) (l : Fin 128) :
    X (ix3 0 r l) = stripCode (tab x) r l := by
  obtain ⟨X2, X3, X4, f5, f6, f7, f8, f9, f10, f11, f12, f13, f14, f15, f16, rfl, rfl, rfl, rfl, rfl⟩ := H
  by_cases hc : first i
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_pos hc
    rw [ep]
    exact qc_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 r l
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_neg hc
    rw [ep]
    exact qc_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 r l

/-- The block of k's codes. -/
theorem left8 (x k v : S1x4096x128.Idx → EReal) (Y X : S1x4096x128.Idx → EReal) (H : Left8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y X) (r : Fin 4096) (l : Fin 128) :
    X (ix3 0 r l) = stripCode (smooth (tab k)) r l := by
  obtain ⟨X2, X3, X4, f5, f6, f7, f8, f9, f10, f11, f12, f13, f14, f15, f16, rfl, rfl, rfl, rfl, rfl⟩ := H
  by_cases hc : first i
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_pos hc
    rw [ep]
    exact kc_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 r l
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_neg hc
    rw [ep]
    exact kc_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 r l

/-- The block of v's codes. -/
theorem left10 (x k v : S1x4096x128.Idx → EReal) (Y X : S1x4096x128.Idx → EReal) (H : Left10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y X) (r : Fin 4096) (l : Fin 128) :
    X (ix3 0 r l) = blockCode (tab v) r l := by
  obtain ⟨X2, X3, X4, f5, f6, f7, f8, f9, f10, f11, f12, f13, f14, f15, f16, rfl, rfl, rfl, rfl, rfl⟩ := H
  by_cases hc : first i
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_pos hc
    rw [ep]
    exact vc_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 r l
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_neg hc
    rw [ep]
    exact vc_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 r l

/-- The block of q's scales. -/
theorem left7 (x k v : S1x4096x128.Idx → EReal) (Y X : S1x16x32.Idx → EReal) (H : Left7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y X) (h : Fin 16) (n : Fin 32) :
    X (ix3 0 h n) = if h.val = (i 1).val then stripScale (tab x) n.val else Y (ix3 0 h n) := by
  obtain ⟨X2, X3, X4, f5, f6, f7, f8, f9, f10, f11, f12, f13, f14, f15, f16, rfl, rfl, rfl, rfl, rfl⟩ := H
  by_cases hc : first i
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_pos hc
    rw [ep]
    exact qs_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 h n
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_neg hc
    rw [ep]
    exact qs_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 h n

/-- The block of k's scales. -/
theorem left9 (x k v : S1x4096x128.Idx → EReal) (Y X : S1x16x32.Idx → EReal) (H : Left9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y X) (h : Fin 16) (n : Fin 32) :
    X (ix3 0 h n) = if h.val = (i 1).val then stripScale (smooth (tab k)) n.val else Y (ix3 0 h n) := by
  obtain ⟨X2, X3, X4, f5, f6, f7, f8, f9, f10, f11, f12, f13, f14, f15, f16, rfl, rfl, rfl, rfl, rfl⟩ := H
  by_cases hc : first i
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_pos hc
    rw [ep]
    exact ks_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 h n
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_neg hc
    rw [ep]
    exact ks_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 h n

/-- The table of v's scales: the point's own entry is new, and at any point but the first the others are as before. -/
theorem left11 (x k v : S1x4096x128.Idx → EReal) (Y X : S8x16.Idx → EReal) (H : Left11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y X) (b : Fin 8) (h : Fin 16) :
    (b.val = (i 0).val ∧ h.val = (i 1).val → X (ix2 b h) = blockScale (tab v))
      ∧ (¬ (b.val = (i 0).val ∧ h.val = (i 1).val) → ¬ first i → X (ix2 b h) = Y (ix2 b h)) := by
  obtain ⟨X2, X3, X4, f5, f6, f7, f8, f9, f10, f11, f12, f13, f14, f15, f16, rfl, rfl, rfl, rfl, rfl⟩ := H
  by_cases hc : first i
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_pos hc
    have e := (congrArg (fun R : Run c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 => arg11.view.read (Elt Ideal) (R.2.2.2.2.2.2.1 f5 f6 f7 f8 f9 f10 f11 f12 f13 f14 f15 f16) (ix2 b h)) ep).trans (vs_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 b h)
    exact ⟨fun ho => e.trans (if_pos ho), fun _ hn => absurd hc hn⟩
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_neg hc
    have e := (congrArg (fun R : Run c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 => arg11.view.read (Elt Ideal) (R.2.2.2.2.2.2.1 f5 f6 f7 f8 f9 f10 f11 f12 f13 f14 f15 f16) (ix2 b h)) ep).trans (vs_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 b h)
    exact ⟨fun ho => e.trans (if_pos ho), fun ho _ => e.trans (if_neg ho)⟩

end Cert.Proof.KernelIdeal
-- ==== Proof.Arrays.lean ====
/- The result arrays after the call: every element of the codes and of the scales. -/
module

public import proofs.«01_k».proof.Proof.LeftBlocks
public import Idealize.ShloMosaic.Lib.Pipeline.ValueKit

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.Sem
open Idealize.ShloMosaic.Pipeline (RDat)
open Cert.Proof.Expo

/-- The columns of head `h` of batch entry `b`, as a table of 4096 rows of 128. -/
def part (A : S8x4096x2048.Idx → EReal) (b : Fin 8) (h : Fin 16) (r : Fin 4096) (l : Fin 128) : EReal :=
  A (ix3 b r ⟨h.val * 128 + l.val, by omega⟩)

variable (m : (ℓ : Loc nD τ sig) → Buf (Elt Ideal) ℓ) (c : Dev nD)

/-- The batch entry and the head of a grid point. -/
def bAt (t : Fin cfg0.N) : Fin 8 := ⟨t.val / 16, by have : t.val < 128 := t.isLt; omega⟩
def hAt (t : Fin cfg0.N) : Fin 16 := ⟨t.val % 16, Nat.mod_lt _ (by norm_num)⟩

/-- A grid point's coordinates. -/
theorem coords_eq : ∀ t : Fin grid0.N, (grid0.coords t 0).val = t.val / 16 ∧ (grid0.coords t 1).val = t.val % 16 := by decide +kernel

/-! The block that each window has at a grid point. -/

theorem idx0 : ∀ t : Fin grid0.N, win0_0.index t = ![t.val / 16, 0, t.val % 16] := by decide +kernel
theorem idx1 : ∀ t : Fin grid0.N, win0_1.index t = ![t.val / 16, 0, t.val % 16] := by decide +kernel
theorem idx2 : ∀ t : Fin grid0.N, win0_2.index t = ![t.val / 16, 0, t.val % 16] := by decide +kernel
theorem idx4 : ∀ t : Fin grid0.N, win0_4.index t = ![t.val / 16, 0, t.val % 16] := by decide +kernel
theorem idx5 : ∀ t : Fin grid0.N, win0_5.index t = ![t.val / 16, 0, 0] := by decide +kernel
theorem idx6 : ∀ t : Fin grid0.N, win0_6.index t = ![t.val / 16, 0, t.val % 16] := by decide +kernel
theorem idx7 : ∀ t : Fin grid0.N, win0_7.index t = ![t.val / 16, 0, 0] := by decide +kernel
theorem idx9 : ∀ t : Fin grid0.N, win0_9.index t = ![0, 0] := by decide +kernel
theorem idx8 : ∀ t : Fin grid0.N, win0_8.index t = ![t.val / 16, 0, t.val % 16] := by decide +kernel

/-- Each input block is a head of a batch entry of its argument. -/
theorem tab0 (t : Fin cfg0.N) : tab (Gen.iblk m c 0 t) = part (m ((c : Thread nD τ).loc main_arg0)) (bAt t) (hAt t) := by
  funext r l
  unfold tab part bAt hAt
  blk_ext [Gen.iblk, Gen.V, idx0 t]

theorem tab1 (t : Fin cfg0.N) : tab (Gen.iblk m c 1 t) = part (m ((c : Thread nD τ).loc main_arg1)) (bAt t) (hAt t) := by
  funext r l
  unfold tab part bAt hAt
  blk_ext [Gen.iblk, Gen.V, idx1 t]

theorem tab2 (t : Fin cfg0.N) : tab (Gen.iblk m c 2 t) = part (m ((c : Thread nD τ).loc main_arg2)) (bAt t) (hAt t) := by
  funext r l
  unfold tab part bAt hAt
  blk_ext [Gen.iblk, Gen.V, idx2 t]

/-- An array of codes, from a table of codes for each batch entry and head. -/
def spread (G : Fin 8 → Fin 16 → Fin 4096 → Fin 128 → EReal) (j : S8x4096x2048.Idx) : EReal :=
  G (j 0) ⟨(j 2).val / 128, by have : (j 2).val < 2048 := (j 2).isLt; omega⟩ (j 1) ⟨(j 2).val % 128, Nat.mod_lt _ (by norm_num)⟩

/-- Such an array at an index given by its batch entry, head, row and column. -/
theorem spread_apply (G : Fin 8 → Fin 16 → Fin 4096 → Fin 128 → EReal) (j : S8x4096x2048.Idx) (b : Fin 8) (h : Fin 16) (r : Fin 4096) (l : Fin 128)
    (h0 : (j 0).val = b.val) (h1 : (j 1).val = r.val) (h2 : (j 2).val = h.val * 128 + l.val) : spread G j = G b h r l := by
  unfold spread
  have e0 : j 0 = b := Fin.ext h0
  have e1 : j 1 = r := Fin.ext h1
  have e2 : (⟨(j 2).val / 128, by have : (j 2).val < 2048 := (j 2).isLt; omega⟩ : Fin 16) = h := Fin.ext (by show (j 2).val / 128 = _; omega)
  have e3 : (⟨(j 2).val % 128, Nat.mod_lt _ (by norm_num)⟩ : Fin 128) = l := Fin.ext (by show (j 2).val % 128 = _; omega)
  rw [e2, e3]
  exact congrArg₂ (fun a b => G a h b l) e0 e1

/-- An array of scales, from a row of scales for each batch entry and head. -/
def rowsOf (G : Fin 8 → Fin 16 → ℕ → EReal) (j : S8x16x32.Idx) : EReal := G (j 0) (j 1) (j 2).val

/-- Such an array at an index given by its coordinates. -/
theorem rowsOf_apply (G : Fin 8 → Fin 16 → ℕ → EReal) (j : S8x16x32.Idx) (b : Fin 8) (h : Fin 16) (s : Fin 32)
    (h0 : (j 0).val = b.val) (h1 : (j 1).val = h.val) (h2 : (j 2).val = s.val) : rowsOf G j = G b h s.val := by
  have e0 : j 0 = b := Fin.ext h0
  have e1 : j 1 = h := Fin.ext h1
  unfold rowsOf
  rw [h2]
  exact congrArg₂ (fun a b => G a b s.val) e0 e1

/-- A table of scales, one for each batch entry and head. -/
def tableOf (G : Fin 8 → Fin 16 → EReal) (j : S8x16.Idx) : EReal := G (j 0) (j 1)

/-- Such a table at an index given by its coordinates. -/
theorem tableOf_apply (G : Fin 8 → Fin 16 → EReal) (j : S8x16.Idx) (b : Fin 8) (h : Fin 16)
    (h0 : (j 0).val = b.val) (h1 : (j 1).val = h.val) : tableOf G j = G b h := by
  have e0 : j 0 = b := Fin.ext h0
  have e1 : j 1 = h := Fin.ext h1
  exact congrArg₂ G e0 e1

variable {m}

/-- q's codes after the call. -/
theorem final_qc {r : PUnit × MemSt nD τ sig (Elt Ideal)} (h : RDat.FramePost (cfgs 0) (fun c => rdat m c) (Gen.V m) r) (c : Dev nD) :
    r.2.mem ((c : Thread nD τ).loc main_v0_1) = spread fun b h => stripCode (part (m ((c : Thread nD τ).loc main_arg0)) b h) := by
  obtain ⟨after, hL, hA⟩ := h.exists_exact c
  refine (hA 4).trans ?_
  refine ((rdat m c).withAfter after).arrAt_eq_of_covers 4 _ (by decide +kernel) fun t hf y => ?_
  obtain ⟨Y, -, hY⟩ := hL 4 t hf
  have h6 := left6 c _ _ _ _ _ _ _ _ _ _ _ _ _ _ _ _ _ _ _ _ _ _ _ _ _ _ _ _ _ _ _ _ _ _ _ _ hY (y 1) (y 2)
  blk_simp
  have hy : y = ix3 (n0 := 1) (n1 := 4096) (n2 := 128) 0 (y 1) (y 2) := by
    funext a
    match a with
    | ⟨0, _⟩ => exact Fin.ext (Nat.lt_one_iff.mp (y 0).isLt)
    | ⟨1, _⟩ => rfl
    | ⟨2, _⟩ => rfl
  refine (congrArg (after 4 t) hy).trans (h6.trans ?_)
  rw [tab0 m c t]
  refine (spread_apply (fun b h => stripCode (part (m ((c : Thread nD τ).loc main_arg0)) b h)) _ (bAt t) (hAt t) (y 1) (y 2) ?_ ?_ ?_).symm <;> blk_simp [idx4 t, bAt, hAt]

/-- k's codes after the call. -/
theorem final_kc {r : PUnit × MemSt nD τ sig (Elt Ideal)} (h : RDat.FramePost (cfgs 0) (fun c => rdat m c) (Gen.V m) r) (c : Dev nD) :
    r.2.mem ((c : Thread nD τ).loc main_v0_3) = spread fun b h => stripCode (smooth (part (m ((c : Thread nD τ).loc main_arg1)) b h)) := by
  obtain ⟨after, hL, hA⟩ := h.exists_exact c
  refine (hA 6).trans ?_
  refine ((rdat m c).withAfter after).arrAt_eq_of_covers 6 _ (by decide +kernel) fun t hf y => ?_
  obtain ⟨Y, -, hY⟩ := hL 6 t hf
  have h6 := left8 c _ _ _ _ _ _ _ _ _ _ _ _ _ _ _ _ _ _ _ _ _ _ _ _ _ _ _ _ _ _ _ _ _ _ _ _ hY (y 1) (y 2)
  blk_simp
  have hy : y = ix3 (n0 := 1) (n1 := 4096) (n2 := 128) 0 (y 1) (y 2) := by
    funext a
    match a with
    | ⟨0, _⟩ => exact Fin.ext (Nat.lt_one_iff.mp (y 0).isLt)
    | ⟨1, _⟩ => rfl
    | ⟨2, _⟩ => rfl
  refine (congrArg (after 6 t) hy).trans (h6.trans ?_)
  rw [tab1 m c t]
  refine (spread_apply (fun b h => stripCode (smooth (part (m ((c : Thread nD τ).loc main_arg1)) b h))) _ (bAt t) (hAt t) (y 1) (y 2) ?_ ?_ ?_).symm <;> blk_simp [idx6 t, bAt, hAt]

/-- v's codes after the call. -/
theorem final_vc {r : PUnit × MemSt nD τ sig (Elt Ideal)} (h : RDat.FramePost (cfgs 0) (fun c => rdat m c) (Gen.V m) r) (c : Dev nD) :
    r.2.mem ((c : Thread nD τ).loc main_v0_5) = spread fun b h => blockCode (part (m ((c : Thread nD τ).loc main_arg2)) b h) := by
  obtain ⟨after, hL, hA⟩ := h.exists_exact c
  refine (hA 8).trans ?_
  refine ((rdat m c).withAfter after).arrAt_eq_of_covers 8 _ (by decide +kernel) fun t hf y => ?_
  obtain ⟨Y, -, hY⟩ := hL 8 t hf
  have h6 := left10 c _ _ _ _ _ _ _ _ _ _ _ _ _ _ _ _ _ _ _ _ _ _ _ _ _ _ _ _ _ _ _ _ _ _ _ _ hY (y 1) (y 2)
  blk_simp
  have hy : y = ix3 (n0 := 1) (n1 := 4096) (n2 := 128) 0 (y 1) (y 2) := by
    funext a
    match a with
    | ⟨0, _⟩ => exact Fin.ext (Nat.lt_one_iff.mp (y 0).isLt)
    | ⟨1, _⟩ => rfl
    | ⟨2, _⟩ => rfl
  refine (congrArg (after 8 t) hy).trans (h6.trans ?_)
  rw [tab2 m c t]
  refine (spread_apply (fun b h => blockCode (part (m ((c : Thread nD τ).loc main_arg2)) b h)) _ (bAt t) (hAt t) (y 1) (y 2) ?_ ?_ ?_).symm <;> blk_simp [idx8 t, bAt, hAt]

/-- q's scales in its block so far: the rows up to the point's own. -/
theorem rows_qs (c : Dev nD) : ∀ (n : ℕ) (hn : n < cfg0.N) (X : S1x16x32.Idx → EReal), (rdat m c).Leaves 5 ⟨n, hn⟩ X →
    ∀ (h : Fin 16) (s : Fin 32), h.val ≤ n % 16 → X (ix3 0 h s) = stripScale (part (m ((c : Thread nD τ).loc main_arg0)) (bAt ⟨n, hn⟩) h) s.val := by
  intro n
  induction n with
  | zero =>
    rintro hn X ⟨Y, -, hY⟩ h s hh
    have h7 := left7 c _ _ _ _ _ _ _ _ _ _ _ _ _ _ _ _ _ _ _ _ _ _ _ _ _ _ _ _ _ _ _ _ _ _ _ _ hY h s
    have hc := (coords_eq ⟨0, hn⟩).2
    have ho : h.val = (grid0.coords ⟨0, hn⟩ 1).val := by rw [hc]; exact Nat.le_zero.mp hh
    rw [h7, if_pos ho, tab0 m c ⟨0, hn⟩]
    have e : hAt ⟨0, hn⟩ = h := Fin.ext (Nat.le_zero.mp hh).symm
    rw [e]
  | succ n ih =>
    rintro hn X ⟨Y, hF, hY⟩ h s hh
    have h7 := left7 c _ _ _ _ _ _ _ _ _ _ _ _ _ _ _ _ _ _ _ _ _ _ _ _ _ _ _ _ _ _ _ _ _ _ _ _ hY h s
    have hc : (grid0.coords ⟨n + 1, hn⟩ 1).val = (n + 1) % 16 := (coords_eq ⟨n + 1, hn⟩).2
    by_cases ho : h.val = (n + 1) % 16
    · rw [h7, if_pos (ho.trans hc.symm), tab0 m c ⟨n + 1, hn⟩]
      have e : hAt ⟨n + 1, hn⟩ = h := Fin.ext ho.symm
      rw [e]
    · rw [h7, if_neg (fun h' => ho (h'.trans hc))]
      have hn' : n < cfg0.N := Nat.lt_of_succ_lt hn
      have hpos := ((rdat m c).finds_of_pos (w := 5) (t := ⟨n + 1, hn⟩) rfl (Nat.succ_ne_zero n) Y).mp hF
      rcases hpos with hfl | hL
      · have := (Gen.flush0_5 ⟨n, hn'⟩).mp hfl
        have h2 : n % 16 = 15 := this
        omega
      · refine (ih hn' Y hL h s (by omega)).trans ?_
        have e : bAt ⟨n, hn'⟩ = bAt ⟨n + 1, hn⟩ := Fin.ext (by show n / 16 = (n + 1) / 16; omega)
        rw [e]

/-- q's scales after the call. -/
theorem final_qs {r : PUnit × MemSt nD τ sig (Elt Ideal)} (h : RDat.FramePost (cfgs 0) (fun c => rdat m c) (Gen.V m) r) (c : Dev nD) :
    r.2.mem ((c : Thread nD τ).loc main_v0_2) = rowsOf fun b h s => stripScale (part (m ((c : Thread nD τ).loc main_arg0)) b h) s := by
  obtain ⟨after, hL, hA⟩ := h.exists_exact c
  refine (hA 5).trans ?_
  refine ((rdat m c).withAfter after).arrAt_eq_of_covers 5 _ (by decide +kernel) fun t hf y => ?_
  have hf' : t.val % 16 = 15 := (Gen.flush0_5 t).mp hf
  have h16 : (y 1).val < 16 := (y 1).isLt
  have h7 := rows_qs c t.val t.isLt _ (hL 5 t hf) (y 1) (y 2) (by omega)
  have hy : y = ix3 (n0 := 1) (n1 := 16) (n2 := 32) 0 (y 1) (y 2) := by
    funext a
    match a with
    | ⟨0, _⟩ => exact Fin.ext (Nat.lt_one_iff.mp (y 0).isLt)
    | ⟨1, _⟩ => rfl
    | ⟨2, _⟩ => rfl
  blk_simp
  refine (congrArg (after 5 t) hy).trans (h7.trans ?_)
  refine (rowsOf_apply (fun b h s => stripScale (part (m ((c : Thread nD τ).loc main_arg0)) b h) s) _ (bAt t) (y 1) (y 2) ?_ ?_ ?_).symm <;> blk_simp [idx5 t, bAt]

/-- k's scales in its block so far: the rows up to the point's own. -/
theorem rows_ks (c : Dev nD) : ∀ (n : ℕ) (hn : n < cfg0.N) (X : S1x16x32.Idx → EReal), (rdat m c).Leaves 7 ⟨n, hn⟩ X →
    ∀ (h : Fin 16) (s : Fin 32), h.val ≤ n % 16 → X (ix3 0 h s) = stripScale (smooth (part (m ((c : Thread nD τ).loc main_arg1)) (bAt ⟨n, hn⟩) h)) s.val := by
  intro n
  induction n with
  | zero =>
    rintro hn X ⟨Y, -, hY⟩ h s hh
    have h7 := left9 c _ _ _ _ _ _ _ _ _ _ _ _ _ _ _ _ _ _ _ _ _ _ _ _ _ _ _ _ _ _ _ _ _ _ _ _ hY h s
    have hc := (coords_eq ⟨0, hn⟩).2
    have ho : h.val = (grid0.coords ⟨0, hn⟩ 1).val := by rw [hc]; exact Nat.le_zero.mp hh
    rw [h7, if_pos ho, tab1 m c ⟨0, hn⟩]
    have e : hAt ⟨0, hn⟩ = h := Fin.ext (Nat.le_zero.mp hh).symm
    rw [e]
  | succ n ih =>
    rintro hn X ⟨Y, hF, hY⟩ h s hh
    have h7 := left9 c _ _ _ _ _ _ _ _ _ _ _ _ _ _ _ _ _ _ _ _ _ _ _ _ _ _ _ _ _ _ _ _ _ _ _ _ hY h s
    have hc : (grid0.coords ⟨n + 1, hn⟩ 1).val = (n + 1) % 16 := (coords_eq ⟨n + 1, hn⟩).2
    by_cases ho : h.val = (n + 1) % 16
    · rw [h7, if_pos (ho.trans hc.symm), tab1 m c ⟨n + 1, hn⟩]
      have e : hAt ⟨n + 1, hn⟩ = h := Fin.ext ho.symm
      rw [e]
    · rw [h7, if_neg (fun h' => ho (h'.trans hc))]
      have hn' : n < cfg0.N := Nat.lt_of_succ_lt hn
      have hpos := ((rdat m c).finds_of_pos (w := 7) (t := ⟨n + 1, hn⟩) rfl (Nat.succ_ne_zero n) Y).mp hF
      rcases hpos with hfl | hL
      · have := (Gen.flush0_7 ⟨n, hn'⟩).mp hfl
        have h2 : n % 16 = 15 := this
        omega
      · refine (ih hn' Y hL h s (by omega)).trans ?_
        have e : bAt ⟨n, hn'⟩ = bAt ⟨n + 1, hn⟩ := Fin.ext (by show n / 16 = (n + 1) / 16; omega)
        rw [e]

/-- k's scales after the call. -/
theorem final_ks {r : PUnit × MemSt nD τ sig (Elt Ideal)} (h : RDat.FramePost (cfgs 0) (fun c => rdat m c) (Gen.V m) r) (c : Dev nD) :
    r.2.mem ((c : Thread nD τ).loc main_v0_4) = rowsOf fun b h s => stripScale (smooth (part (m ((c : Thread nD τ).loc main_arg1)) b h)) s := by
  obtain ⟨after, hL, hA⟩ := h.exists_exact c
  refine (hA 7).trans ?_
  refine ((rdat m c).withAfter after).arrAt_eq_of_covers 7 _ (by decide +kernel) fun t hf y => ?_
  have hf' : t.val % 16 = 15 := (Gen.flush0_7 t).mp hf
  have h16 : (y 1).val < 16 := (y 1).isLt
  have h7 := rows_ks c t.val t.isLt _ (hL 7 t hf) (y 1) (y 2) (by omega)
  have hy : y = ix3 (n0 := 1) (n1 := 16) (n2 := 32) 0 (y 1) (y 2) := by
    funext a
    match a with
    | ⟨0, _⟩ => exact Fin.ext (Nat.lt_one_iff.mp (y 0).isLt)
    | ⟨1, _⟩ => rfl
    | ⟨2, _⟩ => rfl
  blk_simp
  refine (congrArg (after 7 t) hy).trans (h7.trans ?_)
  refine (rowsOf_apply (fun b h s => stripScale (smooth (part (m ((c : Thread nD τ).loc main_arg1)) b h)) s) _ (bAt t) (y 1) (y 2) ?_ ?_ ?_).symm <;> blk_simp [idx7 t, bAt]

/-- v's scales in the table so far: the entries up to the point's own. -/
theorem rows_vs (c : Dev nD) : ∀ (n : ℕ) (hn : n < cfg0.N) (X : S8x16.Idx → EReal), (rdat m c).Leaves 9 ⟨n, hn⟩ X →
    ∀ (b : Fin 8) (h : Fin 16), b.val * 16 + h.val ≤ n → X (ix2 b h) = blockScale (part (m ((c : Thread nD τ).loc main_arg2)) b h) := by
  intro n
  induction n with
  | zero =>
    rintro hn X ⟨Y, -, hY⟩ b h hh
    have h11 := (left11 c _ _ _ _ _ _ _ _ _ _ _ _ _ _ _ _ _ _ _ _ _ _ _ _ _ _ _ _ _ _ _ _ _ _ _ _ hY b h).1
    have hc0 : (grid0.coords ⟨0, hn⟩ 0).val = 0 := (coords_eq ⟨0, hn⟩).1.trans (Nat.zero_div 16)
    have hc1 : (grid0.coords ⟨0, hn⟩ 1).val = 0 := (coords_eq ⟨0, hn⟩).2.trans (Nat.zero_mod 16)
    have hb : b.val = 0 := by omega
    have hh' : h.val = 0 := by omega
    rw [h11 ⟨hb.trans hc0.symm, hh'.trans hc1.symm⟩, tab2 m c ⟨0, hn⟩]
    have e : hAt ⟨0, hn⟩ = h := Fin.ext ((Nat.zero_mod 16).trans hh'.symm)
    have e' : bAt ⟨0, hn⟩ = b := Fin.ext ((Nat.zero_div 16).trans hb.symm)
    rw [e, e']
  | succ n ih =>
    rintro hn X ⟨Y, hF, hY⟩ b h hh
    have h11 := left11 c _ _ _ _ _ _ _ _ _ _ _ _ _ _ _ _ _ _ _ _ _ _ _ _ _ _ _ _ _ _ _ _ _ _ _ _ hY b h
    have hc0 : (grid0.coords ⟨n + 1, hn⟩ 0).val = (n + 1) / 16 := (coords_eq ⟨n + 1, hn⟩).1
    have hc1 : (grid0.coords ⟨n + 1, hn⟩ 1).val = (n + 1) % 16 := (coords_eq ⟨n + 1, hn⟩).2
    have h16 := h.isLt
    by_cases ho : b.val = (n + 1) / 16 ∧ h.val = (n + 1) % 16
    · rw [h11.1 ⟨ho.1.trans hc0.symm, ho.2.trans hc1.symm⟩, tab2 m c ⟨n + 1, hn⟩]
      have e : hAt ⟨n + 1, hn⟩ = h := Fin.ext ho.2.symm
      have e' : bAt ⟨n + 1, hn⟩ = b := Fin.ext ho.1.symm
      rw [e, e']
    · have hnf : ¬ first (grid0.coords ⟨n + 1, hn⟩) := by
        intro hf
        have := first_zero _ hf
        rw [hc0, hc1] at this
        omega
      rw [h11.2 (fun h' => ho ⟨h'.1.trans hc0, h'.2.trans hc1⟩) hnf]
      have hn' : n < cfg0.N := Nat.lt_of_succ_lt hn
      have hN : n + 1 < 128 := hn
      have hpos := ((rdat m c).finds_of_pos (w := 9) (t := ⟨n + 1, hn⟩) rfl (Nat.succ_ne_zero n) Y).mp hF
      rcases hpos with hfl | hL
      · have := (Gen.flush0_9 ⟨n, hn'⟩).mp hfl
        have h2 : n % 128 = 127 := this
        omega
      · exact ih hn' Y hL b h (by omega)

/-- v's scales after the call. -/
theorem final_vs {r : PUnit × MemSt nD τ sig (Elt Ideal)} (h : RDat.FramePost (cfgs 0) (fun c => rdat m c) (Gen.V m) r) (c : Dev nD) :
    r.2.mem ((c : Thread nD τ).loc main_v0_6) = tableOf fun b h => blockScale (part (m ((c : Thread nD τ).loc main_arg2)) b h) := by
  obtain ⟨after, hL, hA⟩ := h.exists_exact c
  refine (hA 9).trans ?_
  refine ((rdat m c).withAfter after).arrAt_eq_of_covers 9 _ (by decide +kernel) fun t hf y => ?_
  have hf' : t.val % 128 = 127 := (Gen.flush0_9 t).mp hf
  have h8 : (y 0).val < 8 := (y 0).isLt
  have h16 : (y 1).val < 16 := (y 1).isLt
  have h7 := rows_vs c t.val t.isLt _ (hL 9 t hf) (y 0) (y 1) (by omega)
  have hy : y = ix2 (n0 := 8) (n1 := 16) (y 0) (y 1) := by
    funext a
    match a with
    | ⟨0, _⟩ => rfl
    | ⟨1, _⟩ => rfl
  blk_simp
  refine (congrArg (after 9 t) hy).trans (h7.trans ?_)
  refine (tableOf_apply (fun b h => blockScale (part (m ((c : Thread nD τ).loc main_arg2)) b h)) _ (y 0) (y 1) ?_ ?_).symm <;> blk_simp [idx9 t]

end Cert.Proof.KernelIdeal
-- ==== Proof.RefArrays.lean ====
/- The reference program's results as arrays: every element of the codes and of the scales, in the words that the
   kernel's results are stated in. -/
module

public import proofs.«01_k».proof.Proof.RefRead
public import proofs.«01_k».proof.Proof.Arrays

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.SL.Sem Idealize.ShloMosaic.StableHlo
open Cert.Proof.Expo
open Cert.Proof.KernelIdeal (part spread spread_apply rowsOf rowsOf_apply tableOf tableOf_apply tile row row_val row_of stripCode stripScale
  blockCode blockScale whole smooth)

/-- An index of an argument, by its batch entry, row, head and column. -/
theorem at_head (j : S8x4096x2048.Idx) : ∃ (b : Fin 8) (r : Fin 4096) (h : Fin 16) (l : Fin 128),
    j = ix3 (n0 := 8) (n1 := 4096) (n2 := 2048) b r ⟨h.val * 128 + l.val, by omega⟩ := by
  have h2 : (j 2).val < 2048 := (j 2).isLt
  refine ⟨j 0, j 1, ⟨(j 2).val / 128, by omega⟩, ⟨(j 2).val % 128, by omega⟩, ?_⟩
  funext a
  match a with
  | ⟨0, _⟩ => rfl
  | ⟨1, _⟩ => rfl
  | ⟨2, _⟩ => exact Fin.ext (by show (j 2).val = (j 2).val / 128 * 128 + (j 2).val % 128; omega)

section Strips

variable (T : FVec Ideal S8x32x128x16x128 .f32) (P : Fin 8 → Fin 16 → Fin 4096 → Fin 128 → EReal)
  (hT : ∀ a b r h l, T (ix5 a b r h l) = P a h (row b.val r) l)
  (hP : ∀ a h r l, max (P a h r l) (-(P a h r l)) ≤ (((2 : ℝ) ^ (130 : ℤ) : ℝ) : EReal))

include hT in
/-- A tile of the reference is a strip of the block. -/
theorem tile_eq (a : Fin 8) (b : Fin 32) (h : Fin 16) :
    (fun p : Fin 128 × Fin 128 => T (ix5 a b p.1 h p.2)) = tile (P a h) b.val := by
  funext p
  unfold tile
  rw [hT]

include hT hP in
/-- The reference's codes with a scale for each strip. -/
theorem codes5_all :
    (Host.convertf .fp8e4m3 (shapeCast S8x4096x2048 (codes5 T (pow5 (Host.negf (exp5 (top5 T))))) shapeCasts_S8x32x128x16x128_S8x4096x2048) : FVec Ideal S8x4096x2048 .fp8e4m3)
      = spread fun b h => stripCode (P b h) := by
  funext j
  obtain ⟨a, s, h, l, rfl⟩ := at_head j
  have hs : s.val / 128 < 32 := by have := s.isLt; omega
  rw [flat5_eq, codes5_eq, pow5_eq, neg5_eq, exp5_eq, top5_eq, tile_eq T P hT, hT]
  refine Eq.trans ?_ (spread_apply (fun b h => stripCode (P b h)) _ a h s l rfl rfl rfl).symm
  unfold stripCode
  rw [(tile_words (tile (P a h) (s.val / 128)) fun p => hP a h _ _).1]
  unfold invOf
  refine congrArg (fun r => codeOf (P a h r l) _) (row_of s)

include hT hP in
/-- The reference's scales of the strips. -/
theorem scales5_all :
    (transpose S8x16x32 [0, 2, 1] (shapeCast S8x32x16 (pow5 (exp5 (top5 T))) shapeCasts_S8x32x1x16x1_S8x32x16) transposes_S8x32x16_S8x16x32_0_2_1 : FVec Ideal S8x16x32 .f32)
      = rowsOf fun b h s => stripScale (P b h) s := by
  funext j
  obtain ⟨a, h, n, rfl⟩ : ∃ (a : Fin 8) (h : Fin 16) (n : Fin 32), j = ix3 (n0 := 8) (n1 := 16) (n2 := 32) a h n := by
    refine ⟨j 0, j 1, j 2, ?_⟩
    funext a
    match a with
    | ⟨0, _⟩ => rfl
    | ⟨1, _⟩ => rfl
    | ⟨2, _⟩ => rfl
  rw [rows5_eq, pow5_eq, exp5_eq, top5_eq, tile_eq T P hT]
  refine Eq.trans ?_ (rowsOf_apply (fun b h s => stripScale (P b h) s) _ a h n rfl rfl rfl).symm
  unfold stripScale
  rw [(tile_words (tile (P a h) n.val) fun p => hP a h _ _).2]
  rfl

end Strips

section Blocks

variable (T : FVec Ideal S8x4096x16x128 .f32) (P : Fin 8 → Fin 16 → Fin 4096 → Fin 128 → EReal)
  (hT : ∀ a s h l, T (ix4 a s h l) = P a h s l)
  (hP : ∀ a h r l, max (P a h r l) (-(P a h r l)) ≤ (((2 : ℝ) ^ (130 : ℤ) : ℝ) : EReal))

include hT in
/-- A head of the reference is a whole block. -/
theorem whole_eq (a : Fin 8) (h : Fin 16) : (fun p : Fin 4096 × Fin 128 => T (ix4 a p.1 h p.2)) = whole (P a h) := by
  funext p
  exact hT a p.1 h p.2

include hT hP in
/-- The reference's codes with one scale for each head. -/
theorem codes4_all :
    (Host.convertf .fp8e4m3 (shapeCast S8x4096x2048 (codes4 T (pow4 (Host.negf (exp4 (top4 T))))) shapeCasts_S8x4096x16x128_S8x4096x2048) : FVec Ideal S8x4096x2048 .fp8e4m3)
      = spread fun b h => blockCode (P b h) := by
  funext j
  obtain ⟨a, s, h, l, rfl⟩ := at_head j
  rw [flat4_eq, codes4_eq, pow4_eq, neg4_eq, exp4_eq, top4_eq, whole_eq T P hT, hT]
  refine Eq.trans ?_ (spread_apply (fun b h => blockCode (P b h)) _ a h s l rfl rfl rfl).symm
  unfold blockCode
  rw [(tile_words (whole (P a h)) fun p => hP a h _ _).1]
  rfl

include hT hP in
/-- The reference's scales of the heads. -/
theorem scales4_all :
    (shapeCast S8x16 (pow4 (exp4 (top4 T))) shapeCasts_S8x1x16x1_S8x16 : FVec Ideal S8x16 .f32)
      = tableOf fun b h => blockScale (P b h) := by
  funext j
  obtain ⟨a, h, rfl⟩ : ∃ (a : Fin 8) (h : Fin 16), j = ix2 (n0 := 8) (n1 := 16) a h := by
    refine ⟨j 0, j 1, ?_⟩
    funext a
    match a with
    | ⟨0, _⟩ => rfl
    | ⟨1, _⟩ => rfl
  rw [rows4_eq, pow4_eq, exp4_eq, top4_eq, whole_eq T P hT]
  refine Eq.trans ?_ (tableOf_apply (fun b h => blockScale (P b h)) _ a h rfl rfl).symm
  unfold blockScale
  rw [(tile_words (whole (P a h)) fun p => hP a h _ _).2]
  rfl

end Blocks

/-- A row of a strip. -/
theorem row_at (b : Fin 32) (r : Fin 128) (h : b.val * 128 + r.val < 4096) : (⟨b.val * 128 + r.val, h⟩ : Fin 4096) = row b.val r := by
  refine Fin.ext ?_
  rw [row_val _ b.isLt]
  show b.val * 128 + r.val = 128 * b.val + r.val
  omega

/-- q's tiles are the strips of its heads. -/
theorem tiles_part (A : FVec Ideal S8x4096x2048 .bf16) (a : Fin 8) (b : Fin 32) (r : Fin 128) (h : Fin 16) (l : Fin 128) :
    tiles A (ix5 a b r h l) = part A a h (row b.val r) l := by
  rw [tiles_eq, row_at]
  rfl

/-- v's heads. -/
theorem heads_part (A : FVec Ideal S8x4096x2048 .bf16) (a : Fin 8) (s : Fin 4096) (h : Fin 16) (l : Fin 128) :
    heads A (ix4 a s h l) = part A a h s l := heads_eq A a s h l

/-- k's tiles are the strips of its heads less their columns' means. -/
theorem smooth_part (A : FVec Ideal S8x4096x2048 .bf16)
    (hm : ∀ a h l, Ideal.div (∑ r, part A a h r l) (Ideal.ofBits .f32 1166016512#32) = (∑ r, part A a h r l) * Ideal.ofBits .f32 964689920#32)
    (a : Fin 8) (b : Fin 32) (r : Fin 128) (h : Fin 16) (l : Fin 128) :
    (shapeCast S8x32x128x16x128 (smoothed (heads A)) shapeCasts_S8x4096x16x128_S8x32x128x16x128 : FVec Ideal S8x32x128x16x128 .f32) (ix5 a b r h l)
      = smooth (part A a h) (row b.val r) l := by
  rw [split_eq, smoothed_eq, row_at]
  unfold smooth
  rw [← hm a h l, heads_part, Finset.sum_congr rfl fun r _ => heads_part A a r h l]

end Cert.Proof.ReferenceIdeal

end
-- ==== Proof.Softmax.lean ====
/- A softmax taken block by block: the running maximum and the running sum of powers of two, and the weights rescaled at the end. -/
module

public import Idealize.ShloMosaic.PureOps.Ideal
public import Idealize.ShloMosaic.Lib.Pointwise

@[expose] public section

noncomputable section

namespace Cert.Proof.Softmax

open Idealize.ShloMosaic

theorem exp2_nonneg (x : EReal) : 0 ≤ Ideal.exp2 x := by
  induction x using EReal.rec with
  | bot => exact le_refl _
  | top => exact le_top
  | coe r =>
    rw [Ideal.exp2_coe]
    exact_mod_cast Real.rpow_nonneg (by norm_num : (0 : ℝ) ≤ 2) r

/-- Moving a weight from one maximum to a later one. -/
theorem shift (s m m' : EReal) (hs : s ≤ m) (hm : m ≤ m') (ht : m' ≠ ⊤) :
    Ideal.exp2 (s - m) * Ideal.exp2 (m - m') = Ideal.exp2 (s - m') := by
  have hm1 : m ≠ ⊤ := fun h => ht (top_le_iff.1 (h ▸ hm))
  have hs1 : s ≠ ⊤ := fun h => hm1 (top_le_iff.1 (h ▸ hs))
  induction s using EReal.rec with
  | top => exact absurd rfl hs1
  | bot => rw [EReal.bot_sub, EReal.bot_sub, Ideal.exp2_bot, zero_mul]
  | coe s =>
    induction m using EReal.rec with
    | top => exact absurd rfl hm1
    | bot => exact absurd hs (by simp)
    | coe m =>
      induction m' using EReal.rec with
      | top => exact absurd rfl ht
      | bot => exact absurd hm (by simp)
      | coe m' =>
        rw [← EReal.coe_sub, ← EReal.coe_sub, ← EReal.coe_sub, Ideal.exp2_coe, Ideal.exp2_coe, Ideal.exp2_coe, ← EReal.coe_mul]
        refine congrArg _ ?_
        show (2 : ℝ) ^ (s - m) * (2 : ℝ) ^ (m - m') = (2 : ℝ) ^ (s - m')
        rw [← Real.rpow_add (by norm_num)]
        congr 1
        ring

theorem sum_mul {ι : Type} (t : Finset ι) (f : ι → EReal) (c : EReal) (h : ∀ i ∈ t, 0 ≤ f i) :
    (∑ i ∈ t, f i) * c = ∑ i ∈ t, f i * c := by
  classical
  induction t using Finset.induction_on with
  | empty => simp
  | insert a t ha ih =>
    rw [Finset.sum_insert ha, Finset.sum_insert ha, EReal.right_distrib_of_nonneg (h a (Finset.mem_insert_self a t))
      (Finset.sum_nonneg fun i hi => h i (Finset.mem_insert_of_mem hi)), ih fun i hi => h i (Finset.mem_insert_of_mem hi)]

/-- The maximum over the first `n` blocks. -/
def top {κ : Type} [Fintype κ] (sc : ℕ → κ → EReal) (n : ℕ) : EReal := (Finset.range n).sup fun j => Finset.univ.sup (sc j)

/-- The sum of the weights over the first `n` blocks. -/
def total {κ : Type} [Fintype κ] (sc : ℕ → κ → EReal) (n : ℕ) : EReal := ∑ j ∈ Finset.range n, ∑ x, Ideal.exp2 (sc j x - top sc n)

variable {κ : Type} [Fintype κ] (sc : ℕ → κ → EReal)

theorem top_zero : top sc 0 = ⊥ := rfl

theorem top_succ (n : ℕ) : top sc (n + 1) = max (top sc n) (Finset.univ.sup (sc n)) := by
  unfold top
  rw [Finset.range_add_one, Finset.sup_insert]
  exact max_comm _ _

theorem le_top (n j : ℕ) (hj : j < n) (x : κ) : sc j x ≤ top sc n :=
  (Finset.le_sup (f := sc j) (Finset.mem_univ x)).trans (Finset.le_sup (f := fun j => Finset.univ.sup (sc j)) (Finset.mem_range.2 hj))

theorem top_mono {m n : ℕ} (h : m ≤ n) : top sc m ≤ top sc n :=
  Finset.sup_mono fun _ hj => Finset.mem_range.2 ((Finset.mem_range.1 hj).trans_le h)

theorem top_ne (h : ∀ j x, sc j x ≠ ⊤) (n : ℕ) : top sc n ≠ ⊤ := by
  refine ne_of_lt ?_
  unfold top
  rw [Finset.sup_lt_iff (bot_lt_top : (⊥ : EReal) < ⊤)]
  intro j _
  rw [Finset.sup_lt_iff (bot_lt_top : (⊥ : EReal) < ⊤)]
  intro x _
  exact lt_of_le_of_ne _root_.le_top (h j x)

theorem total_zero : total sc 0 = 0 := rfl

theorem total_succ (h : ∀ j x, sc j x ≠ ⊤) (n : ℕ) :
    total sc (n + 1) = total sc n * Ideal.exp2 (top sc n - top sc (n + 1)) + ∑ x, Ideal.exp2 (sc n x - top sc (n + 1)) := by
  unfold total
  rw [Finset.sum_range_succ, sum_mul _ _ _ fun j _ => Finset.sum_nonneg fun x _ => exp2_nonneg _]
  congr 1
  refine Finset.sum_congr rfl fun j hj => ?_
  rw [sum_mul _ _ _ fun x _ => exp2_nonneg _]
  refine Finset.sum_congr rfl fun x _ => ?_
  exact (shift _ _ _ (le_top sc n j (Finset.mem_range.1 hj) x) (top_mono sc n.le_succ) (top_ne sc h _)).symm

/-- A weight against its own block's running maximum, rescaled to the last maximum. -/
theorem rescaled (h : ∀ j x, sc j x ≠ ⊤) (n j : ℕ) (hj : j < n) (x : κ) (r : EReal) :
    Ideal.exp2 (sc j x - top sc (j + 1)) * (r * Ideal.exp2 (top sc (j + 1) - top sc n)) = Ideal.exp2 (sc j x - top sc n) * r := by
  rw [mul_left_comm, shift _ _ _ (le_top sc (j + 1) j j.lt_succ_self x) (top_mono sc hj) (top_ne sc h _), mul_comm]

end Cert.Proof.Softmax
-- ==== Proof.Chunk.lean ====
/- The values of one key block against one query block: the scores, the running maximum and sum, the weights, and the block's share of the result. -/
module

public import proofs.«01_k».proof.Proof.TripQK
public import proofs.«01_k».proof.Proof.Softmax

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo

/-- The factor of the scores: the reciprocal root of 128 over the logarithm of two. -/
def smk : EReal := Named.named (F := Ideal) (φ := .f32) κ "sm_log2e" 1040356334#32

/-- One score from the codes of a key and a query and their scales. -/
def scoreOf (K Q : Fin 128 → EReal) (s t : EReal) : EReal := (∑ d, K d * Q d) * (s * smk * t)

section Scores

variable (K Q : Fin 256 → Fin 128 → EReal) (s t : ℕ → EReal)
  (A D : Vec Ideal S1x256x128 .fp8e4m3) (B C E0 E1 : Vec Ideal S1x128 .f32)
  (hA : ∀ y d, A (ix3 0 y d) = Q y d) (hD : ∀ x d, D (ix3 0 x d) = K x d)
  (hB : ∀ l, B (ix2 0 l) = s 0) (hC : ∀ l, C (ix2 0 l) = s 1)
  (hE0 : ∀ l, E0 (ix2 0 l) = t 0) (hE1 : ∀ l, E1 (ix2 0 l) = t 1)

include hB hC in
theorem read_pay25 (y : Fin 256) : Gen.k0_pay25 B C (ix2 0 y) = s (y.val / 128) * smk := by
  pointwise [Gen.k0_pay25]
  have hy := y.isLt
  split
  · rename_i h
    rw [hB, Nat.div_eq_of_lt h]; rfl
  · rename_i h
    rw [hC, show y.val / 128 = 1 by omega]; rfl

include hA hD hB hC hE0 hE1 in
/-- The scores of a key block before the query block. -/
theorem read_pay14 (x y : Fin 256) :
    Gen.k0_pay14 (Gen.k0_pay24 A) (Gen.k0_pay25 B C) D E0 E1 (ix2 x y) = scoreOf (K x) (Q y) (s (y.val / 128)) (t (x.val / 128)) := by
  have h25 := read_pay25 s B C hB hC
  generalize Gen.k0_pay25 B C = R at h25 ⊢
  have hx := x.isLt
  pointwise [Gen.k0_pay14, Gen.k0_pay24]
  simp only [hA, hD, hE0, hE1, h25, ite_self, dite_eq_ite]
  unfold scoreOf
  split
  · rename_i h
    rw [Nat.div_eq_of_lt h]
  · rename_i h
    rw [show x.val / 128 = 1 by omega]
    congr 1
    refine Finset.sum_congr rfl fun d _ => ?_
    congr 2
    apply Fin.ext
    show 128 + (x.val - 128) = x.val
    omega

include hA hD hB hC hE0 hE1 in
/-- The scores of the query block's own key block: a later key has none. -/
theorem read_pay33 (x y : Fin 256) :
    Gen.k0_pay33 (Gen.k0_pay25 B C) (Gen.k0_pay30 A D) (Gen.k0_pay31 A D) (Gen.k0_pay32 B C E0) E1 (ix2 x y) =
      if x ≤ y then scoreOf (K x) (Q y) (s (y.val / 128)) (t (x.val / 128)) else ⊥ := by
  have h25 := read_pay25 s B C hB hC
  have hx := x.isLt
  have hy := y.isLt
  have h30 : ∀ x y : Fin 256, Gen.k0_pay30 A D (ix2 x y) = ∑ d, K x d * Q y d := by
    intro x y
    pointwise [Gen.k0_pay30, Gen.k0_pay24]
    simp only [hA, hD]
  unfold Gen.k0_pay31 Gen.k0_pay32
  generalize Gen.k0_pay25 B C = R at h25 ⊢
  generalize Gen.k0_pay30 A D = P at h30 ⊢
  pointwise [Gen.k0_pay33]
  simp only [h30, hE0, hE1, h25, ite_self, dite_eq_ite, ofBits_bot]
  have hc : IntOp.cmpi CmpIPredicate.sle (BitVec.ofNat 32 x.val) (BitVec.ofNat 32 y.val) = if x ≤ y then 1#1 else 0#1 := by
    have e : ∀ z : Fin 256, (BitVec.ofNat 32 z.val).toInt = z.val := by decide +kernel
    by_cases h : x ≤ y
    · rw [if_pos h]
      have h' : x.val ≤ y.val := h
      simp [IntOp.cmpi, BitVec.sle, e, h']
    · rw [if_neg h]
      have h' : ¬ x.val ≤ y.val := h
      simp [IntOp.cmpi, BitVec.sle, e, h']
  rw [hc]
  by_cases h : x ≤ y
  · rw [if_pos h, if_pos h]
    refine Eq.trans (if_pos rfl) ?_
    unfold scoreOf
    split
    · rename_i h
      rw [Nat.div_eq_of_lt h]
    · rename_i h
      rw [show x.val / 128 = 1 by omega]
      congr 1
      refine Finset.sum_congr rfl fun d _ => ?_
      congr 2
      apply Fin.ext
      show 128 + (x.val - 128) = x.val
      omega
  · rw [if_neg h, if_neg h]
    exact if_neg (by decide)

end Scores

section Running

variable (v78 : FVec Ideal S256x128 .fp8e4m3) (v88 m l : FVec Ideal S1x256 .f32) (v204 : Vec Ideal S1x256x128 .fp8e4m3) (v210 v219 : Vec Ideal S1x128 .f32)

theorem read_pay15 (y : Fin 256) :
    Gen.k0_pay15 v78 v88 m v204 v210 v219 (ix2 0 y) = max (m (ix2 0 y)) (Finset.univ.sup fun x : Fin 256 => Gen.k0_pay14 v78 v88 v204 v210 v219 (ix2 x y)) := by
  unfold Gen.k0_pay15
  generalize Gen.k0_pay14 v78 v88 v204 v210 v219 = S
  pointwise
  rw [fold_max]

theorem read_pay18 (x y : Fin 256) :
    Gen.k0_pay18 v78 v88 m v204 v210 v219 (ix2 x y) = Ideal.exp2 (Gen.k0_pay14 v78 v88 v204 v210 v219 (ix2 x y) - Gen.k0_pay15 v78 v88 m v204 v210 v219 (ix2 0 y)) := by
  unfold Gen.k0_pay18 Gen.k0_pay16
  generalize Gen.k0_pay14 v78 v88 v204 v210 v219 = S
  generalize Gen.k0_pay15 v78 v88 m v204 v210 v219 = M
  pointwise
  rfl

theorem read_pay17 (y : Fin 256) :
    Gen.k0_pay17 v78 v88 m l v204 v210 v219 (ix2 0 y) = l (ix2 0 y) * Ideal.exp2 (m (ix2 0 y) - Gen.k0_pay15 v78 v88 m v204 v210 v219 (ix2 0 y)) + ∑ x : Fin 256, Ideal.exp2 (Gen.k0_pay14 v78 v88 v204 v210 v219 (ix2 x y) - Gen.k0_pay15 v78 v88 m v204 v210 v219 (ix2 0 y)) := by
  unfold Gen.k0_pay17 Gen.k0_pay16
  generalize Gen.k0_pay14 v78 v88 v204 v210 v219 = S
  generalize Gen.k0_pay15 v78 v88 m v204 v210 v219 = M
  pointwise
  rfl

end Running

section Last

variable (v88 m l : FVec Ideal S1x256 .f32) (v103 : FVec Ideal S256x256 .f32) (v110 v111 : FVec Ideal S128x256 .f32) (v116 : Vec Ideal S1x128 .f32)
  (hio : S256x256.Iotas .tc 32 [0])

theorem read_pay34 (y : Fin 256) :
    Gen.k0_pay34 v88 m v103 v110 v111 v116 (ix2 0 y) = max (m (ix2 0 y)) (Finset.univ.sup fun x : Fin 256 => Gen.k0_pay33 v88 v103 v110 v111 v116 (ix2 x y)) := by
  unfold Gen.k0_pay34
  generalize Gen.k0_pay33 v88 v103 v110 v111 v116 = S
  pointwise
  rw [fold_max]

theorem read_pay36 (x y : Fin 256) :
    Gen.k0_pay36 v88 m v103 v110 v111 v116 (ix2 x y) = Ideal.exp2 (Gen.k0_pay33 v88 v103 v110 v111 v116 (ix2 x y) - Gen.k0_pay34 v88 m v103 v110 v111 v116 (ix2 0 y)) := by
  unfold Gen.k0_pay36 Gen.k0_pay35
  generalize Gen.k0_pay33 v88 v103 v110 v111 v116 = S
  generalize Gen.k0_pay34 v88 m v103 v110 v111 v116 = M
  pointwise
  rfl

theorem read_pay37 (y : Fin 256) :
    Gen.k0_pay37 v88 m v103 v110 v111 v116 (ix2 0 y) = Gen.k0_pay34 v88 m v103 v110 v111 v116 (ix2 0 y) := by
  unfold Gen.k0_pay37
  generalize Gen.k0_pay34 v88 m v103 v110 v111 v116 = M
  pointwise

theorem read_pay38 (y : Fin 256) :
    Gen.k0_pay38 v88 m l v103 v110 v111 v116 (ix2 0 y) = Ideal.div (Ideal.ofBits FTy.f32 1065353216#32) (l (ix2 0 y) * Ideal.exp2 (m (ix2 0 y) - Gen.k0_pay34 v88 m v103 v110 v111 v116 (ix2 0 y)) + ∑ x : Fin 256, Ideal.exp2 (Gen.k0_pay33 v88 v103 v110 v111 v116 (ix2 x y) - Gen.k0_pay34 v88 m v103 v110 v111 v116 (ix2 0 y))) := by
  unfold Gen.k0_pay38 Gen.k0_pay35
  generalize Gen.k0_pay33 v88 v103 v110 v111 v116 = S
  generalize Gen.k0_pay34 v88 m v103 v110 v111 v116 = M
  pointwise
  rfl

theorem read_pay42 (y : Fin 256) :
    Gen.k0_pay42 (Gen.k0_pay38 v88 m l v103 v110 v111 v116) (iota .tc S256x256 32 [0] hio) (Gen.k0_pay39 v88 m l v103 v110 v111 v116) 0#32 (ix2 0 y) =
      Gen.k0_pay38 v88 m l v103 v110 v111 v116 (ix2 0 y) * kInv (Gen.k0_pay38 v88 m l v103 v110 v111 v116 (ix2 0 y)) := by
  unfold Gen.k0_pay42 Gen.k0_pay41 Gen.k0_pay40 Gen.k0_pay39
  generalize Gen.k0_pay38 v88 m l v103 v110 v111 v116 = A
  pointwise
  rfl

theorem read_pay46 (v40 : FVec Ideal S1x1 .f32) (O : FVec Ideal S128x256 .f32) (y : Fin 256) (d : Fin 128) :
    Gen.k0_pay46 v40 (Gen.k0_pay38 v88 m l v103 v110 v111 v116) (iota .tc S256x256 32 [0] hio) (Gen.k0_pay39 v88 m l v103 v110 v111 v116) 0#32 O (ix3 0 y d) =
      O (ix2 d y) * kFwd (Gen.k0_pay38 v88 m l v103 v110 v111 v116 (ix2 0 y)) * v40 (ix2 0 0) := by
  unfold Gen.k0_pay46 Gen.k0_pay41 Gen.k0_pay40 Gen.k0_pay39
  generalize Gen.k0_pay38 v88 m l v103 v110 v111 v116 = A
  pointwise
  rfl

end Last

theorem read_pay44 (M A : FVec Ideal S1x256 .f32) (v152 : IVec S256x256 32) (v157 : IVec S256x256 1) (acc : FVec Ideal S128x256 .f32)
    (Mj : Vec Ideal S1x256 .f32) (E : Vec Ideal S256x256 .f32) (V : Vec Ideal S128x256 .fp8e4m3) (d : Fin 128) (y : Fin 256) :
    Gen.k0_pay44 M A v152 v157 0#32 acc Mj E V (ix2 d y) =
      acc (ix2 d y) + ∑ x : Fin 256, V (ix2 d x) * codeOf (E (ix2 x y)) (Gen.k0_pay42 A v152 v157 0#32 (ix2 0 y) * Ideal.exp2 (Mj (ix2 0 y) - M (ix2 0 y))) := by
  unfold Gen.k0_pay44
  generalize Gen.k0_pay42 A v152 v157 0#32 = R
  pointwise
  rfl

end Cert.Proof.KernelIdeal
-- ==== Proof.Loads.lean ====
/- Loads of 256 rows or of one row of a buffer, and where the query loop's loads and stores lie. -/
module

public import proofs.«01_k».proof.Proof.TripQK

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo

/-- Row `x` of block `j` among the 4096 rows. -/
def key (j : ℕ) (x : Fin 256) : Fin 4096 := ⟨(256 * j + x.val) % 4096, Nat.mod_lt _ (by norm_num)⟩

theorem key_val (j : ℕ) (hj : j < 16) (x : Fin 256) : (key j x).val = 256 * j + x.val := by
  have := x.isLt
  exact Nat.mod_eq_of_lt (by omega)

theorem query_lt (k : Fin k0_t4_loop.trips) : k.val < 16 := Nat.lt_of_lt_of_le k.isLt Gen.k0_t4_abs.2.1

theorem trips4 : k0_t4_loop.trips = 16 := by decide +kernel
theorem trips5 : ∀ k : Fin k0_t4_loop.trips, (k0_t5_loop k).trips = k.val := by decide +kernel
theorem trips6 : ∀ k : Fin k0_t4_loop.trips, (k0_t6_loop k).trips = 0 := by decide +kernel
theorem trips7 : ∀ k : Fin k0_t4_loop.trips, (k0_t7_loop k).trips = k.val + 1 := by decide +kernel
theorem trips8 : ∀ k : Fin k0_t4_loop.trips, (k0_t8_loop k).trips = 0 := by decide +kernel
theorem off7 : ∀ k : Fin k0_t4_loop.trips, k0_off7 k = ![0, 256 * k.val, 0] := by decide +kernel
theorem off8 : ∀ k : Fin k0_t4_loop.trips, k0_off8 k = ![2 * k.val, 0] := by decide +kernel
theorem off9 : ∀ k : Fin k0_t4_loop.trips, k0_off9 k = ![2 * k.val + 1, 0] := by decide +kernel
theorem off10 : ∀ (k : Fin k0_t4_loop.trips) (j : Fin (k0_t5_loop k).trips), k0_off10 k j = ![0, 256 * j.val, 0] := by decide +kernel
theorem off11 : ∀ (k : Fin k0_t4_loop.trips) (j : Fin (k0_t5_loop k).trips), k0_off11 k j 0#32 = ![2 * j.val, 0] ∧ k0_off11 k j 1#32 = ![2 * j.val + 1, 0] := by decide +kernel
theorem off12 : ∀ (k : Fin k0_t4_loop.trips) (j : Fin (k0_t5_loop k).trips), k0_off12 k j = ![256 * j.val, 0] ∧ k0_off13 k j = ![j.val, 0] := by decide +kernel
theorem off18 : ∀ k : Fin k0_t4_loop.trips, k0_off18 k = ![0, 256 * k.val, 0] ∧ k0_off19 k 0#32 = ![2 * k.val, 0] ∧ k0_off19 k 1#32 = ![2 * k.val + 1, 0] ∧ k0_off20 k = ![256 * k.val, 0] ∧ k0_off21 k = ![k.val, 0] := by decide +kernel
theorem off22 : ∀ (k : Fin k0_t4_loop.trips) (j : Fin (k0_t7_loop k).trips), k0_off22 k j = ![j.val, 0] ∧ k0_off23 k j = ![256 * j.val, 0] ∧ k0_off24 k j = ![0, 256 * j.val] := by decide +kernel

variable {e : EltTy}

theorem load_block (v : Memref sig .tc .vmem S1x4096x128 e) (X : BufTy.Contents (Elt Ideal) v.view.ty)
    (off : Fin 3 → Nat) (j : ℕ) (hj : j < 16) (ho : off = ![0, 256 * j, 0]) (h) (x : Fin 256) (l : Fin 128) :
    View.readAt (Elt Ideal) v.view (Rect.unit (s := S1x4096x128) off S1x256x128.size h).toLoadRect X (ix3 0 x l) = blk v X (key j x) l := by
  subst ho
  rw [View.readAt_apply]
  refine congrArg _ ?_
  funext a
  apply Fin.ext
  have := key_val j hj x
  match a with
  | ⟨0, _⟩ => rfl
  | ⟨1, _⟩ => exact (by simp [this] : 256 * j + 1 * x.val = (key j x).val)
  | ⟨2, _⟩ => exact (by simp : 0 + 1 * l.val = l.val)

theorem load_lane (v : Memref sig .tc .vmem S32x128 e) (X : BufTy.Contents (Elt Ideal) v.view.ty)
    (off : Fin 2 → Nat) (n : ℕ) (hn : n < 32) (ho : off = ![n, 0]) (h) (l : Fin 128) :
    View.readAt (Elt Ideal) v.view (Rect.unit (s := S32x128) off S1x128.size h).toLoadRect X (ix2 0 l) = v.view.read (Elt Ideal) X (ix2 ⟨n, hn⟩ l) := by
  subst ho
  rw [View.readAt_apply]
  refine congrArg _ ?_
  funext a
  apply Fin.ext
  match a with
  | ⟨0, _⟩ => exact (by simp : n + 1 * 0 = n)
  | ⟨1, _⟩ => exact (by simp : 0 + 1 * l.val = l.val)

theorem load_rows (v : Memref sig .tc .vmem S4096x256 e) (X : BufTy.Contents (Elt Ideal) v.view.ty)
    (off : Fin 2 → Nat) (j : ℕ) (hj : j < 16) (ho : off = ![256 * j, 0]) (h) (x y : Fin 256) :
    View.readAt (Elt Ideal) v.view (Rect.unit (s := S4096x256) off S256x256.size h).toLoadRect X (ix2 x y) = v.view.read (Elt Ideal) X (ix2 (key j x) y) := by
  subst ho
  rw [View.readAt_apply]
  refine congrArg _ ?_
  funext a
  apply Fin.ext
  have := key_val j hj x
  match a with
  | ⟨0, _⟩ => exact (by simp [this] : 256 * j + 1 * x.val = (key j x).val)
  | ⟨1, _⟩ => exact (by simp : 0 + 1 * y.val = y.val)

theorem load_max (v : Memref sig .tc .vmem S16x256 e) (X : BufTy.Contents (Elt Ideal) v.view.ty)
    (off : Fin 2 → Nat) (j : ℕ) (hj : j < 16) (ho : off = ![j, 0]) (h) (y : Fin 256) :
    View.readAt (Elt Ideal) v.view (Rect.unit (s := S16x256) off S1x256.size h).toLoadRect X (ix2 0 y) = v.view.read (Elt Ideal) X (ix2 ⟨j, hj⟩ y) := by
  subst ho
  rw [View.readAt_apply]
  refine congrArg _ ?_
  funext a
  apply Fin.ext
  match a with
  | ⟨0, _⟩ => exact (by simp : j + 1 * 0 = j)
  | ⟨1, _⟩ => exact (by simp : 0 + 1 * y.val = y.val)

theorem load_cols (v : Memref sig .tc .vmem S128x4096 e) (X : BufTy.Contents (Elt Ideal) v.view.ty)
    (off : Fin 2 → Nat) (j : ℕ) (hj : j < 16) (ho : off = ![0, 256 * j]) (h) (d : Fin 128) (x : Fin 256) :
    View.readAt (Elt Ideal) v.view (Rect.unit (s := S128x4096) off S128x256.size h).toLoadRect X (ix2 d x) = v.view.read (Elt Ideal) X (ix2 d (key j x)) := by
  subst ho
  rw [View.readAt_apply]
  refine congrArg _ ?_
  funext a
  apply Fin.ext
  have := key_val j hj x
  match a with
  | ⟨0, _⟩ => exact (by simp : 0 + 1 * d.val = d.val)
  | ⟨1, _⟩ => exact (by simp [this] : 256 * j + 1 * x.val = (key j x).val)

/-- Pieces that fill the first `n` blocks of 256 rows with the values `G`. -/
def Rows (L : List (View.Piece (Elt Ideal) S4096x256 e)) (G : Fin 4096 → Fin 256 → Elt Ideal e) (n : ℕ) : Prop :=
  (∀ p ∈ L, ∀ z : p.1.shape.Idx, p.2 z = (fun y : S4096x256.Idx => G (y 0) (y 1)) (p.1.emb z)) ∧ ∀ y : S4096x256.Idx, (y 0).val < 256 * n → ∃ p ∈ L, y ∈ p.1.set

theorem Rows.nil (G : Fin 4096 → Fin 256 → Elt Ideal e) : Rows [] G 0 :=
  ⟨fun p hp => absurd hp List.not_mem_nil, fun y hy => absurd hy (by omega)⟩

theorem Rows.cons (L : List (View.Piece (Elt Ideal) S4096x256 e)) (G : Fin 4096 → Fin 256 → Elt Ideal e) (k : ℕ) (hk : k < 16) (hL : Rows L G k)
    (off : Fin 2 → Nat) (ho : off = ![256 * k, 0]) (h) (V) (hV : ∀ x y : Fin 256, V (ix2 x y) = G (key k x) y) :
    Rows (⟨Rect.unit (s := S4096x256) off ![256, 256] h, V⟩ :: L) G (k + 1) := by
  subst ho
  obtain ⟨i1, i2⟩ := hL
  constructor
  · intro p hp
    rcases List.mem_cons.1 hp with hp | hp
    · subst hp
      intro z
      obtain ⟨x, y, rfl⟩ : ∃ x y : Fin 256, z = ix2 x y := by
        refine ⟨z 0, z 1, ?_⟩
        refine (eq_ix2 (n0 := 256) (n1 := 256) z).trans ?_
        rfl
      refine (hV x y).trans ?_
      have e1 : key k x = (Rect.unit (s := S4096x256) ![256 * k, 0] ![256, 256] h).emb (ix2 x y) 0 := by
        apply Fin.ext
        rw [key_val k hk]
        exact (by simp : 256 * k + x.val = 256 * k + 1 * x.val)
      have e2 : y = (Rect.unit (s := S4096x256) ![256 * k, 0] ![256, 256] h).emb (ix2 x y) 1 := by
        apply Fin.ext
        exact (by simp : y.val = 0 + 1 * y.val)
      exact congrArg₂ G e1 e2
    · exact i1 p hp
  · intro y hy
    by_cases hlt : (y 0).val < 256 * k
    · obtain ⟨p, hp, hm⟩ := i2 y hlt
      exact ⟨p, List.mem_cons.2 (Or.inr hp), hm⟩
    · refine ⟨_, List.mem_cons.2 (Or.inl rfl), ?_⟩
      rw [Rect.mem_set_unit]
      have y2 : (y 1).val < 256 := (y 1).isLt
      intro a
      match a with
      | ⟨0, _⟩ => exact ⟨not_lt.1 hlt, (by omega : (y 0).val < 256 * k + 256)⟩
      | ⟨1, _⟩ => exact ⟨Nat.zero_le _, (by omega : (y 1).val < 0 + 256)⟩

theorem Rows.read (v : Memref sig .tc .vmem S4096x256 e) (L : List (View.Piece (Elt Ideal) S4096x256 e)) (G : Fin 4096 → Fin 256 → Elt Ideal e) (n : ℕ) (hL : Rows L G n)
    (f : BufTy.Contents (Elt Ideal) v.view.ty) (r : Fin 4096) (hr : r.val < 256 * n) (y : Fin 256) :
    v.view.read (Elt Ideal) (v.view.writes (Elt Ideal) f L) (ix2 r y) = G r y :=
  View.read_writes_apply_of_pieces v.view f (fun y : S4096x256.Idx => G (y 0) (y 1)) L hL.1 (ix2 r y) (hL.2 _ hr)

/-- Pieces that fill the first `n` rows with the values `G`. -/
def Tops (L : List (View.Piece (Elt Ideal) S16x256 e)) (G : Fin 16 → Fin 256 → Elt Ideal e) (n : ℕ) : Prop :=
  (∀ p ∈ L, ∀ z : p.1.shape.Idx, p.2 z = (fun y : S16x256.Idx => G (y 0) (y 1)) (p.1.emb z)) ∧ ∀ y : S16x256.Idx, (y 0).val < n → ∃ p ∈ L, y ∈ p.1.set

theorem Tops.nil (G : Fin 16 → Fin 256 → Elt Ideal e) : Tops [] G 0 :=
  ⟨fun p hp => absurd hp List.not_mem_nil, fun y hy => absurd hy (by omega)⟩

theorem Tops.cons (L : List (View.Piece (Elt Ideal) S16x256 e)) (G : Fin 16 → Fin 256 → Elt Ideal e) (k : ℕ) (hk : k < 16) (hL : Tops L G k)
    (off : Fin 2 → Nat) (ho : off = ![k, 0]) (h) (V) (hV : ∀ y : Fin 256, V (ix2 (n0 := 1) 0 y) = G ⟨k, hk⟩ y) :
    Tops (⟨Rect.unit (s := S16x256) off ![1, 256] h, V⟩ :: L) G (k + 1) := by
  subst ho
  obtain ⟨i1, i2⟩ := hL
  constructor
  · intro p hp
    rcases List.mem_cons.1 hp with hp | hp
    · subst hp
      intro z
      obtain ⟨y, rfl⟩ : ∃ y : Fin 256, z = ix2 (n0 := 1) 0 y := by
        refine ⟨z 1, ?_⟩
        refine (eq_ix2 (n0 := 1) (n1 := 256) z).trans ?_
        congr 1
        exact Subsingleton.elim (α := Fin 1) _ _
      refine (hV y).trans ?_
      have e1 : (⟨k, hk⟩ : Fin 16) = (Rect.unit (s := S16x256) ![k, 0] ![1, 256] h).emb (ix2 (n0 := 1) 0 y) 0 := by
        apply Fin.ext
        exact (by simp : k = k + 1 * 0)
      have e2 : y = (Rect.unit (s := S16x256) ![k, 0] ![1, 256] h).emb (ix2 (n0 := 1) 0 y) 1 := by
        apply Fin.ext
        exact (by simp : y.val = 0 + 1 * y.val)
      exact congrArg₂ G e1 e2
    · exact i1 p hp
  · intro y hy
    by_cases hlt : (y 0).val < k
    · obtain ⟨p, hp, hm⟩ := i2 y hlt
      exact ⟨p, List.mem_cons.2 (Or.inr hp), hm⟩
    · refine ⟨_, List.mem_cons.2 (Or.inl rfl), ?_⟩
      rw [Rect.mem_set_unit]
      have y2 : (y 1).val < 256 := (y 1).isLt
      intro a
      match a with
      | ⟨0, _⟩ => exact ⟨not_lt.1 hlt, (by omega : (y 0).val < k + 1)⟩
      | ⟨1, _⟩ => exact ⟨Nat.zero_le _, (by omega : (y 1).val < 0 + 256)⟩

theorem Tops.read (v : Memref sig .tc .vmem S16x256 e) (L : List (View.Piece (Elt Ideal) S16x256 e)) (G : Fin 16 → Fin 256 → Elt Ideal e) (n : ℕ) (hL : Tops L G n)
    (f : BufTy.Contents (Elt Ideal) v.view.ty) (r : Fin 16) (hr : r.val < n) (y : Fin 256) :
    v.view.read (Elt Ideal) (v.view.writes (Elt Ideal) f L) (ix2 r y) = G r y :=
  View.read_writes_apply_of_pieces v.view f (fun y : S16x256.Idx => G (y 0) (y 1)) L hL.1 (ix2 r y) (hL.2 _ hr)

end Cert.Proof.KernelIdeal
-- ==== Proof.Running.lean ====
/- The loop over the key blocks before a query block: after each block the running maximum and sum, and what the two scratch tables hold. -/
module

public import proofs.«01_k».proof.Proof.Chunk
public import proofs.«01_k».proof.Proof.Loads
public import proofs.«01_k».proof.Proof.Gen.KernelIdeal.Loops

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo
open Cert.Proof.Softmax

/-- The scores of query `y` of query block `k` against the key blocks: in its own block only the keys at or before it. -/
def masked (Cq Ck : Fin 4096 → Fin 128 → EReal) (qs ks : ℕ → EReal) (k : ℕ) (y : Fin 256) (j : ℕ) (x : Fin 256) : EReal :=
  if j = k then if x ≤ y then scoreOf (Ck (key j x)) (Cq (key k y)) (qs (2 * k + y.val / 128)) (ks (2 * j + x.val / 128)) else ⊥
  else scoreOf (Ck (key j x)) (Cq (key k y)) (qs (2 * k + y.val / 128)) (ks (2 * j + x.val / 128))

/-- What the table of weights holds for a query block. -/
def weights (sc : Fin 256 → ℕ → Fin 256 → EReal) (r : Fin 4096) (y : Fin 256) : EReal :=
  Ideal.exp2 (sc y (r.val / 256) ⟨r.val % 256, Nat.mod_lt _ (by norm_num)⟩ - top (sc y) (r.val / 256 + 1))

theorem weights_key (sc : Fin 256 → ℕ → Fin 256 → EReal) (j : ℕ) (hj : j < 16) (x y : Fin 256) :
    weights sc (key j x) y = Ideal.exp2 (sc y j x - top (sc y) (j + 1)) := by
  have hx := x.isLt
  unfold weights
  have e1 : (key j x).val / 256 = j := by rw [key_val j hj]; omega
  have e2 : (⟨(key j x).val % 256, Nat.mod_lt _ (by norm_num)⟩ : Fin 256) = x := by
    apply Fin.ext
    show (key j x).val % 256 = x.val
    rw [key_val j hj]; omega
  rw [e1, e2]

variable (𝒱 : Variants) (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

section Trip

variable (k : Fin k0_t4_loop.trips) (v77 : Vec Ideal S1x256x128 .fp8e4m3) (v81 v85 : Vec Ideal S1x128 .f32)
  (X8 : BufTy.Contents (Elt Ideal) arg8.view.ty) (X14 : BufTy.Contents (Elt Ideal) arg14.view.ty)

theorem tripR5 (j : Fin (k0_t5_loop k).trips) (acc : FVec Ideal S1x256 .f32 × FVec Ideal S1x256 .f32) :
    Gen.tripR_k0_t5 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k v77 v81 v85 X8 X14 j acc =
      (Gen.k0_pay15 (Gen.k0_pay24 v77) (Gen.k0_pay25 v81 v85) acc.1
        (View.readAt (Elt Ideal) arg8.view (Rect.unit (s := S1x4096x128) (k0_off10 k j) S1x256x128.size (Gen.k0_off10_inb k j)).toLoadRect X8)
        (View.readAt (Elt Ideal) arg14.view (Rect.unit (s := S32x128) (k0_off11 k j 0#32) S1x128.size (Gen.k0_off11_inb k j 0)).toLoadRect X14)
        (View.readAt (Elt Ideal) arg14.view (Rect.unit (s := S32x128) (k0_off11 k j 1#32) S1x128.size (Gen.k0_off11_inb k j 1)).toLoadRect X14),
       Gen.k0_pay17 (Gen.k0_pay24 v77) (Gen.k0_pay25 v81 v85) acc.1 acc.2
        (View.readAt (Elt Ideal) arg8.view (Rect.unit (s := S1x4096x128) (k0_off10 k j) S1x256x128.size (Gen.k0_off10_inb k j)).toLoadRect X8)
        (View.readAt (Elt Ideal) arg14.view (Rect.unit (s := S32x128) (k0_off11 k j 0#32) S1x128.size (Gen.k0_off11_inb k j 0)).toLoadRect X14)
        (View.readAt (Elt Ideal) arg14.view (Rect.unit (s := S32x128) (k0_off11 k j 1#32) S1x128.size (Gen.k0_off11_inb k j 1)).toLoadRect X14)) := by
  unfold Gen.tripR_k0_t5 Gen.trip_k0_t5
  rfl

theorem tripL5 (j : Fin (k0_t5_loop k).trips) (acc : FVec Ideal S1x256 .f32 × FVec Ideal S1x256 .f32) :
    Gen.tripL_k0_t5 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k v77 v81 v85 X8 X14 j acc =
      ([⟨Rect.unit (s := S4096x256) (k0_off12 k j) ![256, 256] (Gen.k0_off12_inb k j), Gen.k0_pay18 (Gen.k0_pay24 v77) (Gen.k0_pay25 v81 v85) acc.1
        (View.readAt (Elt Ideal) arg8.view (Rect.unit (s := S1x4096x128) (k0_off10 k j) S1x256x128.size (Gen.k0_off10_inb k j)).toLoadRect X8)
        (View.readAt (Elt Ideal) arg14.view (Rect.unit (s := S32x128) (k0_off11 k j 0#32) S1x128.size (Gen.k0_off11_inb k j 0)).toLoadRect X14)
        (View.readAt (Elt Ideal) arg14.view (Rect.unit (s := S32x128) (k0_off11 k j 1#32) S1x128.size (Gen.k0_off11_inb k j 1)).toLoadRect X14)⟩],
       [⟨Rect.unit (s := S16x256) (k0_off13 k j) ![1, 256] (Gen.k0_off13_inb k j), Gen.k0_pay28 (Gen.k0_pay15 (Gen.k0_pay24 v77) (Gen.k0_pay25 v81 v85) acc.1
        (View.readAt (Elt Ideal) arg8.view (Rect.unit (s := S1x4096x128) (k0_off10 k j) S1x256x128.size (Gen.k0_off10_inb k j)).toLoadRect X8)
        (View.readAt (Elt Ideal) arg14.view (Rect.unit (s := S32x128) (k0_off11 k j 0#32) S1x128.size (Gen.k0_off11_inb k j 0)).toLoadRect X14)
        (View.readAt (Elt Ideal) arg14.view (Rect.unit (s := S32x128) (k0_off11 k j 1#32) S1x128.size (Gen.k0_off11_inb k j 1)).toLoadRect X14))⟩]) := by
  unfold Gen.tripL_k0_t5 Gen.trip_k0_t5
  rfl

variable (Cq Ck : Fin 4096 → Fin 128 → EReal) (qs ks : ℕ → EReal)
  (h77 : ∀ (y : Fin 256) (d : Fin 128), v77 (ix3 0 y d) = Cq (key k.val y) d)
  (h8 : ∀ r d, blk arg8 X8 r d = Ck r d)
  (h81 : ∀ l : Fin 128, v81 (ix2 0 l) = qs (2 * k.val)) (h85 : ∀ l : Fin 128, v85 (ix2 0 l) = qs (2 * k.val + 1))
  (h14 : ∀ (n : Fin 32) (l : Fin 128), arg14.view.read (Elt Ideal) X14 (ix2 n l) = ks n.val)
  (fin : ∀ y j x, masked Cq Ck qs ks k.val y j x ≠ ⊤)

include h77 h8 h81 h85 h14 fin in
theorem run5 (n : ℕ) (hn : n ≤ k.val) :
    (∀ y : Fin 256, (Gen.st_k0_t5 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k v77 v81 v85 X8 X14 (Gen.k0_pay26, Gen.k0_pay27) n).1.1 (ix2 0 y) = top (masked Cq Ck qs ks k.val y) n) ∧
    (∀ y : Fin 256, (Gen.st_k0_t5 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k v77 v81 v85 X8 X14 (Gen.k0_pay26, Gen.k0_pay27) n).1.2 (ix2 0 y) = total (masked Cq Ck qs ks k.val y) n) ∧
    Rows (Gen.st_k0_t5 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k v77 v81 v85 X8 X14 (Gen.k0_pay26, Gen.k0_pay27) n).2.1 (weights (masked Cq Ck qs ks k.val)) n ∧
    Tops (Gen.st_k0_t5 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k v77 v81 v85 X8 X14 (Gen.k0_pay26, Gen.k0_pay27) n).2.2 (fun j y => top (masked Cq Ck qs ks k.val y) (j.val + 1)) n := by
  have hk := query_lt k
  induction n with
  | zero =>
    refine ⟨fun y => ?_, fun y => ?_, Rows.nil _, Tops.nil _⟩
    · rw [Gen.st_k0_t5_zero]
      dsimp only
      pointwise [Gen.k0_pay26]
      exact ofBits_bot
    · rw [Gen.st_k0_t5_zero]
      dsimp only
      pointwise [Gen.k0_pay27]
      rfl
  | succ n ih =>
    obtain ⟨i1, i2, i3, i4⟩ := ih (by omega)
    have hj : n < (k0_t5_loop k).trips := by rw [trips5]; omega
    have e := Gen.st_k0_t5_succ (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k v77 v81 v85 X8 X14 (Gen.k0_pay26, Gen.k0_pay27) ⟨n, hj⟩
    rw [tripR5, tripL5] at e
    dsimp only at e
    rw [e]
    generalize Gen.st_k0_t5 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k v77 v81 v85 X8 X14 (Gen.k0_pay26, Gen.k0_pay27) n = s at i1 i2 i3 i4
    have hD : ∀ (x : Fin 256) (d : Fin 128), View.readAt (Elt Ideal) arg8.view (Rect.unit (s := S1x4096x128) (k0_off10 k ⟨n, hj⟩) S1x256x128.size (Gen.k0_off10_inb k ⟨n, hj⟩)).toLoadRect X8 (ix3 0 x d) = Ck (key n x) d :=
      fun x d => (load_block arg8 X8 _ n (by omega) (off10 k ⟨n, hj⟩) _ x d).trans (h8 _ _)
    have hE0 : ∀ l : Fin 128, View.readAt (Elt Ideal) arg14.view (Rect.unit (s := S32x128) (k0_off11 k ⟨n, hj⟩ 0#32) S1x128.size (Gen.k0_off11_inb k ⟨n, hj⟩ 0)).toLoadRect X14 (ix2 0 l) = ks (2 * n) :=
      fun l => (load_lane arg14 X14 _ (2 * n) (by omega) (off11 k ⟨n, hj⟩).1 _ l).trans (h14 _ _)
    have hE1 : ∀ l : Fin 128, View.readAt (Elt Ideal) arg14.view (Rect.unit (s := S32x128) (k0_off11 k ⟨n, hj⟩ 1#32) S1x128.size (Gen.k0_off11_inb k ⟨n, hj⟩ 1)).toLoadRect X14 (ix2 0 l) = ks (2 * n + 1) :=
      fun l => (load_lane arg14 X14 _ (2 * n + 1) (by omega) (off11 k ⟨n, hj⟩).2 _ l).trans (h14 _ _)
    generalize View.readAt (Elt Ideal) arg8.view (Rect.unit (s := S1x4096x128) (k0_off10 k ⟨n, hj⟩) S1x256x128.size (Gen.k0_off10_inb k ⟨n, hj⟩)).toLoadRect X8 = D at hD ⊢
    generalize View.readAt (Elt Ideal) arg14.view (Rect.unit (s := S32x128) (k0_off11 k ⟨n, hj⟩ 0#32) S1x128.size (Gen.k0_off11_inb k ⟨n, hj⟩ 0)).toLoadRect X14 = E0 at hE0 ⊢
    generalize View.readAt (Elt Ideal) arg14.view (Rect.unit (s := S32x128) (k0_off11 k ⟨n, hj⟩ 1#32) S1x128.size (Gen.k0_off11_inb k ⟨n, hj⟩ 1)).toLoadRect X14 = E1 at hE1 ⊢
    have hS : ∀ x y : Fin 256, Gen.k0_pay14 (Gen.k0_pay24 v77) (Gen.k0_pay25 v81 v85) D E0 E1 (ix2 x y) = masked Cq Ck qs ks k.val y n x := by
      intro x y
      rw [read_pay14 (fun x => Ck (key n x)) (fun y => Cq (key k.val y)) (fun a => qs (2 * k.val + a)) (fun a => ks (2 * n + a)) v77 D v81 v85 E0 E1 h77 hD h81 h85 hE0 hE1]
      unfold masked
      rw [if_neg (by omega)]
    have hM : ∀ y : Fin 256, Gen.k0_pay15 (Gen.k0_pay24 v77) (Gen.k0_pay25 v81 v85) s.1.1 D E0 E1 (ix2 0 y) = top (masked Cq Ck qs ks k.val y) (n + 1) := by
      intro y
      rw [read_pay15, i1, top_succ]
      simp only [hS]
    refine ⟨hM, ?_, ?_, ?_⟩
    · intro y
      dsimp only
      rw [read_pay17, i1, i2, hM, total_succ _ (fin y)]
      simp only [hS]
    · refine Rows.cons _ _ n (by omega) i3 _ (off12 k ⟨n, hj⟩).1 _ _ ?_
      intro x y
      rw [read_pay18, hS, hM, weights_key _ n (by omega)]
    · refine Tops.cons _ _ n (by omega) i4 _ (off12 k ⟨n, hj⟩).2 _ _ ?_
      intro y
      rw [← hM y]
      generalize Gen.k0_pay15 (Gen.k0_pay24 v77) (Gen.k0_pay25 v81 v85) s.1.1 D E0 E1 = M
      pointwise [Gen.k0_pay28]

end Trip

end Cert.Proof.KernelIdeal
-- ==== Proof.LastPass.lean ====
/- The last pass of a query block: each key block's weights are rescaled to the final maximum, coded, and multiplied with the values; what the query block writes. -/
module

public import proofs.«01_k».proof.Proof.Running
public import proofs.«01_k».proof.Proof.QueryIdeal

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo
open Cert.Proof.Softmax

theorem queryBlock_off (k : Fin k0_t4_loop.trips) : k0_off7 k = ![0, 256 * k.val, 0] := off7 k

/-- The result at query `y` of block `k`, lane `d`: the coded weights times the values, with the two scales. -/
def answer (sc : ℕ → Fin 256 → EReal) (Cv : Fin 4096 → Fin 128 → EReal) (v : EReal) (k : ℕ) (d : Fin 128) : EReal :=
  (∑ j ∈ Finset.range (k + 1), ∑ x : Fin 256, Cv (key j x) d * codeOf (Ideal.exp2 (sc j x - top sc (k + 1))) (Ideal.div (Ideal.ofBits FTy.f32 1065353216#32) (total sc (k + 1)) * kInv (Ideal.div (Ideal.ofBits FTy.f32 1065353216#32) (total sc (k + 1)))))
    * kFwd (Ideal.div (Ideal.ofBits FTy.f32 1065353216#32) (total sc (k + 1))) * v

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)
  (v40 : FVec Ideal S1x1 .f32)

section Seven

variable (k : Fin k0_t4_loop.trips) (arg17 v75 : BitVec 32) (M A : FVec Ideal S1x256 .f32) (v152 : IVec S256x256 32) (v157 : IVec S256x256 1)
  (X12 : BufTy.Contents (Elt Ideal) arg12.view.ty) (X15 : BufTy.Contents (Elt Ideal) arg15.view.ty) (X16 : BufTy.Contents (Elt Ideal) arg16.view.ty)

theorem tripR7 (j : Fin (k0_t7_loop k).trips) (acc : FVec Ideal S128x256 .f32) :
    Gen.tripR_k0_t7 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 v40 k arg17 v75 M A v152 v157 0#32 X12 X15 X16 j acc =
      Gen.k0_pay44 M A v152 v157 0#32 acc
        (View.readAt (Elt Ideal) arg16.view (Rect.unit (s := S16x256) (k0_off22 k j) S1x256.size (Gen.k0_off22_inb k j)).toLoadRect X16)
        (View.readAt (Elt Ideal) arg15.view (Rect.unit (s := S4096x256) (k0_off23 k j) S256x256.size (Gen.k0_off23_inb k j)).toLoadRect X15)
        (View.readAt (Elt Ideal) arg12.view (Rect.unit (s := S128x4096) (k0_off24 k j) S128x256.size (Gen.k0_off24_inb k j)).toLoadRect X12) := by
  unfold Gen.tripR_k0_t7 Gen.trip_k0_t7
  rfl

variable (sc : Fin 256 → ℕ → Fin 256 → EReal) (fin : ∀ y j x, sc y j x ≠ ⊤) (Cv : Fin 4096 → Fin 128 → EReal) (R : Fin 256 → EReal)
  (h12 : ∀ (d : Fin 128) (r : Fin 4096), arg12.view.read (Elt Ideal) X12 (ix2 d r) = Cv r d)
  (h15 : ∀ (r : Fin 4096) (y : Fin 256), r.val < 256 * (k.val + 1) → arg15.view.read (Elt Ideal) X15 (ix2 r y) = weights sc r y)
  (h16 : ∀ (j : Fin 16) (y : Fin 256), j.val < k.val + 1 → arg16.view.read (Elt Ideal) X16 (ix2 j y) = top (sc y) (j.val + 1))
  (hM : ∀ y : Fin 256, M (ix2 0 y) = top (sc y) (k.val + 1))
  (hR : ∀ y : Fin 256, Gen.k0_pay42 A v152 v157 0#32 (ix2 0 y) = R y)

include fin h12 h15 h16 hM hR in
theorem run7 (n : ℕ) (hn : n ≤ k.val + 1) (d : Fin 128) (y : Fin 256) :
    Gen.st_k0_t7 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 v40 k arg17 v75 M A v152 v157 0#32 X12 X15 X16 Gen.k0_pay43 n (ix2 d y) =
      ∑ j ∈ Finset.range n, ∑ x : Fin 256, Cv (key j x) d * codeOf (Ideal.exp2 (sc y j x - top (sc y) (k.val + 1))) (R y) := by
  have hk := query_lt k
  induction n with
  | zero =>
    rw [Gen.st_k0_t7_zero]
    pointwise [Gen.k0_pay43]
    rfl
  | succ n ih =>
    have hj : n < (k0_t7_loop k).trips := by rw [trips7]; omega
    have e := Gen.st_k0_t7_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 v40 k arg17 v75 M A v152 v157 0#32 X12 X15 X16 Gen.k0_pay43 ⟨n, hj⟩
    rw [tripR7] at e
    dsimp only at e
    rw [e, read_pay44, ih (by omega), Finset.sum_range_succ]
    congr 1
    refine Finset.sum_congr rfl fun x _ => ?_
    have hx := x.isLt
    rw [load_cols arg12 X12 _ n (by omega) (off22 k ⟨n, hj⟩).2.2, h12, load_rows arg15 X15 _ n (by omega) (off22 k ⟨n, hj⟩).2.1,
      h15 _ _ (by rw [key_val n (by omega)]; omega), load_max arg16 X16 _ n (by omega) (off22 k ⟨n, hj⟩).1, h16 ⟨n, by omega⟩ _ (show n < k.val + 1 by omega), hM, hR, weights_key _ n (by omega)]
    unfold codeOf
    rw [rescaled _ (fin y) (k.val + 1) n hn]

end Seven

section Tail

variable (k : Fin k0_t4_loop.trips) (arg17 v75 : BitVec 32) (hio : S256x256.Iotas .tc 32 [0])
  (Q8 D : Vec Ideal S1x256x128 .fp8e4m3) (B C E0 E1 : Vec Ideal S1x128 .f32) (m l : FVec Ideal S1x256 .f32)
  (X12 : BufTy.Contents (Elt Ideal) arg12.view.ty) (f15 : BufTy.Contents (Elt Ideal) arg15.view.ty) (f16 : BufTy.Contents (Elt Ideal) arg16.view.ty)
  (L15 : List (View.Piece (Elt Ideal) S4096x256 .f32)) (L16 : List (View.Piece (Elt Ideal) S16x256 .f32))
  (Cq Ck Cv : Fin 4096 → Fin 128 → EReal) (qs ks : ℕ → EReal)
  (hQ : ∀ (y : Fin 256) (d : Fin 128), Q8 (ix3 0 y d) = Cq (key k.val y) d)
  (hD : ∀ (y : Fin 256) (d : Fin 128), D (ix3 0 y d) = Ck (key k.val y) d)
  (hB : ∀ l : Fin 128, B (ix2 0 l) = qs (2 * k.val)) (hC : ∀ l : Fin 128, C (ix2 0 l) = qs (2 * k.val + 1))
  (hE0 : ∀ l : Fin 128, E0 (ix2 0 l) = ks (2 * k.val)) (hE1 : ∀ l : Fin 128, E1 (ix2 0 l) = ks (2 * k.val + 1))
  (h12 : ∀ (d : Fin 128) (r : Fin 4096), arg12.view.read (Elt Ideal) X12 (ix2 d r) = Cv r d)
  (fin : ∀ y j x, masked Cq Ck qs ks k.val y j x ≠ ⊤)
  (hm : ∀ y : Fin 256, m (ix2 0 y) = top (masked Cq Ck qs ks k.val y) k.val)
  (hl : ∀ y : Fin 256, l (ix2 0 y) = total (masked Cq Ck qs ks k.val y) k.val)
  (hL15 : Rows L15 (weights (masked Cq Ck qs ks k.val)) k.val)
  (hL16 : Tops L16 (fun j y => top (masked Cq Ck qs ks k.val y) (j.val + 1)) k.val)

include hQ hD hB hC hE0 hE1 h12 fin hm hl hL15 hL16 in
theorem tail (y : Fin 256) (d : Fin 128) :
    Gen.k0_pay46 v40 (Gen.k0_pay38 (Gen.k0_pay25 B C) m l (Gen.k0_pay30 Q8 D) (Gen.k0_pay31 Q8 D) (Gen.k0_pay32 B C E0) E1) (iota .tc S256x256 32 [0] hio) (Gen.k0_pay39 (Gen.k0_pay25 B C) m l (Gen.k0_pay30 Q8 D) (Gen.k0_pay31 Q8 D) (Gen.k0_pay32 B C E0) E1) 0#32
      (Gen.st_k0_t8 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 v40 k arg17 v75 (Gen.k0_pay34 (Gen.k0_pay25 B C) m (Gen.k0_pay30 Q8 D) (Gen.k0_pay31 Q8 D) (Gen.k0_pay32 B C E0) E1) (Gen.k0_pay38 (Gen.k0_pay25 B C) m l (Gen.k0_pay30 Q8 D) (Gen.k0_pay31 Q8 D) (Gen.k0_pay32 B C E0) E1) (iota .tc S256x256 32 [0] hio) (Gen.k0_pay39 (Gen.k0_pay25 B C) m l (Gen.k0_pay30 Q8 D) (Gen.k0_pay31 Q8 D) (Gen.k0_pay32 B C E0) E1) 0#32 X12 (arg15.view.writes (Elt Ideal) f15 (⟨Rect.unit (s := S4096x256) (k0_off20 k) ![256, 256] (Gen.k0_off20_inb k), Gen.k0_pay36 (Gen.k0_pay25 B C) m (Gen.k0_pay30 Q8 D) (Gen.k0_pay31 Q8 D) (Gen.k0_pay32 B C E0) E1⟩ :: L15)) (arg16.view.writes (Elt Ideal) f16 (⟨Rect.unit (s := S16x256) (k0_off21 k) ![1, 256] (Gen.k0_off21_inb k), Gen.k0_pay37 (Gen.k0_pay25 B C) m (Gen.k0_pay30 Q8 D) (Gen.k0_pay31 Q8 D) (Gen.k0_pay32 B C E0) E1⟩ :: L16))
        (Gen.st_k0_t7 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 v40 k arg17 v75 (Gen.k0_pay34 (Gen.k0_pay25 B C) m (Gen.k0_pay30 Q8 D) (Gen.k0_pay31 Q8 D) (Gen.k0_pay32 B C E0) E1) (Gen.k0_pay38 (Gen.k0_pay25 B C) m l (Gen.k0_pay30 Q8 D) (Gen.k0_pay31 Q8 D) (Gen.k0_pay32 B C E0) E1) (iota .tc S256x256 32 [0] hio) (Gen.k0_pay39 (Gen.k0_pay25 B C) m l (Gen.k0_pay30 Q8 D) (Gen.k0_pay31 Q8 D) (Gen.k0_pay32 B C E0) E1) 0#32 X12 (arg15.view.writes (Elt Ideal) f15 (⟨Rect.unit (s := S4096x256) (k0_off20 k) ![256, 256] (Gen.k0_off20_inb k), Gen.k0_pay36 (Gen.k0_pay25 B C) m (Gen.k0_pay30 Q8 D) (Gen.k0_pay31 Q8 D) (Gen.k0_pay32 B C E0) E1⟩ :: L15)) (arg16.view.writes (Elt Ideal) f16 (⟨Rect.unit (s := S16x256) (k0_off21 k) ![1, 256] (Gen.k0_off21_inb k), Gen.k0_pay37 (Gen.k0_pay25 B C) m (Gen.k0_pay30 Q8 D) (Gen.k0_pay31 Q8 D) (Gen.k0_pay32 B C E0) E1⟩ :: L16)) Gen.k0_pay43 (k0_t7_loop k).trips)
        (k0_t8_loop k).trips) (ix3 0 y d) = answer (masked Cq Ck qs ks k.val y) Cv (v40 (ix2 0 0)) k.val d := by
  have hk := query_lt k
  have hS : ∀ x y : Fin 256, Gen.k0_pay33 (Gen.k0_pay25 B C) (Gen.k0_pay30 Q8 D) (Gen.k0_pay31 Q8 D) (Gen.k0_pay32 B C E0) E1 (ix2 x y) = masked Cq Ck qs ks k.val y k.val x := by
    intro x y
    rw [read_pay33 (fun x => Ck (key k.val x)) (fun y => Cq (key k.val y)) (fun a => qs (2 * k.val + a)) (fun a => ks (2 * k.val + a)) Q8 D B C E0 E1 hQ hD hB hC hE0 hE1]
    unfold masked
    rw [if_pos rfl]
  have hM : ∀ y : Fin 256, (Gen.k0_pay34 (Gen.k0_pay25 B C) m (Gen.k0_pay30 Q8 D) (Gen.k0_pay31 Q8 D) (Gen.k0_pay32 B C E0) E1) (ix2 0 y) = top (masked Cq Ck qs ks k.val y) (k.val + 1) := by
    intro y
    rw [read_pay34, hm, top_succ]
    simp only [hS]
  have hA : ∀ y : Fin 256, (Gen.k0_pay38 (Gen.k0_pay25 B C) m l (Gen.k0_pay30 Q8 D) (Gen.k0_pay31 Q8 D) (Gen.k0_pay32 B C E0) E1) (ix2 0 y) = Ideal.div (Ideal.ofBits FTy.f32 1065353216#32) (total (masked Cq Ck qs ks k.val y) (k.val + 1)) := by
    intro y
    rw [read_pay38, hm, hl, hM, total_succ _ (fin y)]
    simp only [hS]
  have hR : ∀ y : Fin 256, Gen.k0_pay42 (Gen.k0_pay38 (Gen.k0_pay25 B C) m l (Gen.k0_pay30 Q8 D) (Gen.k0_pay31 Q8 D) (Gen.k0_pay32 B C E0) E1) (iota .tc S256x256 32 [0] hio) (Gen.k0_pay39 (Gen.k0_pay25 B C) m l (Gen.k0_pay30 Q8 D) (Gen.k0_pay31 Q8 D) (Gen.k0_pay32 B C E0) E1) 0#32 (ix2 0 y) = Ideal.div (Ideal.ofBits FTy.f32 1065353216#32) (total (masked Cq Ck qs ks k.val y) (k.val + 1)) * kInv (Ideal.div (Ideal.ofBits FTy.f32 1065353216#32) (total (masked Cq Ck qs ks k.val y) (k.val + 1))) := by
    intro y
    rw [read_pay42, hA]
  have r15 := Rows.cons _ _ k.val hk hL15 _ (off18 k).2.2.2.1 (Gen.k0_off20_inb k) (Gen.k0_pay36 (Gen.k0_pay25 B C) m (Gen.k0_pay30 Q8 D) (Gen.k0_pay31 Q8 D) (Gen.k0_pay32 B C E0) E1) (by
    intro x y
    rw [read_pay36, hS, hM, weights_key _ k.val hk])
  have r16 := Tops.cons _ _ k.val hk hL16 _ (off18 k).2.2.2.2 (Gen.k0_off21_inb k) (Gen.k0_pay37 (Gen.k0_pay25 B C) m (Gen.k0_pay30 Q8 D) (Gen.k0_pay31 Q8 D) (Gen.k0_pay32 B C E0) E1) (by
    intro y
    rw [read_pay37, hM])
  rw [read_pay46, hA, trips8, Gen.st_k0_t8_zero, trips7]
  rw [run7 c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 k arg17 v75 _ _ _ _ X12 _ _ (masked Cq Ck qs ks k.val) fin Cv _ h12
    (fun r y hr => Rows.read arg15 _ _ _ r15 f15 r hr y) (fun j y hj => Tops.read arg16 _ _ _ r16 f16 j hj y) hM hR _ le_rfl]
  rfl

end Tail

end Cert.Proof.KernelIdeal
-- ==== Proof.QueryRows.lean ====
/- What a query block leaves in the result, and the sixteen together. -/
module

public import proofs.«01_k».proof.Proof.LastPass

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo
open Cert.Proof.Softmax

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)
  (v40 : FVec Ideal S1x1 .f32)
  (X6 : BufTy.Contents (Elt Ideal) arg6.view.ty) (X8 : BufTy.Contents (Elt Ideal) arg8.view.ty) (X12 : BufTy.Contents (Elt Ideal) arg12.view.ty) (X13 : BufTy.Contents (Elt Ideal) arg13.view.ty) (X14 : BufTy.Contents (Elt Ideal) arg14.view.ty)
  (Cq Ck Cv : Fin 4096 → Fin 128 → EReal) (qs ks : ℕ → EReal)
  (h6 : ∀ r d, blk arg6 X6 r d = Cq r d) (h8 : ∀ r d, blk arg8 X8 r d = Ck r d)
  (h12 : ∀ (d : Fin 128) (r : Fin 4096), arg12.view.read (Elt Ideal) X12 (ix2 d r) = Cv r d)
  (h13 : ∀ (n : Fin 32) (l : Fin 128), arg13.view.read (Elt Ideal) X13 (ix2 n l) = qs n.val)
  (h14 : ∀ (n : Fin 32) (l : Fin 128), arg14.view.read (Elt Ideal) X14 (ix2 n l) = ks n.val)
  (fin : ∀ k y j x, masked Cq Ck qs ks k y j x ≠ ⊤)

set_option maxHeartbeats 4000000 in
include h6 h8 h12 h13 h14 fin in
/-- The rows query block `k` writes. -/
theorem query_rows (k : Fin k0_t4_loop.trips) (f15 : BufTy.Contents (Elt Ideal) arg15.view.ty) (f16 : BufTy.Contents (Elt Ideal) arg16.view.ty) :
    ∃ V : FVec Ideal S1x256x128 .bf16, (query c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 k).1 f15 f16 = [⟨Rect.unit (s := S1x4096x128) (k0_off7 k) S1x256x128.size (Gen.k0_off7_inb k), V⟩] ∧
      ∀ (y : Fin 256) (d : Fin 128), V (ix3 0 y d) = answer (masked Cq Ck qs ks k.val y) Cv (v40 (ix2 0 0)) k.val d := by
  have hk := query_lt k
  unfold query
  dsimp only
  refine ⟨_, rfl, fun y d => ?_⟩
  have hQ : ∀ (y : Fin 256) (d : Fin 128), (View.readAt (Elt Ideal) arg6.view (Rect.unit (s := S1x4096x128) (k0_off7 k) S1x256x128.size (Gen.k0_off7_inb k)).toLoadRect X6) (ix3 0 y d) = Cq (key k.val y) d := fun y d => (load_block arg6 X6 _ k.val hk (off7 k) _ y d).trans (h6 _ _)
  have hD : ∀ (y : Fin 256) (d : Fin 128), (View.readAt (Elt Ideal) arg8.view (Rect.unit (s := S1x4096x128) (k0_off18 k) S1x256x128.size (Gen.k0_off18_inb k)).toLoadRect X8) (ix3 0 y d) = Ck (key k.val y) d := fun y d => (load_block arg8 X8 _ k.val hk (off18 k).1 _ y d).trans (h8 _ _)
  have hB : ∀ l : Fin 128, (View.readAt (Elt Ideal) arg13.view (Rect.unit (s := S32x128) (k0_off8 k) S1x128.size (Gen.k0_off8_inb k)).toLoadRect X13) (ix2 0 l) = qs (2 * k.val) := fun l => (load_lane arg13 X13 _ (2 * k.val) (by omega) (off8 k) _ l).trans (h13 _ _)
  have hC : ∀ l : Fin 128, (View.readAt (Elt Ideal) arg13.view (Rect.unit (s := S32x128) (k0_off9 k) S1x128.size (Gen.k0_off9_inb k)).toLoadRect X13) (ix2 0 l) = qs (2 * k.val + 1) := fun l => (load_lane arg13 X13 _ (2 * k.val + 1) (by omega) (off9 k) _ l).trans (h13 _ _)
  have hE0 : ∀ l : Fin 128, (View.readAt (Elt Ideal) arg14.view (Rect.unit (s := S32x128) (k0_off19 k 0#32) S1x128.size (Gen.k0_off19_inb k 0)).toLoadRect X14) (ix2 0 l) = ks (2 * k.val) := fun l => (load_lane arg14 X14 _ (2 * k.val) (by omega) (off18 k).2.1 _ l).trans (h14 _ _)
  have hE1 : ∀ l : Fin 128, (View.readAt (Elt Ideal) arg14.view (Rect.unit (s := S32x128) (k0_off19 k 1#32) S1x128.size (Gen.k0_off19_inb k 1)).toLoadRect X14) (ix2 0 l) = ks (2 * k.val + 1) := fun l => (load_lane arg14 X14 _ (2 * k.val + 1) (by omega) (off18 k).2.2.1 _ l).trans (h14 _ _)
  have h5 := run5 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 Cq Ck qs ks hQ h8 hB hC h14 (fin k.val) k.val le_rfl
  have t5 : Scf.trips (k0_t5_loop k).lb (k0_t5_loop k).ub (k0_t5_loop k).st = k.val := trips5 k
  have t6 : Scf.trips (k0_t6_loop k).lb (k0_t6_loop k).ub (k0_t6_loop k).st = 0 := trips6 k
  rw [← t5] at h5
  have e6 : (Gen.st_k0_t6 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) (query.sl.v95 k) X8 X14 ((Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.1, (Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.2) (Scf.trips (k0_t6_loop k).lb (k0_t6_loop k).ub (k0_t6_loop k).st)) = ((Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1, ([], [])) := by
    rw [t6]; rfl
  have hm : ∀ y : Fin 256, (Gen.st_k0_t6 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) (query.sl.v95 k) X8 X14 ((Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.1, (Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.2) (Scf.trips (k0_t6_loop k).lb (k0_t6_loop k).ub (k0_t6_loop k).st)).1.1 (ix2 0 y) = top (masked Cq Ck qs ks k.val y) k.val := by
    rw [e6]; rw [t5] at h5 ⊢; exact h5.1
  have hl : ∀ y : Fin 256, (Gen.st_k0_t6 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) (query.sl.v95 k) X8 X14 ((Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.1, (Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.2) (Scf.trips (k0_t6_loop k).lb (k0_t6_loop k).ub (k0_t6_loop k).st)).1.2 (ix2 0 y) = total (masked Cq Ck qs ks k.val y) k.val := by
    rw [e6]; rw [t5] at h5 ⊢; exact h5.2.1
  have hL15 : Rows ((Gen.st_k0_t6 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) (query.sl.v95 k) X8 X14 ((Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.1, (Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.2) (Scf.trips (k0_t6_loop k).lb (k0_t6_loop k).ub (k0_t6_loop k).st)).2.1 ++ (Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).2.1) (weights (masked Cq Ck qs ks k.val)) k.val := by
    rw [e6]; rw [t5] at h5 ⊢; exact h5.2.2.1
  have hL16 : Tops ((Gen.st_k0_t6 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) (query.sl.v95 k) X8 X14 ((Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.1, (Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.2) (Scf.trips (k0_t6_loop k).lb (k0_t6_loop k).ub (k0_t6_loop k).st)).2.2 ++ (Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).2.2) (fun j y => top (masked Cq Ck qs ks k.val y) (j.val + 1)) k.val := by
    rw [e6]; rw [t5] at h5 ⊢; exact h5.2.2.2
  exact tail c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 k (query.sl.arg17 k) (query.sl.v75 k) _ (View.readAt (Elt Ideal) arg6.view (Rect.unit (s := S1x4096x128) (k0_off7 k) S1x256x128.size (Gen.k0_off7_inb k)).toLoadRect X6) (View.readAt (Elt Ideal) arg8.view (Rect.unit (s := S1x4096x128) (k0_off18 k) S1x256x128.size (Gen.k0_off18_inb k)).toLoadRect X8) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) (View.readAt (Elt Ideal) arg14.view (Rect.unit (s := S32x128) (k0_off19 k 0#32) S1x128.size (Gen.k0_off19_inb k 0)).toLoadRect X14) (View.readAt (Elt Ideal) arg14.view (Rect.unit (s := S32x128) (k0_off19 k 1#32) S1x128.size (Gen.k0_off19_inb k 1)).toLoadRect X14) (Gen.st_k0_t6 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) (query.sl.v95 k) X8 X14 ((Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.1, (Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.2) (Scf.trips (k0_t6_loop k).lb (k0_t6_loop k).ub (k0_t6_loop k).st)).1.1 (Gen.st_k0_t6 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) (query.sl.v95 k) X8 X14 ((Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.1, (Gen.st_k0_t5 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k (View.readAt (Elt Ideal) arg6.view (Rect.unit (s := S1x4096x128) (k0_off7 k) S1x256x128.size (Gen.k0_off7_inb k)).toLoadRect X6) (View.readAt (Elt Ideal) arg13.view (Rect.unit (s := S32x128) (k0_off8 k) S1x128.size (Gen.k0_off8_inb k)).toLoadRect X13) (View.readAt (Elt Ideal) arg13.view (Rect.unit (s := S32x128) (k0_off9 k) S1x128.size (Gen.k0_off9_inb k)).toLoadRect X13) X8 X14 (Gen.k0_pay26, Gen.k0_pay27) (Scf.trips (k0_t5_loop k).lb (k0_t5_loop k).ub (k0_t5_loop k).st)).1.2) (Scf.trips (k0_t6_loop k).lb (k0_t6_loop k).ub (k0_t6_loop k).st)).1.2 X12 f15 f16 _ _ Cq Ck Cv qs ks hQ hD hB hC hE0 hE1 h12 (fin k.val) hm hl hL15 hL16 y d

/-- The whole result block. -/
def answers (Cq Ck Cv : Fin 4096 → Fin 128 → EReal) (qs ks : ℕ → EReal) (v : EReal) (r : Fin 4096) (d : Fin 128) : EReal :=
  answer (masked Cq Ck qs ks (r.val / 256) ⟨r.val % 256, Nat.mod_lt _ (by norm_num)⟩) Cv v (r.val / 256) d

theorem answers_key (v : EReal) (k : ℕ) (hk : k < 16) (y : Fin 256) (d : Fin 128) :
    answers Cq Ck Cv qs ks v (key k y) d = answer (masked Cq Ck qs ks k y) Cv v k d := by
  have hy := y.isLt
  unfold answers
  have e1 : (key k y).val / 256 = k := by rw [key_val k hk]; omega
  have e2 : (⟨(key k y).val % 256, Nat.mod_lt _ (by norm_num)⟩ : Fin 256) = y := by
    apply Fin.ext
    show (key k y).val % 256 = y.val
    rw [key_val k hk]; omega
  rw [e1, e2]

theorem outs_cons (L : List (View.Piece (Elt Ideal) S1x4096x128 .bf16)) (G : Fin 4096 → Fin 128 → EReal) (n : ℕ) (hn : n < 16)
    (hL : (∀ p ∈ L, ∀ z : p.1.shape.Idx, p.2 z = (fun w : S1x4096x128.Idx => G (w 1) (w 2)) (p.1.emb z)) ∧ ∀ w : S1x4096x128.Idx, (w 1).val < 256 * n → ∃ p ∈ L, w ∈ p.1.set)
    (o : Fin 3 → ℕ) (ho : o = ![0, 256 * n, 0]) (hb) (V : FVec Ideal S1x256x128 .bf16) (hV : ∀ (y : Fin 256) (d : Fin 128), V (ix3 0 y d) = G (key n y) d) :
    (∀ p ∈ ([⟨Rect.unit (s := S1x4096x128) o S1x256x128.size hb, V⟩] ++ L : List (View.Piece (Elt Ideal) S1x4096x128 .bf16)), ∀ z : p.1.shape.Idx, p.2 z = (fun w : S1x4096x128.Idx => G (w 1) (w 2)) (p.1.emb z)) ∧
      ∀ w : S1x4096x128.Idx, (w 1).val < 256 * (n + 1) → ∃ p ∈ ([⟨Rect.unit (s := S1x4096x128) o S1x256x128.size hb, V⟩] ++ L : List (View.Piece (Elt Ideal) S1x4096x128 .bf16)), w ∈ p.1.set := by
  subst ho
  obtain ⟨i1, i2⟩ := hL
  constructor
  · intro p hp
    rcases List.mem_cons.1 hp with hp | hp
    · subst hp
      intro z
      obtain ⟨y, d, rfl⟩ : ∃ (y : Fin 256) (d : Fin 128), z = ix3 (n0 := 1) 0 y d := by
        refine ⟨z 1, z 2, ?_⟩
        refine (eq_ix3 (n0 := 1) (n1 := 256) (n2 := 128) z).trans ?_
        congr 1
        exact Subsingleton.elim (α := Fin 1) _ _
      refine (hV y d).trans ?_
      have e1 : key n y = (Rect.unit (s := S1x4096x128) ![0, 256 * n, 0] S1x256x128.size hb).emb (ix3 (n0 := 1) 0 y d) 1 := by
        apply Fin.ext
        rw [key_val n (by omega)]
        exact (by simp : 256 * n + y.val = 256 * n + 1 * y.val)
      have e2 : d = (Rect.unit (s := S1x4096x128) ![0, 256 * n, 0] S1x256x128.size hb).emb (ix3 (n0 := 1) 0 y d) 2 := by
        apply Fin.ext
        exact (by simp : d.val = 0 + 1 * d.val)
      exact congrArg₂ G e1 e2
    · exact i1 p hp
  · intro w hw
    by_cases hlt : (w 1).val < 256 * n
    · obtain ⟨p, hp, hm⟩ := i2 w hlt
      exact ⟨p, List.mem_cons.2 (Or.inr hp), hm⟩
    · refine ⟨_, List.mem_cons.2 (Or.inl rfl), ?_⟩
      rw [Rect.mem_set_unit]
      have y0 : (w 0).val < 1 := (w 0).isLt
      have y2 : (w 2).val < 128 := (w 2).isLt
      intro a
      match a with
      | ⟨0, _⟩ => exact ⟨Nat.zero_le _, (by omega : (w 0).val < 0 + 1)⟩
      | ⟨1, _⟩ => exact ⟨not_lt.1 hlt, (by omega : (w 1).val < 256 * n + 256)⟩
      | ⟨2, _⟩ => exact ⟨Nat.zero_le _, (by omega : (w 2).val < 0 + 128)⟩

include h6 h8 h12 h13 h14 fin in
theorem queries_rows (G15 : BufTy.Contents (Elt Ideal) arg15.view.ty) (G16 : BufTy.Contents (Elt Ideal) arg16.view.ty) (n : ℕ) (hn : n ≤ 16) :
    (∀ p ∈ (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 n).1, ∀ z : p.1.shape.Idx, p.2 z = (fun w : S1x4096x128.Idx => answers Cq Ck Cv qs ks (v40 (ix2 0 0)) (w 1) (w 2)) (p.1.emb z)) ∧
    ∀ w : S1x4096x128.Idx, (w 1).val < 256 * n → ∃ p ∈ (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 n).1, w ∈ p.1.set := by
  induction n with
  | zero => exact ⟨fun p hp => absurd hp List.not_mem_nil, fun y hy => absurd hy (by omega)⟩
  | succ n ih =>
    obtain ⟨i1, i2⟩ := ih (by omega)
    have hj : n < k0_t4_loop.trips := by rw [trips4]; omega
    have e := queries_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 ⟨n, hj⟩
    dsimp only at e
    rw [e]
    obtain ⟨V, eV, hV⟩ := query_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 Cq Ck Cv qs ks h6 h8 h12 h13 h14 fin ⟨n, hj⟩ (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 n).2.1 (queries c i arg2 harg2 arg3 harg3 arg4 harg4 arg5 harg5 arg6 harg6 arg7 harg7 arg8 harg8 arg9 harg9 arg10 harg10 arg11 harg11 arg12 harg12 arg13 harg13 arg14 harg14 arg15 harg15 arg16 harg16 v40 X6 X8 X12 X13 X14 G15 G16 n).2.2
    dsimp only
    rw [eV]
    exact outs_cons _ _ n (by omega) ⟨i1, i2⟩ _ (off7 ⟨n, hj⟩) _ V (fun y d => (hV y d).trans (answers_key _ _ _ _ _ _ n (by omega) y d).symm)

end Cert.Proof.KernelIdeal
-- ==== Proof.OutBlock.lean ====
/- The result block that one grid point leaves. -/
module

public import proofs.«01_k».proof.Proof.QueryRows
public import proofs.«01_k».proof.Proof.PointBlocks

@[expose] public section

set_option maxRecDepth 16384

noncomputable section

namespace Cert.Proof.KernelIdeal

open Cert.KernelIdeal
open Idealize.ShloMosaic Idealize.ShloMosaic.TcCoe Idealize.ShloMosaic.Tactic
open Idealize.SL.Sem
open Cert.Proof.Expo
open Cert.Proof.Softmax

/-- Strips of 128 columns, one per step, fill a table of 4096 columns. -/
theorem columns {e : EltTy} (v : Memref sig .tc .vmem S128x4096 e) (G : Fin 4096 → Fin 128 → Elt Ideal e)
    (L : ℕ → List (View.Piece (Elt Ideal) S128x4096 e)) (h0 : L 0 = [])
    (step : ∀ k, k < 32 → ∃ (off : Fin 2 → Nat) (h : _) (V : _), off = ![0, 128 * k] ∧
      L (k + 1) = [⟨Rect.unit (s := S128x4096) off ![128, 128] h, V⟩] ++ L k ∧
      ∀ r l : Fin 128, V (ix2 l r) = G (row k r) l)
    (f : BufTy.Contents (Elt Ideal) v.view.ty) (r : Fin 4096) (l : Fin 128) :
    v.view.read (Elt Ideal) (v.view.writes (Elt Ideal) f (L 32)) (ix2 l r) = G r l := by
  have key : ∀ n, n ≤ 32 → (∀ p ∈ L n, ∀ x : p.1.shape.Idx, p.2 x = (fun y : S128x4096.Idx => G (y 1) (y 0)) (p.1.emb x)) ∧
      ∀ y : S128x4096.Idx, (y 1).val < 128 * n → ∃ p ∈ L n, y ∈ p.1.set := by
    intro n
    induction n with
    | zero => intro _; rw [h0]; exact ⟨fun p hp => absurd hp List.not_mem_nil, fun y hy => absurd hy (by omega)⟩
    | succ k ih =>
      intro hk
      obtain ⟨i1, i2⟩ := ih (by omega)
      obtain ⟨off, h, V, ho, hL, hV⟩ := step k (by omega)
      subst ho
      rw [hL]
      constructor
      · intro p hp
        rcases List.mem_append.1 hp with hp | hp
        · rw [List.mem_singleton] at hp
          subst hp
          intro x
          obtain ⟨r, l, rfl⟩ : ∃ r l : Fin 128, x = ix2 l r := ⟨x 1, x 0, eq_ix2 (n0 := 128) (n1 := 128) x⟩
          refine (hV r l).trans ?_
          have e1 : row k r = (Rect.unit (s := S128x4096) ![0, 128 * k] ![128, 128] h).emb (ix2 l r) 1 := by
            apply Fin.ext
            rw [row_val k (by omega)]
            exact (by simp : 128 * k + r.val = 128 * k + 1 * r.val)
          have e2 : l = (Rect.unit (s := S128x4096) ![0, 128 * k] ![128, 128] h).emb (ix2 l r) 0 := by
            apply Fin.ext
            exact (by simp : l.val = 0 + 1 * l.val)
          exact congrArg₂ G e1 e2
        · exact i1 p hp
      · intro y hy
        by_cases hlt : (y 1).val < 128 * k
        · obtain ⟨p, hp, hm⟩ := i2 y hlt
          exact ⟨p, List.mem_append.2 (Or.inr hp), hm⟩
        · refine ⟨_, List.mem_append.2 (Or.inl (List.mem_singleton.2 rfl)), ?_⟩
          rw [Rect.mem_set_unit]
          have y0 : (y 0).val < 128 := (y 0).isLt
          intro a
          match a with
          | ⟨0, _⟩ => exact ⟨Nat.zero_le _, (by omega : (y 0).val < 0 + 128)⟩
          | ⟨1, _⟩ => exact ⟨not_lt.1 hlt, (by omega : (y 1).val < 128 * k + 128)⟩
  obtain ⟨a, b⟩ := key 32 le_rfl
  exact View.read_writes_apply_of_pieces v.view f (fun y : S128x4096.Idx => G (y 1) (y 0)) (L 32) a (ix2 l r)
    (b _ (by have := r.isLt; exact (by omega : r.val < 128 * 32)))

/-- The scale of a block of v. -/
theorem read_scale (V7 : FVec Ideal S1x128 .f32) :
    Gen.k0_pay61 (F := Ideal) (Gen.k0_pay59 V7) (ix2 0 0) = kFwd (Finset.fold max (Ideal.ofBits FTy.f32 4286578688#32) (fun l : Fin 128 => V7 (ix2 0 l)) Finset.univ) := by
  pointwise [Gen.k0_pay61, Gen.k0_pay59, Gen.k0_pay57, Gen.k0_pay56, Gen.k0_pay55]
  rfl

/-- The result of one head from its queries, keys and values. -/
def attention (x k v : Fin 4096 → Fin 128 → EReal) (r : Fin 4096) (d : Fin 128) : EReal :=
  answers (stripCode x) (stripCode (smooth k)) (blockCode v) (stripScale x) (stripScale (smooth k)) (blockScale v) r d

/-- No score of the head is infinite upwards. -/
def Finite (x k : Fin 4096 → Fin 128 → EReal) : Prop :=
  ∀ n y j z, masked (stripCode x) (stripCode (smooth k)) (stripScale x) (stripScale (smooth k)) n y j z ≠ ⊤

section
variable (𝒱 : Variants) (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- The table of v's codes, transposed. -/
theorem read_vt (a0 a1 : BitVec 32) (V7 : FVec Ideal S1x128 .f32) (v34 : IVec S1x1 32) (X4 : BufTy.Contents (Elt Ideal) arg4.view.ty)
    (f : BufTy.Contents (Elt Ideal) arg12.view.ty) (r : Fin 4096) (l : Fin 128) :
    arg12.view.read (Elt Ideal) (arg12.view.writes (Elt Ideal) f (Gen.pb_k0_t3 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 a0 a1 (Gen.k0_pay58 V7) v34 23#32 X4 32).2) (ix2 l r) =
      codeOf (blk arg4 X4 r l) (kInv (Finset.fold max (Ideal.ofBits FTy.f32 4286578688#32) (fun l : Fin 128 => V7 (ix2 0 l)) Finset.univ)) := by
  refine columns arg12 (fun r l => codeOf (blk arg4 X4 r l) (kInv (Finset.fold max (Ideal.ofBits FTy.f32 4286578688#32) (fun l : Fin 128 => V7 (ix2 0 l)) Finset.univ)))
    (fun n => (Gen.pb_k0_t3 (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 a0 a1 (Gen.k0_pay58 V7) v34 23#32 X4 n).2) rfl ?_ f r l
  intro k hk
  have e := Gen.pb_k0_t3_succ (F := Ideal) 𝒱 c none i arg2 harg2 arg3 harg3 arg4 harg4 arg5 harg5 arg6 harg6 arg7 harg7 arg8 harg8 arg9 harg9 arg10 harg10 arg11 harg11 arg12 harg12 arg13 harg13 arg14 harg14 arg15 harg15 arg16 harg16 a0 a1 (Gen.k0_pay58 V7) v34 23#32 X4 ⟨k, hk⟩
  dsimp only at e ⊢
  rw [e]
  unfold Gen.trip_k0_t3
  dsimp only
  sl_unfold_run_names
  refine ⟨_, _, _, Gen.k0_off5_eq ⟨k, hk⟩, rfl, ?_⟩
  intro r l
  pointwise [Gen.k0_pay64, Gen.k0_pay63, Gen.k0_pay60, Gen.k0_pay62, Gen.k0_pay58, Gen.k0_pay57, Gen.k0_pay56, Gen.k0_pay55]
  simp only [readAt_rows _ _ _ k hk (Gen.k0_off4_eq ⟨k, hk⟩)]
  rfl

end

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

set_option maxHeartbeats 2000000 in
/-- The result block. -/
theorem out_first (hc : first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 4096) (l : Fin 128)
    (fin : Finite (blk arg2 X2) (blk arg3 X3)) :
    arg5.view.read (Elt Ideal) ((pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).1 f5 f6 f7 f8 f9 f10 f11 f12 f13 f14 f15 f16) (ix3 0 r l) = attention (blk arg2 X2) (blk arg3 X3) (blk arg4 X4) r l := by
  unfold pointFirst
  dsimp only
  have h6 : ∀ r d, blk arg6 (arg6.view.writes (Elt Ideal) f6 (Gen.st_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Gen.st_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16) X2 X3 X4 Gen.k0_pay50 32).2.1) r d = stripCode (blk arg2 X2) r d :=
    fun r d => read_qc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f6 r d
  have h8 : ∀ r d, blk arg8 (arg8.view.writes (Elt Ideal) f8 (Gen.st_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Gen.st_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16) X2 X3 X4 Gen.k0_pay50 32).2.2.1) r d = stripCode (smooth (blk arg3 X3)) r d := fun r d => by
    refine (read_kc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f8 r d).trans ?_
    rw [← centred_sum 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 X3]
  have h13 : ∀ (n : Fin 32) (l : Fin 128), arg13.view.read (Elt Ideal) (arg13.view.writes (Elt Ideal) f13 (Gen.st_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Gen.st_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16) X2 X3 X4 Gen.k0_pay50 32).2.2.2.1) (ix2 n l) = stripScale (blk arg2 X2) n.val :=
    fun n l => read_qs 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f13 n l
  have h14 : ∀ (n : Fin 32) (l : Fin 128), arg14.view.read (Elt Ideal) (arg14.view.writes (Elt Ideal) f14 (Gen.st_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Gen.st_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16) X2 X3 X4 Gen.k0_pay50 32).2.2.2.2) (ix2 n l) = stripScale (smooth (blk arg3 X3)) n.val := fun n l => by
    refine (read_ks 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f14 n l).trans ?_
    rw [← centred_sum 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 X3]
  have h12 : ∀ (d : Fin 128) (r : Fin 4096), arg12.view.read (Elt Ideal) (arg12.view.writes (Elt Ideal) f12 (Gen.pb_k0_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (pointFirst.sl.r c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4) (pointFirst.sl.r_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4) 23#32 X4 32).2) (ix2 d r) = blockCode (blk arg4 X4) r d := fun d r => by
    sl_unfold_run_names
    refine (read_vt 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ X4 f12 r d).trans ?_
    unfold blockCode
    rw [← vmax_all 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4]
    rfl
  have hv : (pointFirst.sl.r_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4) (ix2 0 0) = blockScale (blk arg4 X4) := by
    sl_unfold_run_names
    unfold blockScale
    rw [← vmax_all 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4]
    exact read_scale _
  have hq := queries_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 (pointFirst.sl.r_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4) _ _ _ _ _ _ _ _ _ _ h6 h8 h12 h13 h14 fin f15 f16 16 le_rfl
  rw [hv] at hq
  exact View.read_writes_apply_of_pieces arg5.view f5 (fun w : S1x4096x128.Idx => answers (stripCode (blk arg2 X2)) (stripCode (smooth (blk arg3 X3))) (blockCode (blk arg4 X4)) (stripScale (blk arg2 X2)) (stripScale (smooth (blk arg3 X3))) (blockScale (blk arg4 X4)) (w 1) (w 2)) _ hq.1 (ix3 0 r l) (hq.2 _ (by have := r.isLt; exact (by omega : r.val < 256 * 16)))

set_option maxHeartbeats 2000000 in
/-- The result block. -/
theorem out_rest (hc : ¬ first i) (X2 : BufTy.Contents (Elt Ideal) arg2.view.ty) (X3 : BufTy.Contents (Elt Ideal) arg3.view.ty) (X4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (r : Fin 4096) (l : Fin 128)
    (fin : Finite (blk arg2 X2) (blk arg3 X3)) :
    arg5.view.read (Elt Ideal) ((pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4).1 f5 f6 f7 f8 f9 f10 f11 f12 f13 f14 f15 f16) (ix3 0 r l) = attention (blk arg2 X2) (blk arg3 X3) (blk arg4 X4) r l := by
  unfold pointRest
  dsimp only
  have h6 : ∀ r d, blk arg6 (arg6.view.writes (Elt Ideal) f6 (Gen.st_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Gen.st_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16) X2 X3 X4 Gen.k0_pay50 32).2.1) r d = stripCode (blk arg2 X2) r d :=
    fun r d => read_qc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f6 r d
  have h8 : ∀ r d, blk arg8 (arg8.view.writes (Elt Ideal) f8 (Gen.st_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Gen.st_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16) X2 X3 X4 Gen.k0_pay50 32).2.2.1) r d = stripCode (smooth (blk arg3 X3)) r d := fun r d => by
    refine (read_kc 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f8 r d).trans ?_
    rw [← centred_sum 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 X3]
  have h13 : ∀ (n : Fin 32) (l : Fin 128), arg13.view.read (Elt Ideal) (arg13.view.writes (Elt Ideal) f13 (Gen.st_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Gen.st_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16) X2 X3 X4 Gen.k0_pay50 32).2.2.2.1) (ix2 n l) = stripScale (blk arg2 X2) n.val :=
    fun n l => read_qs 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f13 n l
  have h14 : ∀ (n : Fin 32) (l : Fin 128), arg14.view.read (Elt Ideal) (arg14.view.writes (Elt Ideal) f14 (Gen.st_k0_t2 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Gen.st_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 X3 Gen.k0_pay47 16) X2 X3 X4 Gen.k0_pay50 32).2.2.2.2) (ix2 n l) = stripScale (smooth (blk arg3 X3)) n.val := fun n l => by
    refine (read_ks 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4 f14 n l).trans ?_
    rw [← centred_sum 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 X3]
  have h12 : ∀ (d : Fin 128) (r : Fin 4096), arg12.view.read (Elt Ideal) (arg12.view.writes (Elt Ideal) f12 (Gen.pb_k0_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (pointRest.sl.r c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4) (pointRest.sl.r_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4) 23#32 X4 32).2) (ix2 d r) = blockCode (blk arg4 X4) r d := fun d r => by
    sl_unfold_run_names
    refine (read_vt 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ X4 f12 r d).trans ?_
    unfold blockCode
    rw [← vmax_all 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4]
    rfl
  have hv : (pointRest.sl.r_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4) (ix2 0 0) = blockScale (blk arg4 X4) := by
    sl_unfold_run_names
    unfold blockScale
    rw [← vmax_all 𝒱₀ c i arg2 harg2 arg3 harg3 arg4 harg4 arg5 harg5 arg6 harg6 arg7 harg7 arg8 harg8 arg9 harg9 arg10 harg10 arg11 harg11 arg12 harg12 arg13 harg13 arg14 harg14 arg15 harg15 arg16 harg16 _ X2 X3 X4]
    exact read_scale _
  have hq := queries_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 (pointRest.sl.r_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4) _ _ _ _ _ _ _ _ _ _ h6 h8 h12 h13 h14 fin f15 f16 16 le_rfl
  rw [hv] at hq
  exact View.read_writes_apply_of_pieces arg5.view f5 (fun w : S1x4096x128.Idx => answers (stripCode (blk arg2 X2)) (stripCode (smooth (blk arg3 X3))) (blockCode (blk arg4 X4)) (stripScale (blk arg2 X2)) (stripScale (smooth (blk arg3 X3))) (blockScale (blk arg4 X4)) (w 1) (w 2)) _ hq.1 (ix3 0 r l) (hq.2 _ (by have := r.isLt; exact (by omega : r.val < 256 * 16)))

end Cert.Proof.KernelIdeal
-- ==== Proof.Attention.lean ====
/- Attention with one softmax over all the keys is attention taken block by block, on real codes and scales. -/
module

public import proofs.«01_k».proof.Proof.OutBlock
public import proofs.«01_k».proof.Proof.Bounded

@[expose] public section

set_option maxRecDepth 16384

noncomputable section

namespace Cert.Proof.Attention

open Idealize.ShloMosaic
open Cert.Proof.Expo Cert.Proof.Softmax
open Cert.Proof.KernelIdeal (key key_val masked answers answer scoreOf smk)

/-- Sums over the keys, block by block: the blocks after the query's contribute nothing. -/
theorem sum_blocks {β : Type} [AddCommMonoid β] (f : Fin 4096 → β) (n : ℕ) (hn : n < 16) (h : ∀ k : Fin 4096, n < k.val / 256 → f k = 0) :
    ∑ k, f k = ∑ j ∈ Finset.range (n + 1), ∑ x : Fin 256, f (key j x) := by
  have h1 : ∑ k, f k = ∑ p : Fin 16 × Fin 256, f (key p.1.val p.2) := by
    refine (Finset.sum_bij' (fun (p : Fin 16 × Fin 256) _ => key p.1.val p.2)
      (fun (k : Fin 4096) _ => ((⟨k.val / 256, by have := k.isLt; omega⟩, ⟨k.val % 256, Nat.mod_lt _ (by norm_num)⟩) : Fin 16 × Fin 256))
      (fun _ _ => Finset.mem_univ _) (fun _ _ => Finset.mem_univ _) ?_ ?_ (fun _ _ => rfl)).symm
    · rintro ⟨j, x⟩ _
      have e := key_val j.val j.isLt x
      have hx := x.isLt
      refine Prod.ext (Fin.ext ?_) (Fin.ext ?_)
      · show (key j.val x).val / 256 = j.val
        omega
      · show (key j.val x).val % 256 = x.val
        omega
    · intro k _
      have hk := k.isLt
      refine Fin.ext ?_
      refine (key_val (k.val / 256) (by omega) ⟨k.val % 256, Nat.mod_lt _ (by norm_num)⟩).trans ?_
      show 256 * (k.val / 256) + k.val % 256 = k.val
      omega
  rw [h1, Fintype.sum_prod_type, Fin.sum_univ_eq_sum_range (fun j => ∑ x : Fin 256, f (key j x)) 16]
  refine (Finset.sum_subset (Finset.range_subset_range.2 (by omega)) fun j hj hj' => ?_).symm
  refine Finset.sum_eq_zero fun x _ => h _ ?_
  have hx := x.isLt
  have h16 := Finset.mem_range.1 hj
  have hjn : ¬ j < n + 1 := fun hlt => hj' (Finset.mem_range.2 hlt)
  rw [key_val j h16]
  omega

/-- The constant of the kernel's scores. -/
theorem smk_eq : smk = (((Real.sqrt 128)⁻¹ * (Real.log 2)⁻¹ : ℝ) : EReal) := rfl

theorem ofBits_one : Ideal.ofBits FTy.f32 1065353216#32 = ((1 : ℝ) : EReal) := by
  simp [Ideal.ofBits, Ideal.ieee, -EReal.coe_mul]
  norm_num

theorem ofBits_128 : Ideal.ofBits FTy.f32 1124073472#32 = ((128 : ℝ) : EReal) := by
  simp [Ideal.ofBits, Ideal.ieee, -EReal.coe_mul]
  norm_num

theorem sqrt_128 : Ideal.sqrt (Ideal.ofBits FTy.f32 1124073472#32) = ((Real.sqrt 128 : ℝ) : EReal) := by
  rw [ofBits_128, Ideal.sqrt_coe, if_neg (by norm_num)]

/-- Nothing has the code nothing. -/
theorem codeOf_zero (w : EReal) : codeOf 0 w = 0 := by
  unfold codeOf
  rw [zero_mul]
  have h1 : Ideal.ofBits FTy.f32 1138753536#32 = ((448 : ℝ) : EReal) := by
    simp [Ideal.ofBits, Ideal.ieee, -EReal.coe_mul]
    norm_num
  have h2 : Ideal.ofBits FTy.f32 3286237184#32 = ((-448 : ℝ) : EReal) := by
    simp [Ideal.ofBits, Ideal.ieee, -EReal.coe_mul]
    norm_num
  rw [h1, h2, max_eq_right (by exact_mod_cast (by norm_num : (-448 : ℝ) ≤ 0)), min_eq_right (by exact_mod_cast (by norm_num : (0 : ℝ) ≤ 448))]

/-- A real power of two of a quotient by the logarithm of two is an exponential. -/
theorem exp2_log (z : ℝ) : Ideal.exp2 ((z / Real.log 2 : ℝ) : EReal) = ((Real.exp z : ℝ) : EReal) := by
  have hl : Real.log 2 ≠ 0 := (Real.log_pos (by norm_num)).ne'
  rw [Ideal.exp2_coe]
  refine congrArg _ ?_
  show (2 : ℝ) ^ (z / Real.log 2) = Real.exp z
  rw [Real.rpow_def_of_pos (by norm_num)]
  congr 1
  field_simp

/-- A score of the reference. -/
def score (Cq Ck : Fin 4096 → Fin 128 → EReal) (qs ks : ℕ → EReal) (q k : Fin 4096) : EReal :=
  (∑ d, Cq q d * Ck k d) * Ideal.div (qs (q.val / 128)) (Ideal.sqrt (Ideal.ofBits FTy.f32 1124073472#32)) * ks (k.val / 128)

variable (Cq Ck : Fin 4096 → Fin 128 → EReal) (qs ks : ℕ → EReal)
  (hCq : ∀ r d, ∃ a : ℝ, Cq r d = (a : EReal)) (hCk : ∀ r d, ∃ a : ℝ, Ck r d = (a : EReal))
  (hqs : ∀ n, ∃ a : ℝ, qs n = (a : EReal)) (hks : ∀ n, ∃ a : ℝ, ks n = (a : EReal))

include hCq hCk hqs hks in
/-- The scores are real, the kernel's those of the reference over the logarithm of two. -/
theorem scores_real (q k : Fin 4096) : ∃ t : ℝ, score Cq Ck qs ks q k = (t : EReal)
    ∧ scoreOf (Ck k) (Cq q) (qs (q.val / 128)) (ks (k.val / 128)) = ((t / Real.log 2 : ℝ) : EReal) := by
  choose f hf using hCq q
  choose g hg using hCk k
  obtain ⟨s, hs⟩ := hqs (q.val / 128)
  obtain ⟨u, hu⟩ := hks (k.val / 128)
  have h128 : Real.sqrt 128 ≠ 0 := (Real.sqrt_pos.2 (by norm_num)).ne'
  have e1 : (∑ d, Cq q d * Ck k d) = ((∑ d, f d * g d : ℝ) : EReal) := by
    rw [← Bounded.sum_real]
    exact Finset.sum_congr rfl fun d _ => by rw [hf, hg, EReal.coe_mul]
  have e2 : (∑ d, Ck k d * Cq q d) = ((∑ d, f d * g d : ℝ) : EReal) := by
    rw [← e1]
    exact Finset.sum_congr rfl fun d _ => mul_comm _ _
  refine ⟨(∑ d, f d * g d) * (s * (1 / Real.sqrt 128)) * u, ?_, ?_⟩
  · unfold score
    rw [e1, hs, hu, sqrt_128, Ideal.div_coe h128, ← EReal.coe_mul, ← EReal.coe_mul, ← EReal.coe_mul]
  · unfold scoreOf
    rw [e2, hs, hu, smk_eq, ← EReal.coe_mul, ← EReal.coe_mul, ← EReal.coe_mul]
    refine congrArg _ ?_
    rw [div_eq_mul_inv, one_div]
    ring

/-- A block's scores at a key, by the key. -/
theorem masked_key (q : Fin 4096) (j : ℕ) (hj : j ≤ q.val / 256) (x : Fin 256) :
    masked Cq Ck qs ks (q.val / 256) ⟨q.val % 256, Nat.mod_lt _ (by norm_num)⟩ j x
      = if (key j x).val ≤ q.val then scoreOf (Ck (key j x)) (Cq q) (qs (q.val / 128)) (ks ((key j x).val / 128)) else ⊥ := by
  have hq := q.isLt
  have hx := x.isLt
  have ek := key_val j (by omega) x
  have e1 : key (q.val / 256) (⟨q.val % 256, Nat.mod_lt _ (by norm_num)⟩ : Fin 256) = q := by
    refine Fin.ext ?_
    refine (key_val (q.val / 256) (by omega) ⟨q.val % 256, Nat.mod_lt _ (by norm_num)⟩).trans ?_
    show 256 * (q.val / 256) + q.val % 256 = q.val
    omega
  have e2 : 2 * (q.val / 256) + q.val % 256 / 128 = q.val / 128 := by omega
  have e3 : 2 * j + x.val / 128 = (key j x).val / 128 := by rw [ek]; omega
  unfold masked
  rw [e1]
  dsimp only
  rw [e2, e3]
  by_cases h : j = q.val / 256
  · rw [if_pos h]
    by_cases hxq : x ≤ (⟨q.val % 256, Nat.mod_lt _ (by norm_num)⟩ : Fin 256)
    · have : x.val ≤ q.val % 256 := hxq
      rw [if_pos hxq, if_pos (by omega)]
    · have : ¬ x.val ≤ q.val % 256 := hxq
      rw [if_neg hxq, if_neg (by omega)]
  · rw [if_neg h, if_pos (by omega)]

include hCq hCk hqs hks in
/-- No score is infinite upwards. -/
theorem masked_ne (n : ℕ) (y : Fin 256) (j : ℕ) (x : Fin 256) : masked Cq Ck qs ks n y j x ≠ ⊤ := by
  have real : ∀ q k a b, scoreOf (Ck k) (Cq q) (qs a) (ks b) ≠ ⊤ := by
    intro q k a b
    choose f hf using hCq q
    choose g hg using hCk k
    obtain ⟨s, hs⟩ := hqs a
    obtain ⟨u, hu⟩ := hks b
    have e2 : (∑ d, Ck k d * Cq q d) = ((∑ d, g d * f d : ℝ) : EReal) := by
      rw [← Bounded.sum_real]
      exact Finset.sum_congr rfl fun d _ => by rw [hf, hg, EReal.coe_mul]
    unfold scoreOf
    rw [e2, hs, hu, smk_eq, ← EReal.coe_mul, ← EReal.coe_mul, ← EReal.coe_mul]
    exact EReal.coe_ne_top _
  unfold masked
  split
  · split
    · exact real _ _ _ _
    · exact bot_ne_top
  · exact real _ _ _ _

include hCq hCk hqs hks in
/-- The block by block attention of a query, by one softmax over all the keys. -/
theorem answers_eq (Cv : Fin 4096 → Fin 128 → EReal) (v : EReal) (S E : Fin 4096 → EReal) (L : EReal) (q : Fin 4096) (d : Fin 128)
    (hS : ∀ k, S k = if k.val ≤ q.val then score Cq Ck qs ks q k else ⊥)
    (hE : ∀ k, E k = Ideal.exp (S k - Finset.univ.sup S)) (hL : L = ∑ k, E k) :
    answers Cq Ck Cv qs ks v q d
      = (∑ k, codeOf (Ideal.div (E k) L) (invOf (Ideal.div (Ideal.ofBits FTy.f32 1065353216#32) L)) * Cv k d)
        * scaleOf (Ideal.div (Ideal.ofBits FTy.f32 1065353216#32) L) * v := by
  have hq := q.isLt
  choose t ht ht' using scores_real Cq Ck qs ks hCq hCk hqs hks q
  -- the greatest score
  obtain ⟨k₀, hk₀, hmax⟩ := Finset.exists_max_image (Finset.univ.filter fun k : Fin 4096 => k.val ≤ q.val) t
    ⟨q, Finset.mem_filter.2 ⟨Finset.mem_univ _, le_refl _⟩⟩
  have hk₀ : k₀.val ≤ q.val := (Finset.mem_filter.1 hk₀).2
  have hmax : ∀ k : Fin 4096, k.val ≤ q.val → t k ≤ t k₀ := fun k hk => hmax k (Finset.mem_filter.2 ⟨Finset.mem_univ _, hk⟩)
  have hl2 : 0 < Real.log 2 := Real.log_pos (by norm_num)
  have hsup : Finset.univ.sup S = (t k₀ : EReal) := by
    apply le_antisymm
    · refine Finset.sup_le fun k _ => ?_
      rw [hS]
      split
      · rename_i h
        rw [ht]
        exact_mod_cast hmax k h
      · exact bot_le
    · have := Finset.le_sup (f := S) (Finset.mem_univ k₀)
      rwa [hS, if_pos hk₀, ht] at this
  generalize hsc : masked Cq Ck qs ks (q.val / 256) ⟨q.val % 256, Nat.mod_lt _ (by norm_num)⟩ = sc
  have hkey : ∀ j, j ≤ q.val / 256 → ∀ x, sc j x = if (key j x).val ≤ q.val then ((t (key j x) / Real.log 2 : ℝ) : EReal) else ⊥ := by
    intro j hj x
    rw [← hsc, masked_key Cq Ck qs ks q j hj x, ht']
  have htop : top sc (q.val / 256 + 1) = ((t k₀ / Real.log 2 : ℝ) : EReal) := by
    apply le_antisymm
    · unfold top
      refine Finset.sup_le fun j hj => Finset.sup_le fun x _ => ?_
      rw [hkey j (Nat.lt_succ_iff.1 (Finset.mem_range.1 hj))]
      split
      · rename_i h
        exact_mod_cast div_le_div_of_nonneg_right (hmax _ h) hl2.le
      · exact bot_le
    · have h1 := le_top sc (q.val / 256 + 1) (k₀.val / 256) (by omega) ⟨k₀.val % 256, Nat.mod_lt _ (by norm_num)⟩
      have e : key (k₀.val / 256) (⟨k₀.val % 256, Nat.mod_lt _ (by norm_num)⟩ : Fin 256) = k₀ := by
        refine Fin.ext ?_
        refine (key_val (k₀.val / 256) (by omega) ⟨k₀.val % 256, Nat.mod_lt _ (by norm_num)⟩).trans ?_
        show 256 * (k₀.val / 256) + k₀.val % 256 = k₀.val
        omega
      rwa [hkey _ (by omega), e, if_pos hk₀] at h1
  -- the exponentials
  have hEr : ∀ k, E k = ((if k.val ≤ q.val then Real.exp (t k - t k₀) else 0 : ℝ) : EReal) := by
    intro k
    rw [hE, hsup, hS]
    split
    · rw [ht, ← EReal.coe_sub, Ideal.exp_coe]
    · rw [EReal.bot_sub, Ideal.exp_bot, EReal.coe_zero]
  have hEk : ∀ j, j ≤ q.val / 256 → ∀ x, Ideal.exp2 (sc j x - top sc (q.val / 256 + 1)) = E (key j x) := by
    intro j hj x
    rw [hEr, hkey j hj, htop]
    split
    · rw [← EReal.coe_sub, ← sub_div, exp2_log]
    · rw [EReal.bot_sub, Ideal.exp2_bot, EReal.coe_zero]
  have hE0 : ∀ k : Fin 4096, q.val / 256 < k.val / 256 → E k = 0 := by
    intro k hk
    rw [hEr, if_neg (by omega), EReal.coe_zero]
  -- their sum
  have hLt : total sc (q.val / 256 + 1) = L := by
    rw [hL, sum_blocks E (q.val / 256) (by omega) hE0]
    unfold total
    exact Finset.sum_congr rfl fun j hj => Finset.sum_congr rfl fun x _ => hEk j (Nat.lt_succ_iff.1 (Finset.mem_range.1 hj)) x
  obtain ⟨l, hl, hl1⟩ : ∃ l : ℝ, L = (l : EReal) ∧ 1 ≤ l := by
    refine ⟨∑ k : Fin 4096, if k.val ≤ q.val then Real.exp (t k - t k₀) else 0, ?_, ?_⟩
    · rw [hL, ← Bounded.sum_real]
      exact Finset.sum_congr rfl fun k _ => hEr k
    · have h1 := Finset.single_le_sum (f := fun k : Fin 4096 => if k.val ≤ q.val then Real.exp (t k - t k₀) else 0)
        (fun k _ => by split <;> positivity) (Finset.mem_univ k₀)
      rw [if_pos hk₀, sub_self, Real.exp_zero] at h1
      exact h1
  have hl0 : l ≠ 0 := by linarith
  have hA : Ideal.div (Ideal.ofBits FTy.f32 1065353216#32) L = ((1 / l : ℝ) : EReal) := by
    rw [hl, Ideal.div_coe hl0, ofBits_one, EReal.coe_one, one_mul]
  obtain ⟨hw1, hw2⟩ := words_eq (Ideal.div (Ideal.ofBits FTy.f32 1065353216#32) L) (1 / l) hA (by positivity)
    ((div_le_one (by linarith)).2 hl1 |>.trans (by norm_num))
  have hcode : ∀ k w, codeOf (E k) (Ideal.div (Ideal.ofBits FTy.f32 1065353216#32) L * w) = codeOf (Ideal.div (E k) L) w := by
    intro k w
    unfold codeOf
    rw [hA, hl, Ideal.div_coe hl0, mul_assoc]
  unfold answers answer
  rw [hsc, hLt, hw1, hw2]
  refine congrArg (fun z => z * scaleOf (Ideal.div (Ideal.ofBits FTy.f32 1065353216#32) L) * v) ?_
  rw [sum_blocks (fun k => codeOf (Ideal.div (E k) L) (invOf (Ideal.div (Ideal.ofBits FTy.f32 1065353216#32) L)) * Cv k d) (q.val / 256) (by omega) ?_]
  · refine Finset.sum_congr rfl fun j hj => Finset.sum_congr rfl fun x _ => ?_
    rw [hEk j (Nat.lt_succ_iff.1 (Finset.mem_range.1 hj)) x, hcode, mul_comm]
  · intro k hk
    rw [← hcode, hE0 k hk, codeOf_zero, zero_mul]

end Cert.Proof.Attention

end
-- ==== Proof.RefResult.lean ====
/- The reference program's result as an array: every element is the attention that the kernel's result is stated in. -/
module

public import proofs.«01_k».proof.Proof.RefAttention
public import proofs.«01_k».proof.Proof.RefArrays
public import proofs.«01_k».proof.Proof.Attention

@[expose] public section

set_option maxRecDepth 16384

noncomputable section

namespace Cert.Proof.Attention

open Idealize.ShloMosaic
open Cert.Proof.Expo
open Cert.Proof.KernelIdeal (tile row stripCode stripScale smooth Finite)

/-- A code is real. -/
theorem code_real (x w : EReal) : ∃ a : ℝ, codeOf x w = (a : EReal) := by
  have h1 : Ideal.ofBits FTy.f32 1138753536#32 = ((448 : ℝ) : EReal) := by
    simp [Ideal.ofBits, Ideal.ieee, -EReal.coe_mul]
    norm_num
  have h2 : Ideal.ofBits FTy.f32 3286237184#32 = ((-448 : ℝ) : EReal) := by
    simp [Ideal.ofBits, Ideal.ieee, -EReal.coe_mul]
    norm_num
  have hi : codeOf x w ≤ ((448 : ℝ) : EReal) := by
    unfold codeOf
    rw [h1]
    exact min_le_left _ _
  have lo : ((-448 : ℝ) : EReal) ≤ codeOf x w := by
    unfold codeOf
    rw [h1, h2]
    exact le_min (by exact_mod_cast (by norm_num : (-448 : ℝ) ≤ 448)) (le_max_left _ _)
  exact ⟨(codeOf x w).toReal, (EReal.coe_toReal (ne_top_of_le_ne_top (EReal.coe_ne_top _) hi) (ne_bot_of_le_ne_bot (EReal.coe_ne_bot _) lo)).symm⟩

/-- The scale of a bounded tile is real. -/
theorem scale_real {ι : Type} [Fintype ι] [Nonempty ι] (T : ι → EReal) (h : ∀ i, max (T i) (-(T i)) ≤ (((2 : ℝ) ^ (130 : ℤ) : ℝ) : EReal)) :
    ∃ a : ℝ, kFwd (amax T) = (a : EReal) := by
  rw [(tile_words T h).2]
  obtain ⟨a, e, a0, a1⟩ := amax_real T _ h
  obtain ⟨c, hc, c0, c1⟩ := c448_eq
  unfold scaleOf
  rw [e, hc, ← EReal.coe_mul, expo_eq _ (mul_nonneg a0 c0.le), Expo.pow_two]
  exact ⟨_, rfl⟩

variable (P : Fin 4096 → Fin 128 → EReal) (hP : ∀ r l, max (P r l) (-(P r l)) ≤ (((2 : ℝ) ^ (130 : ℤ) : ℝ) : EReal))

theorem stripCode_real (r : Fin 4096) (l : Fin 128) : ∃ a : ℝ, stripCode P r l = (a : EReal) := code_real _ _

include hP in
theorem stripScale_real (n : ℕ) : ∃ a : ℝ, stripScale P n = (a : EReal) := scale_real (tile P n) fun p => hP _ _

/-- No score of a bounded head is infinite upwards. -/
theorem finite (x k : Fin 4096 → Fin 128 → EReal) (hx : ∀ r l, max (x r l) (-(x r l)) ≤ (((2 : ℝ) ^ (130 : ℤ) : ℝ) : EReal))
    (hk : ∀ r l, max (smooth k r l) (-(smooth k r l)) ≤ (((2 : ℝ) ^ (130 : ℤ) : ℝ) : EReal)) : Finite x k := fun n y j z =>
  masked_ne _ _ _ _ (stripCode_real x) (stripCode_real (smooth k)) (stripScale_real x hx) (stripScale_real (smooth k) hk) n y j z

end Cert.Proof.Attention

namespace Cert.Proof.ReferenceIdeal

open Cert.ReferenceIdeal Cert.ReferenceIdeal.Gen Cert.ReferenceIdeal.Value
open Idealize.ShloMosaic Idealize.ShloMosaic.TcCoe Idealize.SL.Sem Idealize.ShloMosaic.StableHlo
open Cert.Proof.Expo
open Cert.Proof.KernelIdeal (part spread spread_apply tile row row_of stripCode stripScale blockCode blockScale whole smooth attention)

section Strips

variable (T : FVec Ideal S8x32x128x16x128 .f32) (P : Fin 8 → Fin 16 → Fin 4096 → Fin 128 → EReal)
  (hT : ∀ a b r h l, T (ix5 a b r h l) = P a h (row b.val r) l)
  (hP : ∀ a h r l, max (P a h r l) (-(P a h r l)) ≤ (((2 : ℝ) ^ (130 : ℤ) : ℝ) : EReal))

include hT hP in
theorem code5_at (a : Fin 8) (q : Fin 4096) (h : Fin 16) (l : Fin 128) (h1 : q.val / 128 < 32) (h2 : q.val % 128 < 128) :
    codes5 T (pow5 (Host.negf (exp5 (top5 T)))) (ix5 a ⟨q.val / 128, h1⟩ ⟨q.val % 128, h2⟩ h l) = stripCode (P a h) q l := by
  rw [codes5_eq, pow5_eq, neg5_eq, exp5_eq, top5_eq, tile_eq T P hT, hT]
  unfold stripCode
  rw [(tile_words (tile (P a h) (q.val / 128)) fun p => hP a h _ _).1]
  unfold invOf
  exact congrArg (fun r => codeOf (P a h r l) _) (row_of q)

include hT hP in
theorem scale5_at (a : Fin 8) (n : Fin 32) (h : Fin 16) : pow5 (exp5 (top5 T)) (ix5 a n 0 h 0) = stripScale (P a h) n.val := by
  rw [pow5_eq, exp5_eq, top5_eq, tile_eq T P hT]
  unfold stripScale
  rw [(tile_words (tile (P a h) n.val) fun p => hP a h _ _).2]
  rfl

end Strips

section Blocks

variable (T : FVec Ideal S8x4096x16x128 .f32) (P : Fin 8 → Fin 16 → Fin 4096 → Fin 128 → EReal)
  (hT : ∀ a s h l, T (ix4 a s h l) = P a h s l)
  (hP : ∀ a h r l, max (P a h r l) (-(P a h r l)) ≤ (((2 : ℝ) ^ (130 : ℤ) : ℝ) : EReal))

include hT hP in
theorem code4_at (a : Fin 8) (s : Fin 4096) (h : Fin 16) (l : Fin 128) :
    codes4 T (pow4 (Host.negf (exp4 (top4 T)))) (ix4 a s h l) = blockCode (P a h) s l := by
  rw [codes4_eq, pow4_eq, neg4_eq, exp4_eq, top4_eq, whole_eq T P hT, hT]
  unfold blockCode
  rw [(tile_words (whole (P a h)) fun p => hP a h _ _).1]
  rfl

include hT hP in
theorem scale4_at (a : Fin 8) (h : Fin 16) : pow4 (exp4 (top4 T)) (ix4 a 0 h 0) = blockScale (P a h) := by
  rw [pow4_eq, exp4_eq, top4_eq, whole_eq T P hT]
  unfold blockScale
  rw [(tile_words (whole (P a h)) fun p => hP a h _ _).2]
  rfl

end Blocks

/-- The exponentials, their sums' scales' exponents, and the result, from the scores. -/
def expsR (S : FVec Ideal S8x16x4096x4096 .f32) : FVec Ideal S8x16x4096x4096 .f32 := expsOf S (maxOf S)
def expR (E : FVec Ideal S8x16x4096x4096 .f32) : FVec Ideal S8x16x4096x1 .f32 := expOf (invsOf (sumsOf E))
def resultR (E : FVec Ideal S8x16x4096x4096 .f32) (Cv : FVec Ideal S8x4096x16x128 .f32) (Sv : FVec Ideal S8x1x16x1 .f32) : FVec Ideal S8x4096x2048 .bf16 :=
  resultOf (mixOf (probsOf E (sumsOf E) (expR E)) Cv) (expR E) Sv

variable (Tq Tk : FVec Ideal S8x32x128x16x128 .f32) (Tv : FVec Ideal S8x4096x16x128 .f32)
  (P K V : Fin 8 → Fin 16 → Fin 4096 → Fin 128 → EReal)
  (hq : ∀ a b r h l, Tq (ix5 a b r h l) = P a h (row b.val r) l)
  (hk : ∀ a b r h l, Tk (ix5 a b r h l) = smooth (K a h) (row b.val r) l)
  (hv : ∀ a s h l, Tv (ix4 a s h l) = V a h s l)
  (bq : ∀ a h r l, max (P a h r l) (-(P a h r l)) ≤ (((2 : ℝ) ^ (130 : ℤ) : ℝ) : EReal))
  (bk : ∀ a h r l, max (smooth (K a h) r l) (-(smooth (K a h) r l)) ≤ (((2 : ℝ) ^ (130 : ℤ) : ℝ) : EReal))
  (bv : ∀ a h r l, max (V a h r l) (-(V a h r l)) ≤ (((2 : ℝ) ^ (130 : ℤ) : ℝ) : EReal))

include hq hk hv bq bk bv in
/-- The reference's result. -/
theorem result_all :
    resultR (expsR (scoresOf (rawOf (codes5 Tq (pow5 (Host.negf (exp5 (top5 Tq))))) (codes5 Tk (pow5 (Host.negf (exp5 (top5 Tk))))))
        (pow5 (exp5 (top5 Tq))) (pow5 (exp5 (top5 Tk)))))
      (codes4 Tv (pow4 (Host.negf (exp4 (top4 Tv))))) (pow4 (exp4 (top4 Tv)))
      = spread fun b h => attention (P b h) (K b h) (V b h) := by
  funext j
  obtain ⟨a, q, h, l, rfl⟩ := at_head j
  have hq' := q.isLt
  refine Eq.trans ?_ (spread_apply (fun b h => attention (P b h) (K b h) (V b h)) _ a h q l rfl rfl rfl).symm
  have hS : ∀ k : Fin 4096, scoresOf (rawOf (codes5 Tq (pow5 (Host.negf (exp5 (top5 Tq))))) (codes5 Tk (pow5 (Host.negf (exp5 (top5 Tk))))))
        (pow5 (exp5 (top5 Tq))) (pow5 (exp5 (top5 Tk))) (ix4 a h q k)
      = if k.val ≤ q.val then Attention.score (stripCode (P a h)) (stripCode (smooth (K a h))) (stripScale (P a h)) (stripScale (smooth (K a h))) q k else ⊥ := by
    intro k
    rw [scoresOf_eq, rawOf_eq, scale5_at Tq P hq bq, scale5_at Tk (fun b h => smooth (K b h)) hk bk]
    simp only [code5_at Tq P hq bq, code5_at Tk (fun b h => smooth (K b h)) hk bk]
    rfl
  generalize scoresOf (rawOf (codes5 Tq (pow5 (Host.negf (exp5 (top5 Tq))))) (codes5 Tk (pow5 (Host.negf (exp5 (top5 Tk))))))
        (pow5 (exp5 (top5 Tq))) (pow5 (exp5 (top5 Tk))) = S at hS ⊢
  have hE : ∀ k, expsR S (ix4 a h q k) = Ideal.exp (S (ix4 a h q k) - Finset.univ.sup fun k : Fin 4096 => S (ix4 a h q k)) := by
    intro k
    unfold expsR
    rw [expsOf_eq, maxOf_eq]
  generalize expsR S = E at hE ⊢
  have key := Attention.answers_eq (stripCode (P a h)) (stripCode (smooth (K a h))) (stripScale (P a h)) (stripScale (smooth (K a h)))
    (Attention.stripCode_real _) (Attention.stripCode_real _) (Attention.stripScale_real _ (bq a h)) (Attention.stripScale_real _ (bk a h))
    (blockCode (V a h)) (blockScale (V a h)) (fun k => S (ix4 a h q k)) (fun k => E (ix4 a h q k)) (sumsOf E (ix4 a h q 0)) q l hS hE (sumsOf_eq E a h q)
  refine Eq.trans ?_ key.symm
  unfold resultR
  rw [resultOf_eq, mixOf_eq, scale4_at Tv V hv bv]
  have hX : expR E (ix4 a h q 0) = expo (Ideal.div (Ideal.ofBits FTy.f32 1065353216#32) (sumsOf E (ix4 a h q 0)) * c448) := by
    unfold expR
    rw [expOf_eq, invsOf_eq]
  simp only [probsOf_eq, code4_at Tv V hv bv, hX]
  rfl

end Cert.Proof.ReferenceIdeal

end
-- ==== Proof.OutArray.lean ====
/- The result array after the call: every element is the attention of its head's parts of the arguments. -/
module

public import proofs.«01_k».proof.Proof.Arrays
public import proofs.«01_k».proof.Proof.OutBlock

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.Sem
open Idealize.ShloMosaic.Pipeline (RDat)
open Cert.Proof.Expo

theorem idx3 : ∀ t : Fin grid0.N, win0_3.index t = ![t.val / 16, 0, t.val % 16] := by decide +kernel

section

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .fp8e4m3) (harg6 : arg6.IsWhole)
  (arg7 : Memref sig .tc .vmem S1x16x32 .f32) (harg7 : arg7.IsWhole)
  (arg8 : Memref sig .tc .vmem S1x4096x128 .fp8e4m3) (harg8 : arg8.IsWhole)
  (arg9 : Memref sig .tc .vmem S1x16x32 .f32) (harg9 : arg9.IsWhole)
  (arg10 : Memref sig .tc .vmem S1x4096x128 .fp8e4m3) (harg10 : arg10.IsWhole)
  (arg11 : Memref sig .tc .vmem S8x16 .f32) (harg11 : arg11.IsWhole)
  (arg12 : Memref sig .tc .vmem S128x4096 .fp8e4m3) (harg12 : arg12.IsWhole)
  (arg13 : Memref sig .tc .vmem S32x128 .f32) (harg13 : arg13.IsWhole)
  (arg14 : Memref sig .tc .vmem S32x128 .f32) (harg14 : arg14.IsWhole)
  (arg15 : Memref sig .tc .vmem S4096x256 .f32) (harg15 : arg15.IsWhole)
  (arg16 : Memref sig .tc .vmem S16x256 .f32) (harg16 : arg16.IsWhole)

/-- The block of the result. -/
theorem left5 (x k v : S1x4096x128.Idx → EReal) (Y X : S1x4096x128.Idx → EReal) (H : Left5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x k v Y X) (fin : Finite (tab x) (tab k)) (r : Fin 4096) (l : Fin 128) :
    X (ix3 0 r l) = attention (tab x) (tab k) (tab v) r l := by
  obtain ⟨X2, X3, X4, f5, f6, f7, f8, f9, f10, f11, f12, f13, f14, f15, f16, rfl, rfl, rfl, rfl, rfl⟩ := H
  by_cases hc : first i
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_pos hc
    rw [ep]
    exact out_first c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 r l fin
  · have ep : point c i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 = pointRest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 := dif_neg hc
    rw [ep]
    exact out_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 hc X2 X3 X4 f5 f6 f7 f8 f9 f10 f11 f12 f13 f14 f15 f16 r l fin

end

variable {m : (ℓ : Loc nD τ sig) → Buf (Elt Ideal) ℓ}

/-- The result after the call. -/
theorem final_out {r : PUnit × MemSt nD τ sig (Elt Ideal)} (h : RDat.FramePost (cfgs 0) (fun c => rdat m c) (Gen.V m) r) (c : Dev nD)
    (fin : ∀ b h, Finite (part (m ((c : Thread nD τ).loc main_arg0)) b h) (part (m ((c : Thread nD τ).loc main_arg1)) b h)) :
    r.2.mem ((c : Thread nD τ).loc main_v0_0) = spread fun b h => attention (part (m ((c : Thread nD τ).loc main_arg0)) b h) (part (m ((c : Thread nD τ).loc main_arg1)) b h) (part (m ((c : Thread nD τ).loc main_arg2)) b h) := by
  obtain ⟨after, hL, hA⟩ := h.exists_exact c
  refine (hA 3).trans ?_
  refine ((rdat m c).withAfter after).arrAt_eq_of_covers 3 _ (by decide +kernel) fun t hf y => ?_
  obtain ⟨Y, -, hY⟩ := hL 3 t hf
  have h6 := left5 c _ _ _ _ _ _ _ _ _ _ _ _ _ _ _ _ _ _ _ _ _ _ _ _ _ _ _ _ _ _ _ _ _ _ _ _ hY (by rw [tab0 m c t, tab1 m c t]; exact fin _ _) (y 1) (y 2)
  blk_simp
  have hy : y = ix3 (n0 := 1) (n1 := 4096) (n2 := 128) 0 (y 1) (y 2) := by
    funext a
    match a with
    | ⟨0, _⟩ => exact Fin.ext (Nat.lt_one_iff.mp (y 0).isLt)
    | ⟨1, _⟩ => rfl
    | ⟨2, _⟩ => rfl
  refine (congrArg (after 3 t) hy).trans (h6.trans ?_)
  rw [tab0 m c t, tab1 m c t, tab2 m c t]
  refine (spread_apply (fun b h => attention (part (m ((c : Thread nD τ).loc main_arg0)) b h) (part (m ((c : Thread nD τ).loc main_arg1)) b h) (part (m ((c : Thread nD τ).loc main_arg2)) b h)) _ (bAt t) (hAt t) (y 1) (y 2) ?_ ?_ ?_).symm <;> blk_simp [idx3 t, bAt, hAt]

end Cert.Proof.KernelIdeal

end
-- ==== Proof.Algebraic.lean ====
/- The value claim: over the extended reals, on bounded arguments, the kernel's results are the reference's: the
   attention, and the codes and scales of q, k and v. -/
module

public import proofs.«01_k».proof.Defs
public import proofs.«01_k».proof.Proof.RefResult
public import proofs.«01_k».proof.Proof.OutArray
public import proofs.«01_k».proof.Proof.Bounded

@[expose] public section

set_option maxRecDepth 16384

noncomputable section

namespace Cert.Proof

open Idealize.ShloMosaic Idealize.ShloMosaic.TcCoe Idealize.SL.Sem
open Cert.Proof.KernelIdeal (part spread rowsOf tableOf stripCode stripScale blockCode blockScale smooth attention)

/-- A bound of the precondition is below the bound that the scales need. -/
theorem le_of_le {x : EReal} (h : x ≤ (((2 : ℝ) ^ (128 : ℤ) : ℝ) : EReal)) : x ≤ (((2 : ℝ) ^ (130 : ℤ) : ℝ) : EReal) :=
  h.trans (by exact_mod_cast (by norm_num : (2 : ℝ) ^ (128 : ℤ) ≤ (2 : ℝ) ^ (130 : ℤ)))

/-- The reference from a bounded memory: its results in the kernel's words. -/
theorem reference_values (m' : (ℓ : Loc Cert.ReferenceIdeal.nD Cert.ReferenceIdeal.τ Cert.ReferenceIdeal.sig) → Buf (Elt Ideal) ℓ)
    (g' : Dev Cert.ReferenceIdeal.nD → PrngReg) (Q K V : Dev Cert.ReferenceIdeal.nD → Cert.ReferenceIdeal.S8x4096x2048.Idx → EReal)
    (hq : ∀ c : Dev Cert.ReferenceIdeal.nD, m' ((c.tc : Thread Cert.ReferenceIdeal.nD Cert.ReferenceIdeal.τ).loc Cert.ReferenceIdeal.main_arg0) = Q c)
    (hk : ∀ c : Dev Cert.ReferenceIdeal.nD, m' ((c.tc : Thread Cert.ReferenceIdeal.nD Cert.ReferenceIdeal.τ).loc Cert.ReferenceIdeal.main_arg1) = K c)
    (hv : ∀ c : Dev Cert.ReferenceIdeal.nD, m' ((c.tc : Thread Cert.ReferenceIdeal.nD Cert.ReferenceIdeal.τ).loc Cert.ReferenceIdeal.main_arg2) = V c)
    (bq : ∀ c i, max (Q c i) (-(Q c i)) ≤ (((2 : ℝ) ^ (128 : ℤ) : ℝ) : EReal))
    (bk : ∀ c i, max (K c i) (-(K c i)) ≤ (((2 : ℝ) ^ (128 : ℤ) : ℝ) : EReal))
    (bv : ∀ c i, max (V c i) (-(V c i)) ≤ (((2 : ℝ) ^ (128 : ℤ) : ℝ) : EReal)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v146) = (spread fun b h => attention (part (Q c) b h) (part (K c) b h) (part (V c) b h))
      ∧ r.2.mem ((c.tc : Thread Cert.ReferenceIdeal.nD Cert.ReferenceIdeal.τ).loc Cert.ReferenceIdeal.main_v148) = (spread fun b h => stripCode (part (Q c) b h))
      ∧ r.2.mem ((c.tc : Thread Cert.ReferenceIdeal.nD Cert.ReferenceIdeal.τ).loc Cert.ReferenceIdeal.main_v150) = (rowsOf fun b h s => stripScale (part (Q c) b h) s)
      ∧ r.2.mem ((c.tc : Thread Cert.ReferenceIdeal.nD Cert.ReferenceIdeal.τ).loc Cert.ReferenceIdeal.main_v152) = (spread fun b h => stripCode (smooth (part (K c) b h)))
      ∧ r.2.mem ((c.tc : Thread Cert.ReferenceIdeal.nD Cert.ReferenceIdeal.τ).loc Cert.ReferenceIdeal.main_v154) = (rowsOf fun b h s => stripScale (smooth (part (K c) b h)) s)
      ∧ r.2.mem ((c.tc : Thread Cert.ReferenceIdeal.nD Cert.ReferenceIdeal.τ).loc Cert.ReferenceIdeal.main_v156) = (spread fun b h => blockCode (part (V c) b h))
      ∧ r.2.mem ((c.tc : Thread Cert.ReferenceIdeal.nD Cert.ReferenceIdeal.τ).loc Cert.ReferenceIdeal.main_v157) = (tableOf fun b h => blockScale (part (V c) b h))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  obtain rfl : Q = fun c : Dev Cert.ReferenceIdeal.nD => m' ((c.tc : Thread Cert.ReferenceIdeal.nD Cert.ReferenceIdeal.τ).loc Cert.ReferenceIdeal.main_arg0) := funext fun c => (hq c).symm
  obtain rfl : K = fun c : Dev Cert.ReferenceIdeal.nD => m' ((c.tc : Thread Cert.ReferenceIdeal.nD Cert.ReferenceIdeal.τ).loc Cert.ReferenceIdeal.main_arg1) := funext fun c => (hk c).symm
  obtain rfl : V = fun c : Dev Cert.ReferenceIdeal.nD => m' ((c.tc : Thread Cert.ReferenceIdeal.nD Cert.ReferenceIdeal.τ).loc Cert.ReferenceIdeal.main_arg2) := funext fun c => (hv c).symm
  refine (θ_run Cert.ReferenceIdeal.defs _ _).mono (fun r h c => ?_) (Cert.ReferenceIdeal.Value.run (F := Ideal) m' g')
  obtain ⟨ho, h0, h1, h2, h3, h4, h5, h6⟩ := h c
  refine ⟨ho.trans ?_, h0.trans ?_, h1.trans ?_, h2.trans ?_, h3.trans ?_, h4.trans ?_, h5.trans ?_, h6⟩
  · exact ReferenceIdeal.result_all (ReferenceIdeal.tiles (m' (c.tc.loc Cert.ReferenceIdeal.main_arg0))) _ (ReferenceIdeal.heads (m' (c.tc.loc Cert.ReferenceIdeal.main_arg2))) (part (m' (c.tc.loc Cert.ReferenceIdeal.main_arg0))) (part (m' (c.tc.loc Cert.ReferenceIdeal.main_arg1))) (part (m' (c.tc.loc Cert.ReferenceIdeal.main_arg2)))
      (ReferenceIdeal.tiles_part (m' (c.tc.loc Cert.ReferenceIdeal.main_arg0))) (ReferenceIdeal.smooth_part (m' (c.tc.loc Cert.ReferenceIdeal.main_arg1)) fun a h l => Bounded.mean_eq _) (ReferenceIdeal.heads_part (m' (c.tc.loc Cert.ReferenceIdeal.main_arg2)))
      (fun a h r l => le_of_le (bq c _)) (fun a h r l => Bounded.smooth_le (part (m' (c.tc.loc Cert.ReferenceIdeal.main_arg1)) a h) (fun r l => bk c _) r l) (fun a h r l => le_of_le (bv c _))
  · exact ReferenceIdeal.codes5_all (ReferenceIdeal.tiles (m' (c.tc.loc Cert.ReferenceIdeal.main_arg0))) (part (m' (c.tc.loc Cert.ReferenceIdeal.main_arg0))) (ReferenceIdeal.tiles_part (m' (c.tc.loc Cert.ReferenceIdeal.main_arg0))) fun a h r l => le_of_le (bq c _)
  · exact ReferenceIdeal.scales5_all (ReferenceIdeal.tiles (m' (c.tc.loc Cert.ReferenceIdeal.main_arg0))) (part (m' (c.tc.loc Cert.ReferenceIdeal.main_arg0))) (ReferenceIdeal.tiles_part (m' (c.tc.loc Cert.ReferenceIdeal.main_arg0))) fun a h r l => le_of_le (bq c _)
  · exact ReferenceIdeal.codes5_all _ (fun b h => smooth (part (m' (c.tc.loc Cert.ReferenceIdeal.main_arg1)) b h)) (ReferenceIdeal.smooth_part (m' (c.tc.loc Cert.ReferenceIdeal.main_arg1)) fun a h l => Bounded.mean_eq _)
      fun a h r l => Bounded.smooth_le (part (m' (c.tc.loc Cert.ReferenceIdeal.main_arg1)) a h) (fun r l => bk c _) r l
  · exact ReferenceIdeal.scales5_all _ (fun b h => smooth (part (m' (c.tc.loc Cert.ReferenceIdeal.main_arg1)) b h)) (ReferenceIdeal.smooth_part (m' (c.tc.loc Cert.ReferenceIdeal.main_arg1)) fun a h l => Bounded.mean_eq _)
      fun a h r l => Bounded.smooth_le (part (m' (c.tc.loc Cert.ReferenceIdeal.main_arg1)) a h) (fun r l => bk c _) r l
  · exact ReferenceIdeal.codes4_all (ReferenceIdeal.heads (m' (c.tc.loc Cert.ReferenceIdeal.main_arg2))) (part (m' (c.tc.loc Cert.ReferenceIdeal.main_arg2))) (ReferenceIdeal.heads_part (m' (c.tc.loc Cert.ReferenceIdeal.main_arg2))) fun a h r l => le_of_le (bv c _)
  · exact ReferenceIdeal.scales4_all (ReferenceIdeal.heads (m' (c.tc.loc Cert.ReferenceIdeal.main_arg2))) (part (m' (c.tc.loc Cert.ReferenceIdeal.main_arg2))) (ReferenceIdeal.heads_part (m' (c.tc.loc Cert.ReferenceIdeal.main_arg2))) fun a h r l => le_of_le (bv c _)

/-- Kernel and reference, on bounded arguments. -/
theorem algebraic : Cert.algebraic_KernelIdeal_ReferenceIdeal_pre_bounded (hKernelIdeal := Cert.KernelIdeal.Gen.facts)
    (hReferenceIdeal := Cert.ReferenceIdeal.Gen.facts) (hPre_bounded := Bounded.facts) := by
  intro m g m' g' hpre hagree
  have hb := fun c => Bounded.args_le _ _ _ (hpre c)
  refine ⟨fun c => spread fun b h => attention (part (m (c.tc.loc Cert.KernelIdeal.main_arg0)) b h)
      (part (m (c.tc.loc Cert.KernelIdeal.main_arg1)) b h) (part (m (c.tc.loc Cert.KernelIdeal.main_arg2)) b h),
    fun c => spread fun b h => stripCode (part (m (c.tc.loc Cert.KernelIdeal.main_arg0)) b h),
    fun c => rowsOf fun b h s => stripScale (part (m (c.tc.loc Cert.KernelIdeal.main_arg0)) b h) s,
    fun c => spread fun b h => stripCode (smooth (part (m (c.tc.loc Cert.KernelIdeal.main_arg1)) b h)),
    fun c => rowsOf fun b h s => stripScale (smooth (part (m (c.tc.loc Cert.KernelIdeal.main_arg1)) b h)) s,
    fun c => spread fun b h => blockCode (part (m (c.tc.loc Cert.KernelIdeal.main_arg2)) b h),
    fun c => tableOf fun b h => blockScale (part (m (c.tc.loc Cert.KernelIdeal.main_arg2)) b h), ?_, ?_⟩
  · refine (θ_run Cert.KernelIdeal.defs _ _).mono (fun r h c => ?_) (KernelIdeal.run_main m g)
    exact ⟨KernelIdeal.final_out h.1 c fun b h' => Attention.finite _ _ (fun r l => le_of_le ((hb c).1 _))
        fun r l => Bounded.smooth_le _ (fun r l => (hb c).2.1 _) r l,
      KernelIdeal.final_qc h.1 c, KernelIdeal.final_qs h.1 c, KernelIdeal.final_kc h.1 c, KernelIdeal.final_ks h.1 c,
      KernelIdeal.final_vc h.1 c, KernelIdeal.final_vs h.1 c,
      KernelIdeal.final_arg0 h.1 c, KernelIdeal.final_arg1 h.1 c, KernelIdeal.final_arg2 h.1 c⟩
  · exact reference_values m' g' (fun c => m (c.tc.loc Cert.KernelIdeal.main_arg0)) (fun c => m (c.tc.loc Cert.KernelIdeal.main_arg1))
      (fun c => m (c.tc.loc Cert.KernelIdeal.main_arg2)) (fun c => (hagree c).1) (fun c => (hagree c).2.1) (fun c => (hagree c).2.2)
      (fun c => (hb c).1) (fun c => (hb c).2.1) (fun c => (hb c).2.2)

end Cert.Proof

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Bounded.facts,
    frame_kernel, frame_kernelIdeal, frame_kernelIdeal_bounded, frame_referenceIdeal, frame_referenceIdeal_bounded,
    preserves, algebraic⟩

end Cert.Proof

end
